-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_on_separated [hKernelIdeal : Cert.KernelIdeal.Facts] [hReferenceIdeal : Cert.ReferenceIdeal.Facts] [hOn_separated : Cert.On_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 1024]⟩ ⟨2, ![1024, 1024]⟩ (Layout.meshBlock [2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4]⟩ ⟨2, ![1024, 8]⟩ (Layout.meshBlock [2, 2] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![4, 1024, 2048]⟩ ⟨3, ![8, 1024, 2048]⟩ (Layout.meshBlock [2, 2] ![[1], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![4, 2048, 1024]⟩ ⟨3, ![8, 2048, 1024]⟩ (Layout.meshBlock [2, 2] ![[1], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![512, 1024]⟩ : Shape).Idx, (Layout.blockN ⟨2, ![512, 1024]⟩ ⟨2, ![1024, 1024]⟩ (Layout.meshBlock [2, 2] ![[1], []] c) ((Cert.On_separated.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![512, 1024]⟩ : Shape).Idx → _) i = 1#1 → r.2.mem ((c.tc : Thread Cert.KernelIdeal.nD Cert.KernelIdeal.τ).loc Cert.KernelIdeal.main_v1) i = (Layout.blockN ⟨2, ![512, 1024]⟩ ⟨2, ![1024, 1024]⟩ (Layout.meshBlock [2, 2] ![[1], []] c) v0 : (⟨2, ![512, 1024]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![1024, 1024]⟩ : Shape).Idx, (Cert.On_separated.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v49) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hOn_separated : Cert.On_separated.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_separated (hKernelIdeal := hKernelIdeal) (hReferenceIdeal := hReferenceIdeal) (hOn_separated := hOn_separated)
-- ==== On_separated.lean ====
abbrev S1024x1024 : Shape := ⟨2, ![1024, 1024]⟩
abbrev S1024x8 : Shape := ⟨2, ![1024, 8]⟩
abbrev S8x1024x2048 : Shape := ⟨3, ![8, 1024, 2048]⟩
abbrev S8x2048x1024 : Shape := ⟨3, ![8, 2048, 1024]⟩
abbrev S1024x3 : Shape := ⟨2, ![1024, 3]⟩
abbrev S1024x1 : Shape := ⟨2, ![1024, 1]⟩
abbrev S1024 : Shape := ⟨1, ![1024]⟩
abbrev S_ : Shape := ⟨0, ![]⟩

class Facts : Prop where
  sliceFits_S1024x8_S1024x3 : S1024x8.Slices (fun _ => 0) S1024x3
  slices_S1024x3_S1024x1_0_0 : S1024x3.Slices ![0, 0] S1024x1
  shapeCasts_S1024x1_S1024 : S1024x1.ShapeCasts S1024
  slices_S1024x3_S1024x1_0_1 : S1024x3.Slices ![0, 1] S1024x1
  slices_S1024x3_S1024x1_0_2 : S1024x3.Slices ![0, 2] S1024x1
  bcast_S_S1024x1024 : S_.BroadcastsInDim S1024x1024 (![] : Fin 0 → Fin S1024x1024.rank)
  reducesTo_S1024x1024_S1024_d1 : S1024x1024.ReducesTo [1] S1024
  h_S_ : 0 < S_.numel
  bcast_S_S1024x8 : S_.BroadcastsInDim S1024x8 (![] : Fin 0 → Fin S1024x8.rank)
  reducesTo_S1024x8_S_d0_1 : S1024x8.ReducesTo [0, 1] S_
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  dot_S1024x1024_S1024x8_S1024x8_1_0_0_1_n_n_wf : DotDims.WF S1024x1024 S1024x8 S1024x8 [1] [0] [0] [1] [] []

variable [Facts]

def dot_S1024x1024_S1024x8_S1024x8_1_0_0_1_n_n : DotDims S1024x1024 S1024x8 S1024x8 where
  lhsContracting := [1]
  rhsContracting := [0]
  lhsNonContracting := [0]
  rhsNonContracting := [1]
  lhsBatch := []
  rhsBatch := []
  wf := dot_S1024x1024_S1024x8_S1024x8_1_0_0_1_n_n_wf
def fn_part1 {F : FTy → Type} [FloatOps F] (main_v11 : IVec S1024 1) (main_v15 : IVec S1024 1) (main_v18 : IVec S1024x8 1) : IVec S1024x1024 1 :=
  let main_c_1 : IVec S_ 1 := constantI S_ 1 1#1
  let main_v19 : IVec S_ 1 := (fun x v => Host.reduce IntOp.andi x v reducesTo_S1024x8_S_d0_1 h_S_) main_v18 main_c_1
  let main_v20 : IVec S1024 1 := broadcastInDim S1024 ![] bcast_S_S1024 main_v19
  let main_v21 : IVec S1024 1 := andi main_v15 main_v20
  let main_v22 : IVec S1024 1 := andi main_v11 main_v21
  let main_v23 : IVec S1024x1 1 := broadcastInDim S1024x1 ![0] bcast_S1024_S1024x1_0 main_v22
  let main_v24 : IVec S1024x1024 1 := broadcastInDim S1024x1024 ![0, 1] bcast_S1024x1_S1024x1024_0_1 main_v23
  main_v24

def fn {F : FTy → Type} [FloatOps F] (main_arg0 : FVec F S1024x1024 .f32) (main_arg1 : FVec F S1024x8 .f32) (main_arg2 : FVec F S8x1024x2048 .f32) (main_arg3 : FVec F S8x2048x1024 .f32) : IVec S1024x1024 1 :=
  let main_v0 : FVec F S1024x8 .f32 := (fun l r => Host.dotGeneral dot_S1024x1024_S1024x8_S1024x8_1_0_0_1_n_n none l r) main_arg0 main_arg1
  let main_values : FVec F S1024x3 .f32 := (fun x => (Host.topK S1024x3 1 (FloatOps.cmpfTotal .gt) x sliceFits_S1024x8_S1024x3).1) main_v0
  let main_indices : IVec S1024x3 32 := (fun x => (Host.topK S1024x3 1 (FloatOps.cmpfTotal .gt) x sliceFits_S1024x8_S1024x3).2) main_v0
  let main_v1 : FVec F S1024x1 .f32 := (extractStridedSlice S1024x1 ![0, 0] · slices_S1024x3_S1024x1_0_0) main_values
  let main_v2 : FVec F S1024 .f32 := shapeCast S1024 main_v1 shapeCasts_S1024x1_S1024
  let main_v3 : FVec F S1024x1 .f32 := (extractStridedSlice S1024x1 ![0, 1] · slices_S1024x3_S1024x1_0_1) main_values
  let main_v4 : FVec F S1024 .f32 := shapeCast S1024 main_v3 shapeCasts_S1024x1_S1024
  let main_v5 : IVec S1024 1 := cmpf .ogt main_v2 main_v4
  let main_v6 : FVec F S1024x1 .f32 := (extractStridedSlice S1024x1 ![0, 1] · slices_S1024x3_S1024x1_0_1) main_values
  let main_v7 : FVec F S1024 .f32 := shapeCast S1024 main_v6 shapeCasts_S1024x1_S1024
  let main_v8 : FVec F S1024x1 .f32 := (extractStridedSlice S1024x1 ![0, 2] · slices_S1024x3_S1024x1_0_2) main_values
  let main_v9 : FVec F S1024 .f32 := shapeCast S1024 main_v8 shapeCasts_S1024x1_S1024
  let main_v10 : IVec S1024 1 := cmpf .ogt main_v7 main_v9
  let main_v11 : IVec S1024 1 := andi main_v5 main_v10
  let main_v12 : FVec F S1024x1024 .f32 := Host.absf main_arg0
  let main_cst : FVec F S_ .f32 := constant S_ .f32 0x7F800000#32
  let main_v13 : FVec F S1024x1024 .f32 := broadcastInDim S1024x1024 ![] bcast_S_S1024x1024 main_cst
  let main_v14 : IVec S1024x1024 1 := cmpf .olt main_v12 main_v13
  let main_c : IVec S_ 1 := constantI S_ 1 1#1
  let main_v15 : IVec S1024 1 := (fun x v => Host.reduce IntOp.andi x v reducesTo_S1024x1024_S1024_d1 h_S_) main_v14 main_c
  let main_v16 : FVec F S1024x8 .f32 := Host.absf main_arg1
  let main_cst_0 : FVec F S_ .f32 := constant S_ .f32 0x7F800000#32
  let main_v17 : FVec F S1024x8 .f32 := broadcastInDim S1024x8 ![] bcast_S_S1024x8 main_cst_0
  let main_v18 : IVec S1024x8 1 := cmpf .olt main_v16 main_v17
  fn_part1 (F := F) main_v11 main_v15 main_v18
-- ==== Kernel.lean ====
abbrev S512x1024 : Shape := ⟨2, ![512, 1024]⟩
abbrev S1024x4 : Shape := ⟨2, ![1024, 4]⟩
abbrev S4x1024x2048 : Shape := ⟨3, ![4, 1024, 2048]⟩
abbrev S4x2048x1024 : Shape := ⟨3, ![4, 2048, 1024]⟩
abbrev S512x4 : Shape := ⟨2, ![512, 4]⟩
abbrev S512x2 : Shape := ⟨2, ![512, 2]⟩
abbrev S2x1024x2048 : Shape := ⟨3, ![2, 1024, 2048]⟩
abbrev S2x2048x1024 : Shape := ⟨3, ![2, 2048, 1024]⟩
abbrev S12 : Shape := ⟨1, ![12]⟩
abbrev S2x2 : Shape := ⟨2, ![2, 2]⟩
abbrev S_ : Shape := ⟨0, ![]⟩
abbrev S1 : Shape := ⟨1, ![1]⟩
abbrev S256x1024 : Shape := ⟨2, ![256, 1024]⟩
abbrev S1x1 : Shape := ⟨2, ![1, 1]⟩
abbrev S1x1024x2048 : Shape := ⟨3, ![1, 1024, 2048]⟩
abbrev S1024x2048 : Shape := ⟨2, ![1024, 2048]⟩
abbrev S1x2048x1024 : Shape := ⟨3, ![1, 2048, 1024]⟩
abbrev S2048x1024 : Shape := ⟨2, ![2048, 1024]⟩
abbrev S1024x8 : Shape := ⟨2, ![1024, 8]⟩
abbrev S512x8 : Shape := ⟨2, ![512, 8]⟩
abbrev S512 : Shape := ⟨1, ![512]⟩
abbrev S512x1 : Shape := ⟨2, ![512, 1]⟩
abbrev S128x1024 : Shape := ⟨2, ![128, 1024]⟩
abbrev S128x4 : Shape := ⟨2, ![128, 4]⟩
abbrev S128x2 : Shape := ⟨2, ![128, 2]⟩
abbrev S128x2048 : Shape := ⟨2, ![128, 2048]⟩
abbrev S128x1 : Shape := ⟨2, ![128, 1]⟩

abbrev nBuf : Space → Nat
  | .hbm => 5
  | .vmem => 15
  | .smem => 0
  | _ => 0

abbrev bufTy : (tb : Table) → Fin (tcTables nBuf tb) → BufTy
  | .hbm, ⟨0, _⟩ => ⟨S512x1024, .f32⟩
  | .hbm, ⟨1, _⟩ => ⟨S1024x4, .f32⟩
  | .hbm, ⟨2, _⟩ => ⟨S4x1024x2048, .f32⟩
  | .hbm, ⟨3, _⟩ => ⟨S4x2048x1024, .f32⟩
  | .hbm, ⟨4, _⟩ => ⟨S512x1024, .f32⟩
  | .local _ .vmem, ⟨0, _⟩ => ⟨S512x1024, .f32⟩
  | .local _ .vmem, ⟨1, _⟩ => ⟨S1024x4, .f32⟩
  | .local _ .vmem, ⟨2, _⟩ => ⟨S512x1024, .f32⟩
  | .local _ .vmem, ⟨3, _⟩ => ⟨S512x1024, .bf16⟩
  | .local _ .vmem, ⟨4, _⟩ => ⟨S512x1024, .bf16⟩
  | .local _ .vmem, ⟨5, _⟩ => ⟨S1024x4, .f32⟩
  | .local _ .vmem, ⟨6, _⟩ => ⟨S512x4, .f32⟩
  | .local _ .vmem, ⟨7, _⟩ => ⟨S512x4, .f32⟩
  | .local _ .vmem, ⟨8, _⟩ => ⟨S512x2, .f32⟩
  | .local _ .vmem, ⟨9, _⟩ => ⟨S2x1024x2048, .f32⟩
  | .local _ .vmem, ⟨10, _⟩ => ⟨S2x2048x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  (ofTc nBuf bufTy 1 31 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v14 : BitVec 32 := Scalar.muli v2 c2_i32_8
  let v15 : BitVec 32 := Scalar.addi c0_i32 v14
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_9 : BitVec 32 := 1#32
  let v16 : BitVec 32 := Scalar.muli v6 c1_i32_9
  let v17 : BitVec 32 := Scalar.addi v15 v16
  v17.toNat
def k0_dev2 (d0 : Dev nD) : Nat :=
  let c0_i32_12 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_11 : BitVec 32 := 2#32
  let v18 : BitVec 32 := Scalar.muli v7 c2_i32_11
  let v19 : BitVec 32 := Scalar.addi c0_i32_12 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_13 : BitVec 32 := 1#32
  let v20 : BitVec 32 := Scalar.muli v5 c1_i32_13
  let v21 : BitVec 32 := Scalar.addi v19 v20
  v21.toNat
def k0_off1 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v8 : BitVec 32 := Scalar.muli v2 c256_i32
  let c0_i32_23 : BitVec 32 := 0#32
  ![v8.toNat, 0]
def k0_dev3 (d0 : Dev nD) : Nat :=
  let c0_i32_21 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_20 : BitVec 32 := 2#32
  let v28 : BitVec 32 := Scalar.muli v2 c2_i32_20
  let v29 : BitVec 32 := Scalar.addi c0_i32_21 v28
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_22 : BitVec 32 := 1#32
  let v30 : BitVec 32 := Scalar.muli v6 c1_i32_22
  let v31 : BitVec 32 := Scalar.addi v29 v30
  v31.toNat
def k0_dev4 (d0 : Dev nD) : Nat :=
  let c0_i32_28 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_27 : BitVec 32 := 2#32
  let v38 : BitVec 32 := Scalar.muli v2 c2_i32_27
  let v39 : BitVec 32 := Scalar.addi c0_i32_28 v38
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_29 : BitVec 32 := 1#32
  let v40 : BitVec 32 := Scalar.muli v6 c1_i32_29
  let v41 : BitVec 32 := Scalar.addi v39 v40
  v41.toNat
def k0_dev5 (d0 : Dev nD) : Nat :=
  let c0_i32_66 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_65 : BitVec 32 := 2#32
  let v110 : BitVec 32 := Scalar.muli v2 c2_i32_65
  let v111 : BitVec 32 := Scalar.addi c0_i32_66 v110
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_67 : BitVec 32 := 1#32
  let v112 : BitVec 32 := Scalar.muli v6 c1_i32_67
  let v113 : BitVec 32 := Scalar.addi v111 v112
  v113.toNat
def k0_dev6 (d0 : Dev nD) : Nat :=
  let c0_i32_136 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_135 : BitVec 32 := 2#32
  let v181 : BitVec 32 := Scalar.muli v7 c2_i32_135
  let v182 : BitVec 32 := Scalar.addi c0_i32_136 v181
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_137 : BitVec 32 := 1#32
  let v183 : BitVec 32 := Scalar.muli v5 c1_i32_137
  let v184 : BitVec 32 := Scalar.addi v182 v183
  v184.toNat
def k0_off2 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v8 : BitVec 32 := Scalar.muli v2 c256_i32
  let v191 : Index := Scalar.indexCast v8
  let c0_140 : Index := 0#32
  ![v191.toNat, 0]
def k0_off3 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v8 : BitVec 32 := Scalar.muli v2 c256_i32
  let v193 : Index := Scalar.indexCast v8
  let c0_141 : Index := 0#32
  ![v193.toNat, 0]
def k0_off4 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v8 : BitVec 32 := Scalar.muli v2 c256_i32
  let c0_i32_154 : BitVec 32 := 0#32
  ![v8.toNat, 0]
def k0_dev7 (d0 : Dev nD) : Nat :=
  let c0_i32_152 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_151 : BitVec 32 := 2#32
  let v221 : BitVec 32 := Scalar.muli v2 c2_i32_151
  let v222 : BitVec 32 := Scalar.addi c0_i32_152 v221
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_153 : BitVec 32 := 1#32
  let v223 : BitVec 32 := Scalar.muli v6 c1_i32_153
  let v224 : BitVec 32 := Scalar.addi v222 v223
  v224.toNat
def k0_off5 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v8 : BitVec 32 := Scalar.muli v2 c256_i32
  let c128_i32 : BitVec 32 := 128#32
  let v11 : BitVec 32 := Scalar.addi v8 c128_i32
  let v231 : Index := Scalar.indexCast v11
  let c0_156 : Index := 0#32
  ![v231.toNat, 0]
def k0_off6 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v8 : BitVec 32 := Scalar.muli v2 c256_i32
  let c128_i32 : BitVec 32 := 128#32
  let v11 : BitVec 32 := Scalar.addi v8 c128_i32
  let v233 : Index := Scalar.indexCast v11
  let c0_157 : Index := 0#32
  ![v233.toNat, 0]
def k0_off7 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v8 : BitVec 32 := Scalar.muli v2 c256_i32
  let c128_i32 : BitVec 32 := 128#32
  let v11 : BitVec 32 := Scalar.addi v8 c128_i32
  let c0_i32_170 : BitVec 32 := 0#32
  ![v11.toNat, 0]
def k0_dev8 (d0 : Dev nD) : Nat :=
  let c0_i32_168 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_167 : BitVec 32 := 2#32
  let v261 : BitVec 32 := Scalar.muli v2 c2_i32_167
  let v262 : BitVec 32 := Scalar.addi c0_i32_168 v261
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_169 : BitVec 32 := 1#32
  let v263 : BitVec 32 := Scalar.muli v6 c1_i32_169
  let v264 : BitVec 32 := Scalar.addi v262 v263
  v264.toNat
def k0_off8 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v8 : BitVec 32 := Scalar.muli v2 c256_i32
  let v273 : Index := Scalar.indexCast v8
  let c0_173 : Index := 0#32
  ![v273.toNat, 0]
def k0_off9 (d0 : Dev nD) : Fin 2 → Nat :=
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c256_i32_5 : BitVec 32 := 256#32
  let v10 : BitVec 32 := Scalar.muli v9 c256_i32_5
  let v304 : Index := Scalar.indexCast v10
  let c0_192 : Index := 0#32
  ![v304.toNat, 0]
def k0_off10 (d0 : Dev nD) : Fin 2 → Nat :=
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c256_i32_5 : BitVec 32 := 256#32
  let v10 : BitVec 32 := Scalar.muli v9 c256_i32_5
  let v306 : Index := Scalar.indexCast v10
  let c0_193 : Index := 0#32
  ![v306.toNat, 0]
def k0_off11 (d0 : Dev nD) : Fin 2 → Nat :=
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c256_i32_5 : BitVec 32 := 256#32
  let v10 : BitVec 32 := Scalar.muli v9 c256_i32_5
  let c0_i32_206 : BitVec 32 := 0#32
  ![v10.toNat, 0]
def k0_dev9 (d0 : Dev nD) : Nat :=
  let c0_i32_204 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_203 : BitVec 32 := 2#32
  let v334 : BitVec 32 := Scalar.muli v2 c2_i32_203
  let v335 : BitVec 32 := Scalar.addi c0_i32_204 v334
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_205 : BitVec 32 := 1#32
  let v336 : BitVec 32 := Scalar.muli v6 c1_i32_205
  let v337 : BitVec 32 := Scalar.addi v335 v336
  v337.toNat
def k0_off12 (d0 : Dev nD) : Fin 2 → Nat :=
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c256_i32_5 : BitVec 32 := 256#32
  let v10 : BitVec 32 := Scalar.muli v9 c256_i32_5
  let c128_i32_6 : BitVec 32 := 128#32
  let v12 : BitVec 32 := Scalar.addi v10 c128_i32_6
  let v344 : Index := Scalar.indexCast v12
  let c0_208 : Index := 0#32
  ![v344.toNat, 0]
def k0_off13 (d0 : Dev nD) : Fin 2 → Nat :=
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c256_i32_5 : BitVec 32 := 256#32
  let v10 : BitVec 32 := Scalar.muli v9 c256_i32_5
  let c128_i32_6 : BitVec 32 := 128#32
  let v12 : BitVec 32 := Scalar.addi v10 c128_i32_6
  let v346 : Index := Scalar.indexCast v12
  let c0_209 : Index := 0#32
  ![v346.toNat, 0]
def k0_off14 (d0 : Dev nD) : Fin 2 → Nat :=
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c256_i32_5 : BitVec 32 := 256#32
  let v10 : BitVec 32 := Scalar.muli v9 c256_i32_5
  let c128_i32_6 : BitVec 32 := 128#32
  let v12 : BitVec 32 := Scalar.addi v10 c128_i32_6
  let c0_i32_222 : BitVec 32 := 0#32
  ![v12.toNat, 0]
def k0_dev10 (d0 : Dev nD) : Nat :=
  let c0_i32_220 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_219 : BitVec 32 := 2#32
  let v374 : BitVec 32 := Scalar.muli v2 c2_i32_219
  let v375 : BitVec 32 := Scalar.addi c0_i32_220 v374
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_221 : BitVec 32 := 1#32
  let v376 : BitVec 32 := Scalar.muli v6 c1_i32_221
  let v377 : BitVec 32 := Scalar.addi v375 v376
  v377.toNat
def k0_dev11 (d0 : Dev nD) : Nat :=
  let c0_i32_240 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_239 : BitVec 32 := 2#32
  let v405 : BitVec 32 := Scalar.muli v7 c2_i32_239
  let v406 : BitVec 32 := Scalar.addi c0_i32_240 v405
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_241 : BitVec 32 := 1#32
  let v407 : BitVec 32 := Scalar.muli v5 c1_i32_241
  let v408 : BitVec 32 := Scalar.addi v406 v407
  v408.toNat
def k0_off15 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v8 : BitVec 32 := Scalar.muli v2 c256_i32
  let c128_i32 : BitVec 32 := 128#32
  let v11 : BitVec 32 := Scalar.addi v8 c128_i32
  let v417 : Index := Scalar.indexCast v11
  let c0_245 : Index := 0#32
  ![v417.toNat, 0]
def k0_dev12 (d0 : Dev nD) : Nat :=
  let c0_i32_268 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_267 : BitVec 32 := 2#32
  let v457 : BitVec 32 := Scalar.muli v7 c2_i32_267
  let v458 : BitVec 32 := Scalar.addi c0_i32_268 v457
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_269 : BitVec 32 := 1#32
  let v459 : BitVec 32 := Scalar.muli v5 c1_i32_269
  let v460 : BitVec 32 := Scalar.addi v458 v459
  v460.toNat
def k0_off16 (d0 : Dev nD) : Fin 2 → Nat :=
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c256_i32_5 : BitVec 32 := 256#32
  let v10 : BitVec 32 := Scalar.muli v9 c256_i32_5
  let v469 : Index := Scalar.indexCast v10
  let c0_273 : Index := 0#32
  ![v469.toNat, 0]
def k0_dev13 (d0 : Dev nD) : Nat :=
  let c0_i32_296 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_295 : BitVec 32 := 2#32
  let v509 : BitVec 32 := Scalar.muli v7 c2_i32_295
  let v510 : BitVec 32 := Scalar.addi c0_i32_296 v509
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_297 : BitVec 32 := 1#32
  let v511 : BitVec 32 := Scalar.muli v5 c1_i32_297
  let v512 : BitVec 32 := Scalar.addi v510 v511
  v512.toNat
def k0_off17 (d0 : Dev nD) : Fin 2 → Nat :=
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c256_i32_5 : BitVec 32 := 256#32
  let v10 : BitVec 32 := Scalar.muli v9 c256_i32_5
  let c128_i32_6 : BitVec 32 := 128#32
  let v12 : BitVec 32 := Scalar.addi v10 c128_i32_6
  let v521 : Index := Scalar.indexCast v12
  let c0_301 : Index := 0#32
  ![v521.toNat, 0]
def k0_dev14 (d0 : Dev nD) : Nat :=
  let c0_i32_324 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_323 : BitVec 32 := 2#32
  let v561 : BitVec 32 := Scalar.muli v7 c2_i32_323
  let v562 : BitVec 32 := Scalar.addi c0_i32_324 v561
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_325 : BitVec 32 := 1#32
  let v563 : BitVec 32 := Scalar.muli v5 c1_i32_325
  let v564 : BitVec 32 := Scalar.addi v562 v563
  v564.toNat
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S1024x8 : Shape := ⟨2, ![1024, 8]⟩
abbrev S8x1024x2048 : Shape := ⟨3, ![8, 1024, 2048]⟩
abbrev S8x2048x1024 : Shape := ⟨3, ![8, 2048, 1024]⟩
abbrev S1024x2 : Shape := ⟨2, ![1024, 2]⟩
abbrev S_ : Shape := ⟨0, ![]⟩
abbrev S1024 : Shape := ⟨1, ![1024]⟩
abbrev S1024x1 : Shape := ⟨2, ![1024, 1]⟩
abbrev S8x1024x1024 : Shape := ⟨3, ![8, 1024, 1024]⟩
abbrev S1x1024 : Shape := ⟨2, ![1, 1024]⟩
abbrev S8 : Shape := ⟨1, ![8]⟩
abbrev S8x1 : Shape := ⟨2, ![8, 1]⟩
abbrev S8x1024 : Shape := ⟨2, ![8, 1024]⟩
abbrev S8x1024x1 : Shape := ⟨3, ![8, 1024, 1]⟩
abbrev S1x1024x1 : Shape := ⟨3, ![1, 1024, 1]⟩

abbrev nBuf : Space → Nat
  | .hbm => 70
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x8, .f32⟩
  | .hbm, ⟨2, _⟩ => ⟨S8x1024x2048, .f32⟩
  | .hbm, ⟨3, _⟩ => ⟨S8x2048x1024, .f32⟩
  | .hbm, ⟨4, _⟩ => ⟨S1024x8, .f32⟩
  | .hbm, ⟨5, _⟩ => ⟨S1024x2, .f32⟩
  | .hbm, ⟨6, _⟩ => ⟨S1024x2, .i32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x2, .f32⟩
  | .hbm, ⟨11, _⟩ => ⟨S1024x2, .f32⟩
  | .hbm, ⟨12, _⟩ => ⟨S1024x2, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S1024x2, .f32⟩
  | .hbm, ⟨17, _⟩ => ⟨S1024x2, .f32⟩
  | .hbm, ⟨18, _⟩ => ⟨S8x2048x1024, .f32⟩
  | .hbm, ⟨19, _⟩ => ⟨S8x1024x2048, .f32⟩
  | .hbm, ⟨20, _⟩ => ⟨S_, .f32⟩
  | .hbm, ⟨21, _⟩ => ⟨S8x1024x2048, .f32⟩
  | .hbm, ⟨22, _⟩ => ⟨S8x1024x2048, .f32⟩
  | .hbm, ⟨23, _⟩ => ⟨S8x1024x1024, .f32⟩
  | .hbm, ⟨24, _⟩ => ⟨S_, .f32⟩
  | .hbm, ⟨25, _⟩ => ⟨S1024x1024, .f32⟩
  | .hbm, ⟨26, _⟩ => ⟨S1024x1, .i32⟩
  | .hbm, ⟨27, _⟩ => ⟨S1024, .i32⟩
  | .hbm, ⟨28, _⟩ => ⟨S1x1024, .i32⟩
  | .hbm, ⟨29, _⟩ => ⟨S8, .i32⟩
  | .hbm, ⟨30, _⟩ => ⟨S8x1, .i32⟩
  | .hbm, ⟨31, _⟩ => ⟨S8x1024, .i32⟩
  | .hbm, ⟨32, _⟩ => ⟨S8x1024, .i32⟩
  | .hbm, ⟨33, _⟩ => ⟨S8x1024, .i1⟩
  | .hbm, ⟨34, _⟩ => ⟨S8x1024x1, .i1⟩
  | .hbm, ⟨35, _⟩ => ⟨S1024x1, .f32⟩
  | .hbm, ⟨36, _⟩ => ⟨S1024, .f32⟩
  | .hbm, ⟨37, _⟩ => ⟨S1x1024x1, .f32⟩
  | .hbm, ⟨38, _⟩ => ⟨S8x1024x1024, .f32⟩
  | .hbm, ⟨39, _⟩ => ⟨S8x1024x1024, .f32⟩
  | .hbm, ⟨40, _⟩ => ⟨S_, .f32⟩
  | .hbm, ⟨41, _⟩ => ⟨S_, .f32⟩
  | .hbm, ⟨42, _⟩ => ⟨S8x1024x1024, .i1⟩
  | .hbm, ⟨43, _⟩ => ⟨S8x1024x1024, .f32⟩
  | .hbm, ⟨44, _⟩ => ⟨S8x1024x1024, .f32⟩
  | .hbm, ⟨45, _⟩ => ⟨S_, .f32⟩
  | .hbm, ⟨46, _⟩ => ⟨S1024x1024, .f32⟩
  | .hbm, ⟨47, _⟩ => ⟨S1024x1024, .f32⟩
  | .hbm, ⟨48, _⟩ => ⟨S1024x1, .i32⟩
  | .hbm, ⟨49, _⟩ => ⟨S1024, .i32⟩
  | .hbm, ⟨50, _⟩ => ⟨S1x1024, .i32⟩
  | .hbm, ⟨51, _⟩ => ⟨S8, .i32⟩
  | .hbm, ⟨52, _⟩ => ⟨S8x1, .i32⟩
  | .hbm, ⟨53, _⟩ => ⟨S8x1024, .i32⟩
  | .hbm, ⟨54, _⟩ => ⟨S8x1024, .i32⟩
  | .hbm, ⟨55, _⟩ => ⟨S8x1024, .i1⟩
  | .hbm, ⟨56, _⟩ => ⟨S8x1024x1, .i1⟩
  | .hbm, ⟨57, _⟩ => ⟨S1024x1, .f32⟩
  | .hbm, ⟨58, _⟩ => ⟨S1024, .f32⟩
  | .hbm, ⟨59, _⟩ => ⟨S1x1024x1, .f32⟩
  | .hbm, ⟨60, _⟩ => ⟨S8x1024x1024, .f32⟩
  | .hbm, ⟨61, _⟩ => ⟨S8x1024x1024, .f32⟩
  | .hbm, ⟨62, _⟩ => ⟨S_, .f32⟩
  | .hbm, ⟨63, _⟩ => ⟨S_, .f32⟩
  | .hbm, ⟨64, _⟩ => ⟨S8x1024x1024, .i1⟩
  | .hbm, ⟨65, _⟩ => ⟨S8x1024x1024, .f32⟩
  | .hbm, ⟨66, _⟩ => ⟨S8x1024x1024, .f32⟩
  | .hbm, ⟨67, _⟩ => ⟨S_, .f32⟩
  | .hbm, ⟨68, _⟩ => ⟨S1024x1024, .f32⟩
  | .hbm, ⟨69, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_values : Ref sig .tc := ⟨.hbm, 5, rfl⟩
abbrev main_indices : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_5 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v47 : Ref sig .tc := ⟨.hbm, 66, rfl⟩
abbrev main_cst_6 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]
-- ==== Proof.RefRun.lean ====
module

public import proofs.«01_k».proof.Proof.Gen.ReferenceIdeal.Run
public import Idealize.ShloMosaic.Lib.Quiescent
public import Idealize.ShloMosaic.PureOps.Ideal

@[expose] public section

noncomputable section

namespace Cert.MoeReference

open Cert.ReferenceIdeal Cert.ReferenceIdeal.Gen Idealize.ShloMosaic Idealize.ShloMosaic.TcCoe Idealize.SL.Sem

/-- The reference runs to its end from every memory: its arguments are unchanged and, having no counter, it leaves
every counter at zero. -/
theorem frame_main (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r (h : ∀ c : Dev nD, _) => ⟨fun c => (h c).2, sem_eq_zero_of_no_sems (by decide) r.2⟩)
    (Cert.ReferenceIdeal.Value.run (F := Ideal) m ρ)

end Cert.MoeReference

end
-- ==== Proof.Held.lean ====
/-
Pieces of a buffer held with a stated content.

`held c M q S g` says: thread `c` holds the share `q` of the elements of `M`'s buffer that lie under the
indices `S` of `M`, and reading `M` at an index `i` of `S` gives `g i`. The module states how such a piece is
split and joined, and how a load, a store, a copy and a remote copy act on it.
-/
module

public import Idealize.ShloMosaic.Lib.Pipeline.Launch
public import Idealize.ShloMosaic.Lib.Pipeline.Kit
public import Idealize.ShloMosaic.Lib.Tactic

@[expose] public section

noncomputable section

namespace Cert.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Ix : Type} [DecidableEq Ix]
variable {Val : EltTy → Type} {Name : Type} [DecidableEq Name]
variable {U : Type} [URA U] {Lvl : Type} {Λ : Labels}

local notation "𝕄" => MT nD τ sig Ix Val Name U Lvl

variable {sp sp' : Space} {s s' : Shape} {e : EltTy}

/-- The share `q` of the elements of `M`'s buffer under `S`, where `M` reads `g`. -/
def held (c : Thread nD τ) (M : Memref sig c.2.kind sp s e) (q : PosShare TreeShare) (S : Finset s.Idx) (g : s.Idx → Val e) :
    sProp 𝕄 :=
  iprop(∃ f : Buf Val (M.view.loc c), ⌜∀ i ∈ S, M.view.read Val f i = g i⌝ ∗ (M.view.loc c ↦[M.view.setOn S]{q} f))

/-- The elements under `S` at full share, at contents not stated. -/
def heldAny (Val : EltTy → Type) (c : Thread nD τ) (M : Memref sig c.2.kind sp s e) (S : Finset s.Idx) :
    sProp (MT nD τ sig Ix Val Name U Lvl) :=
  iprop(∃ f : Buf Val (M.view.loc c), (M.view.loc c ↦[M.view.setOn S]{fullShare} f))

variable {c : Thread nD τ} {M : Memref sig c.2.kind sp s e} {q : PosShare TreeShare} {S T : Finset s.Idx} {g g' : s.Idx → Val e}

/-- What is held may be kept in an invariant, -/
instance held_storable : BI.Storable (upEmb : UEmb _ 𝕄) (held c M q S g : sProp 𝕄) := by
  unfold held; infer_instance

/-- and so may what is held at some content. -/
instance heldAny_storable : BI.Storable (upEmb : UEmb _ 𝕄) (heldAny Val c M S : sProp 𝕄) := by
  unfold heldAny; infer_instance

/-- A points-to is the piece it holds. -/
theorem held_of {f : Buf Val (M.view.loc c)} (h : ∀ i ∈ S, M.view.read Val f i = g i) :
    (M.view.loc c ↦[M.view.setOn S]{q} f : sProp 𝕄) ⊢ held c M q S g := by
  unfold held
  iintro H
  iexists f
  isplitr
  · ipureintro; exact h
  · iexact H

/-- Owning the elements is holding them at some content. -/
theorem heldAny_of {f : Buf Val (M.view.loc c)} :
    (M.view.loc c ↦[M.view.setOn S]{fullShare} f : sProp 𝕄) ⊢ heldAny Val c M S := by
  unfold heldAny
  iintro H
  iexists f
  iexact H

/-- A content may be forgotten. -/
theorem heldAny_of_held : (held c M fullShare S g : sProp 𝕄) ⊢ heldAny Val c M S := by
  unfold held heldAny
  iintro ⟨%f, -, H⟩
  iexists f
  iexact H

/-- What is held at some content is held at one. -/
theorem held_of_heldAny : (heldAny Val c M S : sProp 𝕄) ⊢ iprop(∃ g, held c M fullShare S g) := by
  unfold heldAny
  iintro ⟨%f, H⟩
  iexists (M.view.read Val f)
  iapply (held_of (c := c) (M := M) (fun i _ => rfl)) $$ H

/-- Contents that agree on the piece. -/
theorem held_congr (h : ∀ i ∈ S, g i = g' i) : (held c M q S g : sProp 𝕄) ⊢ held c M q S g' := by
  unfold held
  iintro ⟨%f, %hf, H⟩
  iexists f
  isplitr
  · ipureintro; exact fun i hi => (hf i hi).trans (h i hi)
  · iexact H

/-- Disjoint indices have disjoint elements. -/
theorem setOn_disjoint (v : View sig c.2.kind sp s e) (h : Disjoint S T) : Disjoint (v.setOn S) (v.setOn T) :=
  Finset.disjoint_map v.emb |>.mpr h

/-- The elements of a union. -/
theorem setOn_union [DecidableEq s.Idx] (v : View sig c.2.kind sp s e) : v.setOn (S ∪ T) = v.setOn S ∪ v.setOn T := by
  ext i
  simp only [View.setOn, Finset.mem_map, Finset.mem_union]
  constructor
  · rintro ⟨x, hx | hx, rfl⟩
    · exact .inl ⟨x, hx, rfl⟩
    · exact .inr ⟨x, hx, rfl⟩
  · rintro (⟨x, hx, rfl⟩ | ⟨x, hx, rfl⟩)
    · exact ⟨x, .inl hx, rfl⟩
    · exact ⟨x, .inr hx, rfl⟩

/-- Ownership of two disjoint sets of elements is split, -/
theorem pts_split (h : Disjoint S T) {f : Buf Val (M.view.loc c)} :
    (M.view.loc c ↦[M.view.setOn (S ∪ T)]{q} f : sProp 𝕄)
      ⊢ iprop((M.view.loc c ↦[M.view.setOn S]{q} f) ∗ (M.view.loc c ↦[M.view.setOn T]{q} f)) := by
  rw [setOn_union]
  exact (pointsTo_union (ℓ := M.view.loc c) (setOn_disjoint M.view h)).1

/-- and joined, each set keeping its content. -/
theorem pts_join (h : Disjoint S T) {f f' : Buf Val (M.view.loc c)} :
    iprop((M.view.loc c ↦[M.view.setOn S]{q} f) ∗ (M.view.loc c ↦[M.view.setOn T]{q} f'))
      ⊢ (M.view.loc c ↦[M.view.setOn (S ∪ T)]{q} ((M.view.setOn T).piecewise f' f) : sProp 𝕄) := by
  rw [setOn_union]
  exact pointsTo_join (ℓ := M.view.loc c) (setOn_disjoint M.view h)

/-- A piece splits along disjoint index sets. -/
theorem held_split (h : Disjoint S T) : (held c M q (S ∪ T) g : sProp 𝕄) ⊢ iprop(held c M q S g ∗ held c M q T g) := by
  unfold held
  iintro ⟨%f, %hf, H⟩
  ihave H := (pts_split h (f := f)) $$ H
  icases H with ⟨H1, H2⟩
  isplitl [H1]
  · iexists f
    isplitr
    · ipureintro; exact fun i hi => hf i (Finset.mem_union_left _ hi)
    · iexact H1
  · iexists f
    isplitr
    · ipureintro; exact fun i hi => hf i (Finset.mem_union_right _ hi)
    · iexact H2

/-- Two pieces at one content join. -/
theorem held_join (h : Disjoint S T) : iprop(held c M q S g ∗ held c M q T g) ⊢ (held c M q (S ∪ T) g : sProp 𝕄) := by
  unfold held
  iintro ⟨⟨%f, %hf, H1⟩, ⟨%f', %hf', H2⟩⟩
  ihave H := (pts_join h (f := f) (f' := f')) $$ [H1 H2]
  · isplitl [H1]; · iexact H1
    iexact H2
  iexists ((M.view.setOn T).piecewise f' f)
  isplitr
  · ipureintro
    intro i hi
    by_cases hT : i ∈ T
    · rw [View.read_apply, Finset.piecewise_eq_of_mem _ _ _ (M.view.mem_setOn.mpr hT)]; exact hf' i hT
    · rw [View.read_apply, Finset.piecewise_eq_of_notMem _ _ _ (fun h' => hT (M.view.mem_setOn.mp h'))]
      exact hf i ((Finset.mem_union.mp hi).resolve_right hT)
  · iexact H

/-- Two disjoint parts held at some content are split, -/
theorem heldAny_split (h : Disjoint S T) :
    (heldAny Val c M (S ∪ T) : sProp 𝕄) ⊢ iprop(heldAny Val c M S ∗ heldAny Val c M T) := by
  unfold heldAny
  iintro ⟨%f, H⟩
  ihave H := (pts_split h (f := f)) $$ H
  icases H with ⟨H1, H2⟩
  isplitl [H1]
  · iexists f; iexact H1
  · iexists f; iexact H2

/-- and joined. -/
theorem heldAny_join (h : Disjoint S T) :
    iprop(heldAny Val c M S ∗ heldAny Val c M T) ⊢ (heldAny Val c M (S ∪ T) : sProp 𝕄) := by
  unfold heldAny
  iintro ⟨⟨%f, H1⟩, ⟨%f', H2⟩⟩
  ihave H := (pts_join h (f := f) (f' := f')) $$ [H1 H2]
  · isplitl [H1]; · iexact H1
    iexact H2
  iexists ((M.view.setOn T).piecewise f' f)
  iexact H

/-- The two halves of a share. -/
theorem held_half : (held c M q S g : sProp 𝕄) ⊢ iprop(held c M q.left S g ∗ held c M q.right S g) := by
  unfold held
  iintro ⟨%f, %hf, H⟩
  ihave H := (pointsTo_share (ℓ := M.view.loc c) (I := M.view.setOn S) (f := f) (PosShare.mem_left_op_right q)).1 $$ H
  icases H with ⟨H1, H2⟩
  isplitl [H1]
  · iexists f
    isplitr
    · ipureintro; exact hf
    · iexact H1
  · iexists f
    isplitr
    · ipureintro; exact hf
    · iexact H2

/-- Two half shares are the whole share. -/
theorem held_whole_share : iprop(held c M q.left S g ∗ held c M q.right S g) ⊢ (held c M q S g : sProp 𝕄) := by
  unfold held
  iintro ⟨⟨%f, %hf, H1⟩, ⟨%f', %hf', H2⟩⟩
  have hc : ∀ i ∈ M.view.setOn S, f' i = f i := by
    intro i hi
    obtain ⟨x, hx, rfl⟩ := Finset.mem_map.mp hi
    have := (hf' x hx).trans (hf x hx).symm
    rw [View.read_apply, View.read_apply] at this
    exact (cast_inj _).mp this
  ihave H2 := (Entails.of_eq (pointsTo_congr (ℓ := M.view.loc c) hc)) $$ H2
  iexists f
  isplitr
  · ipureintro; exact hf
  · iapply (pointsTo_share (PosShare.mem_left_op_right q)).2
    isplitl [H1]; · iexact H1
    iexact H2

/-- What a rectangle cuts out of a content. -/
def cutAt (r : LoadRect s) (g : s.Idx → α) : r.shape.Idx → α := fun j => g (r.idx j)

/-- A piece under a rectangle is the whole of the sliced memref. -/
theorem held_slice (r : Rect s) (hr : ∀ a, r.stride a = 1) :
    (held c (M.slice r hr) q Finset.univ (cutAt r.toLoadRect g) : sProp 𝕄) = held c M q r.set g := by
  have e1 : (M.slice r hr).view.setOn Finset.univ = M.view.setOn r.set := M.view.set_slice r
  unfold held
  congr 1
  funext f
  have e2 : (∀ i ∈ (Finset.univ : Finset r.shape.Idx), (M.slice r hr).view.read Val f i = cutAt r.toLoadRect g i)
      ↔ ∀ i ∈ r.set, M.view.read Val f i = g i := by
    constructor
    · intro h i hi
      obtain ⟨j, rfl⟩ := r.exists_idx_of_mem hi
      exact h j (Finset.mem_univ _)
    · intro h j _
      exact h _ (r.idx_mem j)
  rw [propext e2]
  exact congrArg (fun X => iprop(⌜∀ i ∈ r.set, M.view.read Val f i = g i⌝ ∗ (M.view.loc c ↦[X]{q} f))) e1

/-- A slice held at some content is a rectangle of the buffer held at some content. -/
theorem heldAny_slice (r : Rect s) (hr : ∀ a, r.stride a = 1) :
    (heldAny Val c (M.slice r hr) Finset.univ : sProp 𝕄) = heldAny Val c M r.set := by
  unfold heldAny
  congr 1
  funext f
  have e1 : (M.slice r hr).view.setOn Finset.univ = M.view.setOn r.set := M.view.set_slice r
  exact congrArg (fun X => (M.view.loc c ↦[X]{fullShare} f : sProp 𝕄)) e1

/-- A piece held through a memref squeezed to fewer axes. -/
theorem held_squeeze (h : s.Squeezes s') :
    (held c (M.squeeze s' h) q Finset.univ (fun i => g (Shape.reshapeEquiv h.numel_eq i)) : sProp 𝕄) = held c M q Finset.univ g := by
  unfold held
  congr 1
  funext f
  have e1 : (M.squeeze s' h).view.setOn Finset.univ = M.view.setOn Finset.univ := M.view.set_reshape h.numel_eq
  have e2 : (∀ i ∈ (Finset.univ : Finset s'.Idx), (M.squeeze s' h).view.read Val f i = g (Shape.reshapeEquiv h.numel_eq i))
      ↔ ∀ i ∈ (Finset.univ : Finset s.Idx), M.view.read Val f i = g i := by
    constructor
    · intro H i _
      have := H ((Shape.reshapeEquiv h.numel_eq).symm i) (Finset.mem_univ _)
      rw [Equiv.apply_symm_apply] at this
      refine Eq.trans ?_ this
      show M.view.read Val f i = M.view.read Val f (Shape.reshapeEquiv h.numel_eq ((Shape.reshapeEquiv h.numel_eq).symm i))
      rw [Equiv.apply_symm_apply]
    · intro H i _
      exact H _ (Finset.mem_univ _)
  rw [propext e2]
  exact congrArg (fun X => iprop(⌜_⌝ ∗ (M.view.loc c ↦[X]{q} f : sProp 𝕄))) e1

/-- The same after a dimension of size one is dropped. -/
theorem heldAny_squeeze (h : s.Squeezes s') :
    (heldAny Val c (M.squeeze s' h) Finset.univ : sProp 𝕄) = heldAny Val c M Finset.univ := by
  unfold heldAny
  congr 1
  funext f
  have e1 : (M.squeeze s' h).view.setOn Finset.univ = M.view.setOn Finset.univ := M.view.set_reshape h.numel_eq
  exact congrArg (fun X => (M.view.loc c ↦[X]{fullShare} f : sProp 𝕄)) e1

section Steps

variable [Preorder Lvl] {defs : Defs nD τ sig Val Λ} (𝒱 : Variants) (c : Thread nD τ)
variable (bd : Option 𝒱.V) {Γ : PendingWaitsCtx sig Ix} {α : Type} {Q : α → sProp (MT nD τ sig Ix Val Name U Lvl)}

/-- A load of coordinates inside a held piece reads its content there. -/
theorem wp_load_held {cs : CoreSpace} {m : Memref sig c.2.kind cs s e} {r : LoadRect s} {hl : m.view.LoadsAt r}
    {k : (r.shape.Idx → Val e) → Prog (TpuEff nD τ sig Val Λ c.2) α} {S : Finset s.Idx} {q : PosShare TreeShare} {g : s.Idx → Val e}
    (hS : r.set ⊆ S) {E : Set Name} :
    held c m q S g
      ⊢ iprop((held c m q S g -∗ wp frame (wpE' defs 𝒱 c bd Γ) E (k (cutAt r g)) Q)
        -∗ wp frame (wpE' defs 𝒱 c bd Γ) E (.op (.load m r hl) k) Q) := by
  iintro H Hk
  unfold held
  icases H with ⟨%f, %hf, H⟩
  have e : m.view.readAt Val r f = cutAt r g := funext fun j => hf _ (hS (r.idx_mem j))
  iapply (wp_load 𝒱 c bd E (m := m) (r := r) (hl := hl) (S := m.view.setOn S) (q := q) (f := f)
    (Finset.map_subset_map.mpr hS)) $$ [H]
  · iexact H
  iintro H
  rw [e]
  iapply Hk
  iexists f
  isplitr
  · ipureintro; exact hf
  · iexact H

/-- A load inside a piece whose content is not stated reads something. -/
theorem wp_load_any {cs : CoreSpace} {m : Memref sig c.2.kind cs s e} {r : LoadRect s} {hl : m.view.LoadsAt r}
    {k : (r.shape.Idx → Val e) → Prog (TpuEff nD τ sig Val Λ c.2) α} {S : Finset s.Idx}
    (hS : r.set ⊆ S) {E : Set Name} :
    heldAny Val c m S
      ⊢ iprop((∀ v, heldAny Val c m S -∗ wp frame (wpE' defs 𝒱 c bd Γ) E (k v) Q)
        -∗ wp frame (wpE' defs 𝒱 c bd Γ) E (.op (.load m r hl) k) Q) := by
  iintro H Hk
  unfold heldAny
  icases H with ⟨%f, H⟩
  iapply (wp_load 𝒱 c bd E (m := m) (r := r) (hl := hl) (S := m.view.setOn S) (q := fullShare) (f := f)
    (Finset.map_subset_map.mpr hS)) $$ [H]
  · iexact H
  iintro H
  iapply Hk
  iexists f
  iexact H

/-- A store of `w` over the whole of a rectangle held at full share, whatever it held: the content is
    then any `g` with `w` on the rectangle. -/
theorem wp_store_held {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {S : Finset s.Idx} {g : s.Idx → Val e} (hS : r.set = S)
    (hg : cutAt r.toLoadRect g = w) {E : Set Name} :
    heldAny Val c m S
      ⊢ iprop((held c m fullShare S g -∗ wp frame (wpE' defs 𝒱 c bd Γ) E (k ⟨⟩) Q)
        -∗ wp frame (wpE' defs 𝒱 c bd Γ) E (.op (.store m r w Finset.univ hx hm) k) Q) := by
  subst hS
  subst hg
  have e1 : (m.access r).set = m.view.setOn r.set := m.view.set_slice r
  iintro H Hk
  unfold heldAny
  icases H with ⟨%f, H⟩
  iapply (wp_store 𝒱 c bd E (m := m) (r := r) (hx := hx) (hm := hm) (w := cutAt r.toLoadRect g) (Mk := Finset.univ)
    (S := m.view.setOn r.set) (f := f) (by
      intro x hx
      rw [View.setOn_univ, e1] at hx
      exact hx)) $$ [H]
  · iexact H
  iintro H
  iapply Hk
  iapply (held_of (c := c) (M := m) (S := r.set) (g := g) (q := fullShare)
    (f := (m.access r).write Val f (cutAt r.toLoadRect g) Finset.univ) (by
      intro i hi
      obtain ⟨j, rfl⟩ := r.exists_idx_of_mem hi
      exact congrFun ((m.access r).read_write_univ (Val := Val) f (cutAt r.toLoadRect g)) j)) $$ H

variable {D : Type} [DecidableEq D]
variable (E : Emb (URounds (GSem nD τ sig) D) (MT nD τ sig Ix Val Name U Lvl)) (Rd : Schedule (GSem nD τ sig) D (MT nD τ sig Ix Val Name U Lvl))

/-- A remote copy of a held source over a held destination of another device: the source piece pays the
    issuer's send cell, and the destination at the source's content pays the target's cell. -/
theorem wp_send_held {c' : Thread nD τ} {src : Memref sig c.2.kind sp s e} {dst : Memref sig c'.2.kind sp' s e} {hsc : dst.view.ref.isScScratch = false} {sS sem : SemLoc sig}
    {hsrc : src.view.WordExact} {hdst : dst.view.WordExact} {hsem : DmaTarget.Typed sp sem (.remote c' dst sS hsc)}
    {k : PUnit → Prog (TpuEff nD τ sig Val Λ c.2) α} {q : PosShare TreeShare}
    {g : s.Idx → Val e} {r₁ r₂ : ℕ} {d₁ d₂ : D} {κ₁ κ₂ : Name}
    (hd₁ : d₁ ∈ Rd.duties (c, sS) r₁) (hd₂ : d₂ ∈ Rd.duties (c', sem) r₂)
    (ι ι' : Ix) (N : ℕ) (hN : dst.view.amount sem = N)
    (hk₁ : Rd.amount (c, sS) r₁ d₁ = N) (hk₂ : Rd.amount (c', sem) r₂ d₂ = N)
    {O₀ : CellTallies nD τ sig Ix} (O : CellTallies nD τ sig Ix) (hO : O₀ = O + tallyAt (c', sem) ι N) {W : Waits sig Ix}
    (hpay₁ : held c src q Finset.univ g ⊢ Rd.payload (c, sS) r₁ d₁)
    (hpay₂ : held c' dst fullShare Finset.univ g ⊢ Rd.payload (c', sem) r₂ d₂) {Es : Set Name} (hr : τ.routes c c' = true := by routes) :
    iprop(cellInv E Rd κ₁ (c, sS) ∗ cellInv E Rd κ₂ (c', sem)
        ∗ held c src q Finset.univ g ∗ heldAny Val c' dst Finset.univ
        ∗ owes c O₀ W
        ∗ dutyTok E (c, sS) r₁ d₁ ∗ reached E (c, sS) r₁
        ∗ dutyTok E (c', sem) r₂ d₂ ∗ reached E (c', sem) r₂)
      ⊢ iprop(((cred (tallyAt (c, sS) ι' N) ∗ owes c O W) -∗ wp frame (wpE' defs 𝒱 c bd Γ) Es (k ⟨⟩) Q)
          -∗ wp frame (wpE' defs 𝒱 c bd Γ) Es (.op (.enqueueDma src (.remote c' dst sS hsc) sem hsrc hdst hsem) k) Q) := by
  unfold heldAny held at *
  iintro ⟨H1, H2, ⟨%fs, %hfs, Hs⟩, ⟨%fd, Hd⟩, HO, H3, H4, H5, H6⟩ Hk
  have er : src.view.read Val fs = g := funext fun i => hfs i (Finset.mem_univ i)
  iapply (Rounds.wp_send_pointsTo 𝒱 E Rd c bd (c' := c') (src := src) (dst := dst) (hsc := hsc) (sS := sS) (sem := sem)
    (hsrc := hsrc) (hdst := hdst) (hsem := hsem) (q := q) (fs := fs) (fd := fd) (κ₁ := κ₁) (κ₂ := κ₂)
    hd₁ hd₂ ι ι' N hN hk₁ hk₂ (O₀ := O₀) O hO (W := W)
    ((held_of (c := c) (M := src) (S := Finset.univ) (g := g) hfs).trans hpay₁)
    ((held_of (c := c') (M := dst) (S := Finset.univ) (g := g) (by
      intro i _
      rw [er]
      exact congrFun (dst.view.read_write_univ (Val := Val) fd g) i)).trans hpay₂) (hr := hr)) $$ [H1 H2 Hs Hd HO H3 H4 H5 H6]
  · iframe
    isplitl [Hs]; · iexact Hs
    iexact Hd
  iexact Hk

/-- A local copy of a held source over a held destination: both pieces, the destination at the source's
    content, pay the cell. -/
theorem wp_copy_held {src : Memref sig c.2.kind sp s e} {dst : Memref sig c.2.kind sp' s e} {sem : SemLoc sig}
    {hsrc : src.view.WordExact} {hdst : dst.view.WordExact} {hsem : DmaTarget.Typed (nD := nD) sp sem (.here dst)}
    {k : PUnit → Prog (TpuEff nD τ sig Val Λ c.2) α} {q : PosShare TreeShare} {g : s.Idx → Val e}
    {r : ℕ} {d : D} {κ : Name} (hd : d ∈ Rd.duties (c, sem) r) (ι : Ix) (N : ℕ)
    (hN : dst.view.amount sem = N) (hk : Rd.amount (c, sem) r d = N)
    (hpay : iprop(held c dst fullShare Finset.univ g ∗ held c src q Finset.univ g) ⊢ Rd.payload (c, sem) r d) {Es : Set Name} :
    iprop(cellInv E Rd κ (c, sem) ∗ held c src q Finset.univ g ∗ heldAny Val c dst Finset.univ
        ∗ dutyTok E (c, sem) r d ∗ reached E (c, sem) r)
      ⊢ iprop((cred (tallyAt (c, sem) ι N) -∗ wp frame (wpE' defs 𝒱 c bd Γ) Es (k ⟨⟩) Q)
          -∗ wp frame (wpE' defs 𝒱 c bd Γ) Es (.op (.enqueueDma src (.here dst) sem hsrc hdst hsem) k) Q) := by
  unfold heldAny held at *
  iintro ⟨H1, ⟨%fs, %hfs, Hs⟩, ⟨%fd, Hd⟩, H3, H4⟩ Hk
  have er : src.view.read Val fs = g := funext fun i => hfs i (Finset.mem_univ i)
  iapply (Rounds.wp_copy_pointsTo 𝒱 E Rd c bd (src := src) (dst := dst) (sem := sem)
    (hsrc := hsrc) (hdst := hdst) (hsem := hsem) (q := q) (fs := fs) (fd := fd) (κ := κ)
    hd ι N hN hk ((BIClass.sep_mono
      (held_of (c := c) (M := dst) (S := Finset.univ) (g := g) (by
        intro i _
        rw [er]
        exact congrFun (dst.view.read_write_univ (Val := Val) fd g) i))
      (held_of (c := c) (M := src) (S := Finset.univ) (g := g) hfs)).trans hpay)) $$ [H1 Hs Hd H3 H4]
  · iframe
    isplitl [Hs]; · iexact Hs
    iexact Hd
  iexact Hk

end Steps

end Cert.Moe
-- ==== Proof.Geom.lean ====
/-
The mesh of four devices and the rows of the token blocks.

Device `d` sits at place `(x, y) = (d / 2, d % 2)`. `ynb` is its neighbour along `y`, `xnb` the one along `x`.
A block of 512 tokens is cut into four tiles of 128 rows; `tile k g` is the `k`-th tile of a content `g` and
`paste W` the content whose `k`-th tile is `W k`.
-/
module

public import proofs.«01_k».proof.Proof.Held
public import Idealize.ShloMosaic.Lib.ValueIdxCore

@[expose] public section

noncomputable section

namespace Cert.Moe

open Idealize.ShloMosaic Idealize.ShloMosaic.ValueIdx

/-! ## Devices -/

set_option backward.proofsInPublic true in
/-- The neighbour along `y`. -/
def ynb (c : Dev 4) : Dev 4 := ⟨(2 * (c.val / 2) + 1) - c.val % 2, by have := c.isLt; omega⟩
set_option backward.proofsInPublic true in
/-- The neighbour along `x`. -/
def xnb (c : Dev 4) : Dev 4 := ⟨(c.val % 2 + 2) - 2 * (c.val / 2), by have := c.isLt; omega⟩
/-- The place along `x`. -/
def px (c : Dev 4) : ℕ := c.val / 2

/-- Neighbours along y are each other's. -/
theorem ynb_ynb (c : Dev 4) : ynb (ynb c) = c := by revert c; decide
/-- Neighbours along x are each other's. -/
theorem xnb_xnb (c : Dev 4) : xnb (xnb c) = c := by revert c; decide
/-- The two neighbours' neighbours are one device. -/
theorem xnb_ynb (c : Dev 4) : xnb (ynb c) = ynb (xnb c) := by revert c; decide
/-- The place along x is 0 or 1. -/
theorem px_le (c : Dev 4) : px c ≤ 1 := by revert c; decide
/-- The y neighbour has the same place along x. -/
theorem px_ynb (c : Dev 4) : px (ynb c) = px c := by revert c; decide
/-- The x neighbour has the other place along x. -/
theorem px_xnb (c : Dev 4) : px (xnb c) = 1 - px c := by revert c; decide
/-- The place along x, by cases. -/
theorem px_cases (c : Dev 4) : px c = 0 ∨ px c = 1 := by have := px_le c; omega

/-- Whom the `k`-th remote copy goes to: copies 3 and 8 to 11 go along `x`, the others along `y`. -/
def dst (k : ℕ) (c : Dev 4) : Dev 4 := if k = 3 ∨ 8 ≤ k then xnb c else ynb c

/-- A copy's target sends its own copy of the same number back. -/
theorem dst_dst (k : ℕ) (c : Dev 4) : dst k (dst k c) = c := by
  unfold dst; split <;> simp [ynb_ynb, xnb_xnb]

/-- The tile of rows that a device's `i`-th chunk is. -/
def ck (c : Dev 4) (i : ℕ) : ℕ := if i < 2 then 2 * px c + i else i - 2 * px c

/-- There are four tiles. -/
theorem ck_lt (c : Dev 4) {i : ℕ} (hi : i < 4) : ck c i < 4 := by
  have := px_le c; unfold ck; split <;> omega
/-- The y neighbour takes the tiles in the same order. -/
theorem ck_ynb (c : Dev 4) (i : ℕ) : ck (ynb c) i = ck c i := by unfold ck; rw [px_ynb]

/-! ## Rows -/

/-- The indices of a block of 512 rows whose row lies in `[lo, lo + n)`. -/
def rowSet (w lo n : ℕ) : Finset (⟨2, ![512, w]⟩ : Shape).Idx :=
  Finset.univ.filter fun i => lo ≤ (i 0).val ∧ (i 0).val < lo + n

/-- Membership among rows, by the row's number. -/
theorem mem_rowSet {w lo n : ℕ} {i : (⟨2, ![512, w]⟩ : Shape).Idx} : i ∈ rowSet w lo n ↔ lo ≤ (i 0).val ∧ (i 0).val < lo + n := by
  unfold rowSet; rw [Finset.mem_filter]; exact ⟨fun h => h.2, fun h => ⟨Finset.mem_univ _, h⟩⟩

/-- Adjacent rows together. -/
theorem rowSet_union {w lo n n' : ℕ} : rowSet w lo n ∪ rowSet w (lo + n) n' = rowSet w lo (n + n') := by
  ext i; rw [Finset.mem_union, mem_rowSet, mem_rowSet, mem_rowSet]; omega

/-- Rows that do not overlap. -/
theorem rowSet_disjoint {w lo n lo' n' : ℕ} (h : lo + n ≤ lo' ∨ lo' + n' ≤ lo) : Disjoint (rowSet w lo n) (rowSet w lo' n') := by
  rw [Finset.disjoint_left]; intro i h1 h2; rw [mem_rowSet] at h1 h2; omega

/-- All 512 rows. -/
theorem rowSet_univ {w : ℕ} : rowSet w 0 512 = Finset.univ := by
  ext i
  rw [mem_rowSet]
  have : (i 0).val < 512 := (i 0).isLt
  exact ⟨fun _ => Finset.mem_univ _, fun _ => ⟨Nat.zero_le _, by omega⟩⟩

/-- Rows among more rows. -/
theorem rowSet_subset {w lo n lo' n' : ℕ} (h : lo' ≤ lo) (h' : lo + n ≤ lo' + n') : rowSet w lo n ⊆ rowSet w lo' n' := by
  intro i hi; rw [mem_rowSet] at hi ⊢; omega

/-- A rectangle of `n` whole rows is the rows. -/
theorem rect_set {w lo n : ℕ} {off : Fin 2 → ℕ} (h : off = ![lo, 0])
    (inb : ∀ a, off a + (![n, w] : Fin 2 → ℕ) a ≤ (⟨2, ![512, w]⟩ : Shape).size a) :
    (Rect.unit (s := ⟨2, ![512, w]⟩) off ![n, w] inb).set = rowSet w lo n := by
  subst h
  ext i
  rw [Rect.mem_set_unit, mem_rowSet, Fin.forall_fin_two]
  have : (i 1).val < w := (i 1).isLt
  constructor
  · rintro ⟨h0, -⟩; exact h0
  · intro h0; exact ⟨h0, Nat.zero_le _, by simpa using this⟩

/-! ## Tiles -/

/-- The `k`-th tile of 128 rows. -/
def tile {w : ℕ} {α : Type} (k : ℕ) (g : (⟨2, ![512, w]⟩ : Shape).Idx → α) : (⟨2, ![128, w]⟩ : Shape).Idx → α :=
  fun j => g (ix2 ⟨(128 * k + (j 0).val) % 512, Nat.mod_lt _ (by decide)⟩ (j 1))

/-- The content whose `k`-th tile is `W k`. -/
def paste {w : ℕ} {α : Type} (W : ℕ → (⟨2, ![128, w]⟩ : Shape).Idx → α) : (⟨2, ![512, w]⟩ : Shape).Idx → α :=
  fun i => W ((i 0).val / 128) (ix2 ⟨(i 0).val % 128, Nat.mod_lt _ (by decide)⟩ (i 1))

/-- A tile of four tiles pasted is the tile. -/
theorem tile_paste {w : ℕ} {α : Type} (W : ℕ → (⟨2, ![128, w]⟩ : Shape).Idx → α) {k : ℕ} (hk : k < 4) : tile k (paste W) = W k := by
  funext j
  have hj : (j 0).val < 128 := (j 0).isLt
  have e1 : (128 * k + (j 0).val) % 512 / 128 = k := by omega
  have e2 : (⟨(128 * k + (j 0).val) % 512 % 128, Nat.mod_lt _ (by decide)⟩ : Fin 128) = j 0 := Fin.ext (by show (128 * k + (j 0).val) % 512 % 128 = (j 0).val; omega)
  show W ((128 * k + (j 0).val) % 512 / 128) (ix2 ⟨(128 * k + (j 0).val) % 512 % 128, _⟩ (j 1)) = W k j
  rw [e1, e2]
  exact congrArg (W k) (eq_ix2 j).symm

/-- A load of 128 rows reads a tile. -/
theorem cutAt_tile {w : ℕ} {α : Type} {k : ℕ} {off : Fin 2 → ℕ} (h : off = ![128 * k, 0]) (hk : k < 4)
    (inb : ∀ a, off a + (![128, w] : Fin 2 → ℕ) a ≤ (⟨2, ![512, w]⟩ : Shape).size a) (g : (⟨2, ![512, w]⟩ : Shape).Idx → α) :
    cutAt (Rect.unit (s := ⟨2, ![512, w]⟩) off ![128, w] inb).toLoadRect g = tile k g := by
  subst h
  funext j
  have hj : (j 0).val < 128 := (j 0).isLt
  show g _ = g _
  congr 1
  rw [eq_ix2 ((Rect.unit (s := ⟨2, ![512, w]⟩) ![128 * k, 0] ![128, w] inb).toLoadRect.idx j)]
  congr 1
  · refine Fin.ext ?_
    show 128 * k + 1 * (j 0).val = (128 * k + (j 0).val) % 512
    omega
  · refine Fin.ext ?_
    show 0 + 1 * (j 1).val = (j 1).val
    omega

/-- A load of everything reads the content. -/
theorem cutAt_whole {a b : ℕ} {α : Type} {off : Fin 2 → ℕ} (h : off = ![0, 0])
    (inb : ∀ x, off x + (![a, b] : Fin 2 → ℕ) x ≤ (⟨2, ![a, b]⟩ : Shape).size x) (g : (⟨2, ![a, b]⟩ : Shape).Idx → α) :
    cutAt (Rect.unit (s := ⟨2, ![a, b]⟩) off ![a, b] inb).toLoadRect g = g := by
  subst h
  funext j
  show g _ = g _
  congr 1
  funext x
  refine Fin.ext ?_
  rcases (Fin.forall_fin_two (p := fun x => x = 0 ∨ x = 1)).2 ⟨.inl rfl, .inr rfl⟩ x with rfl | rfl
  · show 0 + 1 * (j 0).val = (j 0).val; omega
  · show 0 + 1 * (j 1).val = (j 1).val; omega

/-- The rectangle of a whole array covers every index. -/
theorem rect_set_whole {a b : ℕ} {off : Fin 2 → ℕ} (h : off = ![0, 0])
    (inb : ∀ x, off x + (![a, b] : Fin 2 → ℕ) x ≤ (⟨2, ![a, b]⟩ : Shape).size x) :
    (Rect.unit (s := ⟨2, ![a, b]⟩) off ![a, b] inb).set = Finset.univ := by
  subst h
  ext i
  rw [Rect.mem_set_unit, Fin.forall_fin_two]
  have h0 : (i 0).val < a := (i 0).isLt
  have h1 : (i 1).val < b := (i 1).isLt
  exact ⟨fun _ => Finset.mem_univ _, fun _ => ⟨⟨Nat.zero_le _, by simpa using h0⟩, ⟨Nat.zero_le _, by simpa using h1⟩⟩⟩

/-! ## Slabs -/

/-- The indices of a stack of `n` matrices that lie in the `k`-th matrix. -/
def slabSet (n a b k : ℕ) : Finset (⟨3, ![n, a, b]⟩ : Shape).Idx := Finset.univ.filter fun i => (i 0).val = k

/-- Membership in one matrix of a stack. -/
theorem mem_slabSet {n a b k : ℕ} {i : (⟨3, ![n, a, b]⟩ : Shape).Idx} : i ∈ slabSet n a b k ↔ (i 0).val = k := by
  unfold slabSet; rw [Finset.mem_filter]; exact ⟨fun h => h.2, fun h => ⟨Finset.mem_univ _, h⟩⟩

/-- The rectangle of one matrix covers that matrix. -/
theorem slab_rect_set {n a b k : ℕ} {off : Fin 3 → ℕ} (h : off = ![k, 0, 0])
    (inb : ∀ x, off x + (![1, a, b] : Fin 3 → ℕ) x ≤ (⟨3, ![n, a, b]⟩ : Shape).size x) :
    (Rect.unit (s := ⟨3, ![n, a, b]⟩) off ![1, a, b] inb).set = slabSet n a b k := by
  subst h
  ext i
  rw [Rect.mem_set_unit, mem_slabSet]
  have h1 : (i 1).val < a := (i 1).isLt
  have h2 : (i 2).val < b := (i 2).isLt
  constructor
  · intro h; have := h 0; simp at this; omega
  · intro h x
    fin_cases x
    · show k ≤ (i 0).val ∧ (i 0).val < k + 1; omega
    · show 0 ≤ (i 1).val ∧ (i 1).val < 0 + a; omega
    · show 0 ≤ (i 2).val ∧ (i 2).val < 0 + b; omega

/-- The `k`-th matrix of a stack, as a stack of one. -/
def slab {n a b : ℕ} [NeZero n] {α : Type} (k : ℕ) (g : (⟨3, ![n, a, b]⟩ : Shape).Idx → α) : (⟨3, ![1, a, b]⟩ : Shape).Idx → α :=
  fun j => g (ix3 ⟨k % n, Nat.mod_lt _ (Nat.pos_of_neZero n)⟩ (j 1) (j 2))

/-- A load of one matrix of the stack. -/
theorem cutAt_slab {n a b : ℕ} [NeZero n] {α : Type} {k : ℕ} {off : Fin 3 → ℕ} (h : off = ![k, 0, 0]) (hk : k < n)
    (inb : ∀ x, off x + (![1, a, b] : Fin 3 → ℕ) x ≤ (⟨3, ![n, a, b]⟩ : Shape).size x) (g : (⟨3, ![n, a, b]⟩ : Shape).Idx → α) :
    cutAt (Rect.unit (s := ⟨3, ![n, a, b]⟩) off ![1, a, b] inb).toLoadRect g = slab k g := by
  subst h
  funext j
  have hj : (j 0).val < 1 := (j 0).isLt
  show g _ = g _
  congr 1
  funext x
  refine Fin.ext ?_
  fin_cases x
  · show k + 1 * (j 0).val = k % n
    rw [Nat.mod_eq_of_lt hk]; omega
  · show 0 + 1 * (j 1).val = (j 1).val; omega
  · show 0 + 1 * (j 2).val = (j 2).val; omega

/-- A stack of two matrices whose `j`-th is the `k + j`-th of `g`. -/
def pair {n a b : ℕ} [NeZero n] {α : Type} (k : ℕ) (g : (⟨3, ![n, a, b]⟩ : Shape).Idx → α) : (⟨3, ![2, a, b]⟩ : Shape).Idx → α :=
  fun i => g (ix3 ⟨(k + (i 0).val) % n, Nat.mod_lt _ (Nat.pos_of_neZero n)⟩ (i 1) (i 2))

/-- One matrix of two picked out of a stack. -/
theorem slab_pair {n a b : ℕ} [NeZero n] {α : Type} (k : ℕ) {j : ℕ} (hj : j < 2) (g : (⟨3, ![n, a, b]⟩ : Shape).Idx → α) :
    slab j (pair k g) = slab (k + j) g := by
  funext i
  show g _ = g _
  congr 1
  funext x
  refine Fin.ext ?_
  fin_cases x
  · show (k + j % 2) % n = (k + j) % n
    rw [Nat.mod_eq_of_lt hj]
  · rfl
  · rfl

end Cert.Moe
-- ==== Proof.IProto.lean ====
/-
The protocol of the kernel on the mesh of four devices.

For each semaphore: who waits on it, who signals or copies onto it, and what a landing hands over.

* The barrier semaphore of `c` receives one unit from each neighbour; `c` waits for two. The neighbour along `y`
  hands over its buffers that `c` copies into along `y`, the neighbour along `x` those that `c` copies into along `x`.
* Copy `k` (of twelve) of `c` goes to `dst k c`. It credits `c`'s send semaphore `k`, which hands the source back, and
  the receive semaphore `k` of `dst k c`, which hands over the landed rows at the source's content.
* Four local copies bring two experts' weights in; each credits its own semaphore, which hands the landed matrix over
  and the source back.

Every semaphore is used in one round.
-/
module

public import proofs.«01_k».proof.Proof.Geom
public import proofs.«01_k».proof.Proof.Gen.KernelIdeal
public import proofs.«01_k».proof.Proof.Gen.KernelIdeal.Skeleton
public import proofs.«01_k».proof.Proof.Gen.KernelIdeal.Launch

@[expose] public section

noncomputable section

namespace Cert.MoeKernelIdeal

open Cert.KernelIdeal Cert.KernelIdeal.Gen Cert.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The records of the rounds: a duty is a truth value, for the barrier has two payers. -/
abbrev UB : Type := URounds (GSem nD τ sig) Bool
/-- All ghost state: the library's and that of the rounds. -/
abbrev UU : Type := UR sig nD τ × UB

local notation "𝕄" => MT nD τ sig Unit (Elt F) ℕ UU ℕ

/-- Where the library's part lies, -/
abbrev EP : Emb (UR sig nD τ) (MT nD τ sig Unit (Elt F) ℕ UU ℕ) := embL
/-- and where that of the rounds lies. -/
abbrev ER : Emb UB (MT nD τ sig Unit (Elt F) ℕ UU ℕ) := embR

variable (m : (ℓ : Loc nD τ sig) → Buf (Elt F) ℓ)

/-! ## The printed device numbers -/

/-- The kernel's device number 1 is the y neighbour. -/
theorem dev1_eq (c : Dev nD) : (⟨k0_dev1 c, k0_dev1_lt c⟩ : Dev nD) = ynb c := Fin.ext (k0_dev1_eq c)
/-- The kernel's device number 2 is the x neighbour. -/
theorem dev2_eq (c : Dev nD) : (⟨k0_dev2 c, k0_dev2_lt c⟩ : Dev nD) = xnb c := Fin.ext (k0_dev2_eq c)
/-- The kernel's device number 3 is the y neighbour. -/
theorem dev3_eq (c : Dev nD) : (⟨k0_dev3 c, k0_dev3_lt c⟩ : Dev nD) = ynb c := Fin.ext (k0_dev3_eq c)
/-- The kernel's device number 4 is the y neighbour. -/
theorem dev4_eq (c : Dev nD) : (⟨k0_dev4 c, k0_dev4_lt c⟩ : Dev nD) = ynb c := Fin.ext (k0_dev4_eq c)
/-- The kernel's device number 5 is the y neighbour. -/
theorem dev5_eq (c : Dev nD) : (⟨k0_dev5 c, k0_dev5_lt c⟩ : Dev nD) = ynb c := Fin.ext (k0_dev5_eq c)
/-- The kernel's device number 6 is the x neighbour. -/
theorem dev6_eq (c : Dev nD) : (⟨k0_dev6 c, k0_dev6_lt c⟩ : Dev nD) = xnb c := Fin.ext (k0_dev6_eq c)
/-- The kernel's device number 7 is the y neighbour. -/
theorem dev7_eq (c : Dev nD) : (⟨k0_dev7 c, k0_dev7_lt c⟩ : Dev nD) = ynb c := Fin.ext (k0_dev7_eq c)
/-- The kernel's device number 8 is the y neighbour. -/
theorem dev8_eq (c : Dev nD) : (⟨k0_dev8 c, k0_dev8_lt c⟩ : Dev nD) = ynb c := Fin.ext (k0_dev8_eq c)
/-- The kernel's device number 9 is the y neighbour. -/
theorem dev9_eq (c : Dev nD) : (⟨k0_dev9 c, k0_dev9_lt c⟩ : Dev nD) = ynb c := Fin.ext (k0_dev9_eq c)
/-- The kernel's device number 10 is the y neighbour. -/
theorem dev10_eq (c : Dev nD) : (⟨k0_dev10 c, k0_dev10_lt c⟩ : Dev nD) = ynb c := Fin.ext (k0_dev10_eq c)
/-- The kernel's device number 11 is the x neighbour. -/
theorem dev11_eq (c : Dev nD) : (⟨k0_dev11 c, k0_dev11_lt c⟩ : Dev nD) = xnb c := Fin.ext (k0_dev11_eq c)
/-- The kernel's device number 12 is the x neighbour. -/
theorem dev12_eq (c : Dev nD) : (⟨k0_dev12 c, k0_dev12_lt c⟩ : Dev nD) = xnb c := Fin.ext (k0_dev12_eq c)
/-- The kernel's device number 13 is the x neighbour. -/
theorem dev13_eq (c : Dev nD) : (⟨k0_dev13 c, k0_dev13_lt c⟩ : Dev nD) = xnb c := Fin.ext (k0_dev13_eq c)
/-- The kernel's device number 14 is the x neighbour. -/
theorem dev14_eq (c : Dev nD) : (⟨k0_dev14 c, k0_dev14_lt c⟩ : Dev nD) = xnb c := Fin.ext (k0_dev14_eq c)

/-! ## Memrefs -/

/-- The staged tokens. -/
abbrev xM : Memref sig .tc .vmem S512x1024 .f32 := Memref.whole cc0_stg0_0
/-- The staged router columns. -/
abbrev rM : Memref sig .tc .vmem S1024x4 .f32 := Memref.whole cc0_stg1_0
/-- The device's first matrices, in main memory. -/
abbrev w1A : Memref sig .tc .hbm S4x1024x2048 .f32 := Memref.whole main_arg2
/-- The device's second matrices, in main memory. -/
abbrev w2A : Memref sig .tc .hbm S4x2048x1024 .f32 := Memref.whole main_arg3
/-- The result's block. -/
abbrev oM : Memref sig .tc .vmem S512x1024 .f32 := Memref.whole cc0_stg2_0
/-- The rounded tokens, for sending. -/
abbrev xsM : Memref sig .tc .vmem S512x1024 .bf16 := Memref.whole cc0_scratch0
/-- The tokens received. -/
abbrev xrM : Memref sig .tc .vmem S512x1024 .bf16 := Memref.whole cc0_scratch1
/-- The router columns received. -/
abbrev rrM : Memref sig .tc .vmem S1024x4 .f32 := Memref.whole cc0_scratch2
/-- The weights to send. -/
abbrev wsM : Memref sig .tc .vmem S512x4 .f32 := Memref.whole cc0_scratch3
/-- The weights received. -/
abbrev wrM : Memref sig .tc .vmem S512x4 .f32 := Memref.whole cc0_scratch4
/-- The weights of the device's own two experts. -/
abbrev waM : Memref sig .tc .vmem S512x2 .f32 := Memref.whole cc0_scratch5
/-- The two first matrices fetched. -/
abbrev w1M : Memref sig .tc .vmem S2x1024x2048 .f32 := Memref.whole cc0_scratch6
/-- The two second matrices fetched. -/
abbrev w2M : Memref sig .tc .vmem S2x2048x1024 .f32 := Memref.whole cc0_scratch7
/-- The parts to send along y. -/
abbrev psM : Memref sig .tc .vmem S512x1024 .bf16 := Memref.whole cc0_scratch8
/-- The parts received along y. -/
abbrev prM : Memref sig .tc .vmem S512x1024 .bf16 := Memref.whole cc0_scratch9
/-- The sums to send along x. -/
abbrev ssM : Memref sig .tc .vmem S512x1024 .bf16 := Memref.whole cc0_scratch10
/-- The sums received along x. -/
abbrev srM : Memref sig .tc .vmem S512x1024 .bf16 := Memref.whole cc0_scratch11

/-! ## Contents -/

/-- Device `c`'s tokens, staged. -/
def xstg (c : Dev nD) : Vec F S512x1024 .f32 :=
  (win0_0.blk (0 : Fin 1)).view.read (Elt F) (m ((c : Thread nD τ).loc main_arg0))
/-- Device `c`'s columns of the router, staged. -/
def rstg (c : Dev nD) : Vec F S1024x4 .f32 :=
  (win0_1.blk (0 : Fin 1)).view.read (Elt F) (m ((c : Thread nD τ).loc main_arg1))
/-- The device's first matrices, -/
def w1V (c : Dev nD) : Vec F S4x1024x2048 .f32 := m ((c : Thread nD τ).loc main_arg2)
/-- and its second. -/
def w2V (c : Dev nD) : Vec F S4x2048x1024 .f32 := m ((c : Thread nD τ).loc main_arg3)

/-- The device's place along `x` as the word that the program computes. -/
def v2 (c : Dev nD) : BitVec 32 := Scalar.remsi (Scalar.divsi (Dev.word c) 2#32) 2#32

/-- The tokens as they are sent. -/
def XS (c : Dev nD) : Vec F S512x1024 .bf16 := k0_pay2 (xstg m c)
/-- The tokens as they are received: half from the neighbour along `y`, half forwarded along `x`. -/
def XR (c : Dev nD) : Vec F S512x1024 .bf16 :=
  fun i => if (i 0).val / 256 = px c then XS m (ynb c) i else XS m (ynb (xnb c)) i

/-- The routing weights of a device's own tokens that its neighbour along `y` uses, -/
def WS (c : Dev nD) : Vec F S512x4 .f32 :=
  k0_pay10 (k0_pay4 (rstg m c) (rstg m (ynb c)) (XS m c) (xstg m c)) (k0_pay5 (rstg m c) (rstg m (ynb c)) (XS m c) (xstg m c))
    (k0_pay6 (rstg m c) (rstg m (ynb c)) (XS m c) (xstg m c)) (k0_pay7 (rstg m c) (rstg m (ynb c)) (XS m c) (xstg m c)) k0_pay8
/-- and those that it uses itself. -/
def WA (c : Dev nD) : Vec F S512x2 .f32 :=
  k0_pay11 (v2 c) (k0_pay4 (rstg m c) (rstg m (ynb c)) (XS m c) (xstg m c)) (k0_pay5 (rstg m c) (rstg m (ynb c)) (XS m c) (xstg m c))
    (k0_pay6 (rstg m c) (rstg m (ynb c)) (XS m c) (xstg m c)) (k0_pay7 (rstg m c) (rstg m (ynb c)) (XS m c) (xstg m c)) k0_pay8

/-- The two experts' first matrices on device `c`, and the second ones. -/
def W1P (c : Dev nD) : Vec F S2x1024x2048 .f32 := pair (2 * px c) (w1V m c)
/-- The two second matrices that a device uses. -/
def W2P (c : Dev nD) : Vec F S2x2048x1024 .f32 := pair (2 * px c) (w2V m c)
/-- Expert `j` of the two, its first matrix, rounded, -/
def E1 (c : Dev nD) (j : ℕ) : FVec F S1024x2048 .bf16 := k0_pay12 (slab j (W1P m c))
/-- and its second. -/
def E2 (c : Dev nD) (j : ℕ) : FVec F S2048x1024 .bf16 := k0_pay13 (slab j (W2P m c))

/-- What device `c` computes for the neighbour's tokens, as it is sent back. -/
def PS (c : Dev nD) : Vec F S512x1024 .bf16 :=
  paste fun k => k0_pay16 (v2 c) (E1 m c 0) (E2 m c 0) (E1 m c 1) (E2 m c 1) (tile k (XR m c)) (tile k (WS m (ynb c)))
/-- What device `c` computes for its own tokens, tile by tile, -/
def OWN (c : Dev nD) (k : ℕ) : FVec F S128x1024 .f32 :=
  k0_pay18 (E1 m c 0) (E2 m c 0) (E1 m c 1) (E2 m c 1) (tile k (XS m c)) (tile k (WA m c))
/-- the neighbour's part added, -/
def SUM (c : Dev nD) (k : ℕ) : FVec F S128x1024 .f32 := k0_pay21 (OWN m c k) (tile k (PS m (ynb c)))
/-- as it is sent along `x`, -/
def SS (c : Dev nD) : Vec F S512x1024 .bf16 := paste fun k => k0_pay22 (OWN m c k) (tile k (PS m (ynb c)))
/-- and the result: that with the neighbour along `x`'s part added. -/
def OUT (c : Dev nD) : Vec F S512x1024 .f32 := paste fun k => k0_pay31 (SUM m c k) (tile k (SS m (xnb c)))

/-! ## Semaphores -/

/-- The barrier semaphore of the runtime. -/
abbrev barS : Sem sig := (SemArray.scalar (sig.barrier 0 rfl) : Sems sig S_).sem
/-- The kernel's own DMA semaphores are numbers 3 to 30. -/
abbrev dmaS (n : ℕ) (h : n < 31 := by omega) : DmaSem sig := ⟨n, h⟩
/-- The semaphore of the `k`-th remote copy at its sender, -/
abbrev sndS (k : Fin 12) : DmaSem sig := dmaS (3 + k.val)
/-- at its target, -/
abbrev rcvS (k : Fin 12) : DmaSem sig := dmaS (15 + k.val)
/-- and of the `k`-th local copy. -/
abbrev cpyS (k : Fin 4) : DmaSem sig := dmaS (27 + k.val)

/-- A device's barrier, -/
abbrev barCell (c : Dev nD) : GSem nD τ sig := ((c : Thread nD τ), .reg barS)
/-- its `k`-th send semaphore, -/
abbrev sndCell (c : Dev nD) (k : Fin 12) : GSem nD τ sig := ((c : Thread nD τ), .dma (sndS k))
/-- its `k`-th receive semaphore, -/
abbrev rcvCell (c : Dev nD) (k : Fin 12) : GSem nD τ sig := ((c : Thread nD τ), .dma (rcvS k))
/-- and the semaphore of its `k`-th local copy. -/
abbrev cpyCell (c : Dev nD) (k : Fin 4) : GSem nD τ sig := ((c : Thread nD τ), .dma (cpyS k))

/-- What one landing of a copy credits, by the number of its semaphore. -/
def amt (n : ℕ) : ℕ :=
  if 27 ≤ n then 262144
  else match (n - 3) % 12 with
    | 0 => 16384
    | 1 => 16384
    | 3 => 16384
    | _ => 8192

/-- Every copy has a positive amount. -/
theorem amt_pos (n : ℕ) : 0 < amt n := by unfold amt; split <;> [decide; (split <;> decide)]

/-- What a send semaphore hands back: the source. -/
def sndPay (c : Dev nD) (k : ℕ) : sProp 𝕄 :=
  match k with
  | 0 => held (c : Thread nD τ) xsM (PosShare.left fullShare) (rowSet 1024 (128 * ck c 0) 256) (XS m c)
  | 1 => held (c : Thread nD τ) rM fullShare Finset.univ (rstg m c)
  | 2 => held (c : Thread nD τ) wsM fullShare Finset.univ (WS m c)
  | 3 => held (c : Thread nD τ) xrM (PosShare.left fullShare) (rowSet 1024 (128 * ck c 0) 256) (XR m c)
  | n + 4 => if n < 4 then held (c : Thread nD τ) psM fullShare (rowSet 1024 (128 * ck c n) 128) (PS m c)
      else held (c : Thread nD τ) ssM fullShare (rowSet 1024 (128 * ck c (n - 4)) 128) (SS m c)

/-- What a receive semaphore hands over: the landed rows. -/
def rcvPay (c : Dev nD) (k : ℕ) : sProp 𝕄 :=
  match k with
  | 0 => held (c : Thread nD τ) xrM fullShare (rowSet 1024 (128 * ck c 0) 256) (XR m c)
  | 1 => held (c : Thread nD τ) rrM fullShare Finset.univ (rstg m (ynb c))
  | 2 => held (c : Thread nD τ) wrM fullShare Finset.univ (WS m (ynb c))
  | 3 => held (c : Thread nD τ) xrM fullShare (rowSet 1024 (128 * ck c 2) 256) (XR m c)
  | n + 4 => if n < 4 then held (c : Thread nD τ) prM fullShare (rowSet 1024 (128 * ck c n) 128) (PS m (ynb c))
      else held (c : Thread nD τ) srM fullShare (rowSet 1024 (128 * ck (xnb c) (n - 4)) 128) (SS m (xnb c))

/-- What a local copy hands over: the landed matrix and the source. -/
def cpyPay (c : Dev nD) (k : ℕ) : sProp 𝕄 :=
  if k % 2 = 0 then
    iprop(held (c : Thread nD τ) w1M fullShare (slabSet 2 1024 2048 (k / 2)) (W1P m c)
      ∗ held (c : Thread nD τ) w1A fullShare (slabSet 4 1024 2048 (2 * px c + k / 2)) (w1V m c))
  else
    iprop(held (c : Thread nD τ) w2M fullShare (slabSet 2 2048 1024 (k / 2)) (W2P m c)
      ∗ held (c : Thread nD τ) w2A fullShare (slabSet 4 2048 1024 (2 * px c + k / 2)) (w2V m c))

/-- What lands on DMA semaphore `n`. -/
def dmaPay (c : Dev nD) (n : ℕ) : sProp 𝕄 :=
  if n < 15 then sndPay m c (n - 3) else if n < 27 then rcvPay m c (n - 15) else cpyPay m c (n - 27)

/-- What a signal to the barrier hands over. -/
def barPay (c : Dev nD) (d : Bool) : sProp 𝕄 :=
  if d then iprop(heldAny (Elt F) (xnb c : Thread nD τ) xrM (rowSet 1024 (128 * ck c 0) 256)
      ∗ heldAny (Elt F) (xnb c : Thread nD τ) srM Finset.univ)
  else iprop(heldAny (Elt F) (ynb c : Thread nD τ) xrM (rowSet 1024 (128 * ck c 0) 256)
      ∗ heldAny (Elt F) (ynb c : Thread nD τ) rrM Finset.univ ∗ heldAny (Elt F) (ynb c : Thread nD τ) wrM Finset.univ
      ∗ heldAny (Elt F) (ynb c : Thread nD τ) prM Finset.univ)

/-! ## The schedule -/

/-- One round. A barrier has two duties of one unit, a DMA semaphore of the kernel one duty of its copy's credit. -/
def Rd : Rounds.Schedule (GSem nD τ sig) Bool 𝕄 where
  duties g r := if r = 0 ∧ g.1.2 = .tc then (match g.2 with
    | .reg _ => Finset.univ
    | .dma q => if 3 ≤ q.val then {false} else ∅) else ∅
  unitless _ := False
  amount g _ _ := match g.2 with
    | .reg _ => 1
    | .dma q => amt q.val
  payload g _ d := match g.2 with
    | .reg _ => barPay g.1.1 d
    | .dma q => dmaPay m g.1.1 q.val
  amount_pos g _ _ _ := by
    rcases g with ⟨t, s | s⟩
    · exact Nat.one_pos
    · exact amt_pos _

/-- What a send semaphore hands over may be kept in an invariant, -/
instance sndPay_storable (c : Dev nD) (k : ℕ) : BI.Storable (upEmb : UEmb _ 𝕄) (sndPay m c k) := by
  unfold sndPay; split <;> (repeat' split) <;> infer_instance
/-- what a receive semaphore hands over, -/
instance rcvPay_storable (c : Dev nD) (k : ℕ) : BI.Storable (upEmb : UEmb _ 𝕄) (rcvPay m c k) := by
  unfold rcvPay; split <;> (repeat' split) <;> infer_instance
/-- what a local copy hands over, -/
instance cpyPay_storable (c : Dev nD) (k : ℕ) : BI.Storable (upEmb : UEmb _ 𝕄) (cpyPay m c k) := by
  unfold cpyPay; split <;> infer_instance
/-- what any DMA semaphore hands over, -/
instance dmaPay_storable (c : Dev nD) (k : ℕ) : BI.Storable (upEmb : UEmb _ 𝕄) (dmaPay m c k) := by
  unfold dmaPay; split
  · infer_instance
  · split <;> infer_instance
omit [FloatOps F] in
/-- what a barrier hands over, -/
instance barPay_storable (c : Dev nD) (d : Bool) : BI.Storable (upEmb : UEmb _ 𝕄) (barPay (F := F) c d) := by
  unfold barPay; split <;> infer_instance

/-- and so every payload of the schedule. -/
instance Rd_payload_storable (g : GSem nD τ sig) (r : ℕ) (d : Bool) :
    BI.Storable (upEmb : UEmb _ 𝕄) ((Rd m).payload g r d) := by
  rcases g with ⟨t, s | s⟩
  · exact barPay_storable t.1 d
  · exact dmaPay_storable m t.1 s.val

section Sched
variable (c : Dev nD) (q : DmaSem sig)

/-- The barrier has two duties in its round, -/
theorem duties_bar : (Rd m).duties (barCell c) 0 = Finset.univ := by dsimp only [Rd]; exact if_pos ⟨rfl, rfl⟩
/-- a DMA semaphore of the kernel has one, -/
theorem duties_dma (hq : 3 ≤ q.val) : (Rd m).duties ((c : Thread nD τ), .dma q) 0 = {false} := by
  dsimp only [Rd]; rw [if_pos ⟨rfl, rfl⟩, if_pos hq]
/-- and no later round has any. -/
theorem duties_later (g : GSem nD τ sig) : ∀ r, 1 ≤ r → (Rd m).duties g r = ∅ :=
  fun r hr => by dsimp only [Rd]; exact if_neg fun h => by omega

/-- The barrier's round is worth two, -/
theorem expect_bar : (Rd m).expect (barCell c) 0 = 2 := by
  unfold Schedule.expect Schedule.amountOf
  rw [duties_bar]
  exact (Fintype.sum_bool _)
/-- a DMA semaphore's what its copy moves. -/
theorem expect_dma (hq : 3 ≤ q.val) : (Rd m).expect ((c : Thread nD τ), .dma q) 0 = amt q.val := by
  unfold Schedule.expect Schedule.amountOf; rw [duties_dma m c q hq, Finset.sum_singleton]; rfl

/-- A wait on the barrier takes both neighbours' payloads, -/
theorem rest_bar : bigSep ((Rd m).duties (barCell c) 0 \ ∅) (fun d => (Rd m).payload (barCell c) 0 d) = iprop(barPay c false ∗ barPay c true) := by
  rw [Finset.sdiff_empty, duties_bar, bigSep_univ_eq_bigSepL [false, true] (by decide) (by decide), bigSepL_cons_cons, bigSepL_singleton]
  rfl
/-- a wait on a DMA semaphore its copy's. -/
theorem rest_dma (hq : 3 ≤ q.val) :
    bigSep ((Rd m).duties ((c : Thread nD τ), .dma q) 0 \ ∅) (fun d => (Rd m).payload ((c : Thread nD τ), .dma q) 0 d) = dmaPay m c q.val := by
  rw [Finset.sdiff_empty, duties_dma m c q hq, bigSep_singleton]; rfl

end Sched

/-! ## What a device owes, and the levels -/

/-- What `c` still owes before its `n`-th remote copy: the credit of every copy from the `n`-th on. -/
def owed (c : Dev nD) (n : ℕ) : CellTallies nD τ sig Unit :=
  ∑ k ∈ (Finset.univ.filter fun k : Fin 12 => n ≤ k.val), tallyAt (rcvCell (dst k.val c) k) () (amt (15 + k.val))

/-- What is owed before the `k`-th remote copy is what is owed after it and that copy. -/
theorem owed_step (c : Dev nD) (k : Fin 12) : owed c k.val = owed c (k.val + 1) + tallyAt (rcvCell (dst k.val c) k) () (amt (15 + k.val)) := by
  unfold owed
  have e : (Finset.univ.filter fun j : Fin 12 => k.val ≤ j.val) = insert k (Finset.univ.filter fun j : Fin 12 => k.val + 1 ≤ j.val) := by
    ext j
    simp only [Finset.mem_filter, Finset.mem_univ, true_and, Finset.mem_insert]
    constructor
    · intro h
      by_cases hj : j = k
      · exact .inl hj
      · exact .inr (by have : j.val ≠ k.val := fun h' => hj (Fin.ext h'); omega)
    · rintro (rfl | h) <;> omega
  rw [e, Finset.sum_insert (by simp), add_comm]

/-- After the last copy nothing is owed. -/
theorem owed_end (c : Dev nD) : owed c 12 = 0 := by
  unfold owed
  rw [Finset.filter_eq_empty_iff.mpr (fun k _ => by have := k.isLt; omega), Finset.sum_empty]

/-- What `c` owes at launch: the two neighbours' barriers besides. -/
def O₁ (c : Dev nD) : CellTallies nD τ sig Unit := owed c 0 + tallyAt (barCell (xnb c)) () 1
/-- What a device owes at the start: its copies and both signals. -/
def O₀ (c : Dev nD) : CellTallies nD τ sig Unit := O₁ c + tallyAt (barCell (ynb c)) () 1

/-- Every semaphore of the cores has one level index. -/
def L (g : GSem nD τ sig) : Finset Unit := if g.1.2 = .tc then {()} else ∅
/-- The barrier at 1, receive semaphore `k` at `2 + k`, everything else at 0. -/
def lv (g : GSem nD τ sig) (_ : Unit) : ℕ := match g.2 with
  | .reg _ => 1
  | .dma q => if 15 ≤ q.val ∧ q.val < 27 then q.val - 13 else 0

/-- No other thread's semaphore has a level, -/
theorem L_of_ne (g : GSem nD τ sig) (h : g.1.2 ≠ .tc) : L g = ∅ := if_neg h
/-- and a core's has one. -/
theorem L_tc (c : Dev nD) (sm : SemLoc sig) : L ((c : Thread nD τ), sm) = {()} := if_pos rfl
/-- The level of a receive semaphore. -/
theorem lv_rcv (c : Dev nD) (k : Fin 12) : lv (rcvCell c k) () = 2 + k.val := by
  have := k.isLt
  show (if 15 ≤ 15 + k.val ∧ 15 + k.val < 27 then 15 + k.val - 13 else 0) = _
  rw [if_pos (by omega)]; omega

/-- What is still owed is a remote copy not yet started. -/
theorem owed_pos {c : Dev nD} {n : ℕ} {g : GSem nD τ sig} {u : Unit} (h : 0 < owed c n g u) :
    ∃ k : Fin 12, n ≤ k.val ∧ g = rcvCell (dst k.val c) k := by
  by_contra hn
  have h' : owed c n g u = 0 := by
    unfold owed
    rw [Finset.sum_apply, Finsupp.finset_sum_apply]
    refine Finset.sum_eq_zero fun k hk => ?_
    rw [tallyAt_apply]
    exact if_neg fun h' => hn ⟨k, (Finset.mem_filter.mp hk).2, h'.1⟩
  omega

/-- What is owed at the start is a remote copy or a signal. -/
theorem O₀_pos {c : Dev nD} {g : GSem nD τ sig} {u : Unit} (h : 0 < O₀ c g u) :
    (∃ k : Fin 12, g = rcvCell (dst k.val c) k) ∨ g = barCell (xnb c) ∨ g = barCell (ynb c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  obtain ⟨k, -, hk⟩ := owed_pos (c := c) (n := 0) (g := g) (u := u) (by omega)
  exact hn.1 ⟨k, hk⟩

omit [FloatOps F] in
/-- A device may wait on a semaphore below every receive semaphore that it still owes. -/
theorem mayWait (c : Dev nD) (sm : SemLoc sig) (n : ℕ) (h : lv ((c : Thread nD τ), sm) () < 2 + n) :
    (levAts L lv : sProp 𝕄) ⊢ MayWait (c : Thread nD τ) sm () (owed c n) :=
  MayOwe.of_cut (L := L) (lev := lv) (lv ((c : Thread nD τ), sm) ())
    (fun p hp => by rw [Finset.mem_singleton.mp hp, L_tc]; exact Finset.mem_singleton_self _)
    (fun g u hg => by obtain ⟨k, -, rfl⟩ := owed_pos hg; exact Finset.mem_singleton_self _)
    (fun p hp => by rw [Finset.mem_singleton.mp hp])
    (fun g u hg => by
      obtain ⟨k, hk, rfl⟩ := owed_pos hg
      rw [lv_rcv]; omega)

omit [FloatOps F] in
/-- The staging of the blocks may be awaited whatever the body owes. -/
theorem mayWait_stage (c : Dev nD) (q : DmaSem sig) (hq : q.val < 15) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl | rfl <;> exact Finset.mem_singleton_self _)
      (fun p hp => by rw [Finset.mem_singleton.mp hp]; dsimp only [lv]; rw [if_neg (by omega)])
      (fun g u hg => by
        rcases O₀_pos hg with ⟨k, rfl⟩ | rfl | rfl
        · rw [lv_rcv]; omega
        · exact Nat.one_pos
        · exact Nat.one_pos)
  · rw [MayWait_zero]; iintro -; iempintro

end Cert.MoeKernelIdeal
-- ==== Proof.ISteps.lean ====
/-
One rule for each kind of step of the body: a load or a store of a tile, a remote copy with its number, a local copy
with its number, and a wait on any of the kernel's semaphores.
-/
module

public import proofs.«01_k».proof.Proof.IProto

@[expose] public section

noncomputable section

namespace Cert.MoeKernelIdeal

open Cert.KernelIdeal Cert.KernelIdeal.Gen Cert.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- There are no loops to bound. -/
abbrev 𝒱₀ : Variants := Variants.none

/-- Running `p` on device `c` reaches `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The cells -/

/-- The barrier, then DMA semaphores 3 to 30. -/
def csem (j : Fin 29) : SemLoc sig := if j.val = 0 then .reg barS else .dma (dmaS (2 + j.val))
/-- The cells of all devices. -/
def kcell (p : Dev nD × Fin 29) : GSem nD τ sig := ((p.1 : Thread nD τ), csem p.2)

/-- The first is the barrier, -/
theorem kcell_bar (c : Dev nD) : kcell (c, 0) = barCell c := by rfl
/-- and the others are the DMA semaphores. -/
theorem kcell_dma (c : Dev nD) (q : DmaSem sig) (hq : 3 ≤ q.val) :
    kcell (c, ⟨q.val - 2, by have : q.val < 31 := q.isLt; omega⟩) = ((c : Thread nD τ), .dma q) := by
  unfold kcell csem
  rw [if_neg (by show ¬ q.val - 2 = 0; omega)]
  refine congrArg (fun x : DmaSem sig => (((c : Thread nD τ), SemLoc.dma x) : GSem nD τ sig)) (Fin.ext ?_)
  show 2 + (q.val - 2) = q.val
  omega

/-- What every device may use as often as it likes: every cell's invariant, that its first round is reached, and the levels. -/
def recs : sProp 𝕄 :=
  iprop((∃ K : Dev nD × Fin 29 → ℕ, bigSep Finset.univ fun p : Dev nD × Fin 29 => cellInv ER (Rd m) (K p) (kcell p))
    ∗ (bigSep Finset.univ fun p : Dev nD × Fin 29 => reached ER (kcell p) 0) ∗ levAts L lv)

/-- The shared facts may be used again and again. -/
instance recs_persistent : BI.Persistent (recs m) := by unfold recs; infer_instance

/-- One cell's invariant out of all, -/
theorem inv_at (K : Dev nD × Fin 29 → ℕ) (p : Dev nD × Fin 29) :
    (bigSep Finset.univ fun p : Dev nD × Fin 29 => (cellInv ER (Rd m) (K p) (kcell p) : sProp 𝕄)) ⊢ cellInv ER (Rd m) (K p) (kcell p) :=
  bigSep_elim (Finset.mem_univ p)
omit [FloatOps F] in
/-- and that its first round is reached. -/
theorem reached_at (p : Dev nD × Fin 29) :
    (bigSep Finset.univ fun p : Dev nD × Fin 29 => (reached ER (kcell p) 0 : sProp 𝕄)) ⊢ reached ER (kcell p) 0 :=
  bigSep_elim (Finset.mem_univ p)

/-- A cell's invariant, -/
theorem recs_inv (p : Dev nD × Fin 29) : recs m ⊢ iprop(∃ κ : ℕ, cellInv ER (Rd m) κ (kcell p)) := by
  unfold recs
  iintro ⟨⟨%K, H⟩, -, -⟩
  iexists (K p)
  iapply (inv_at m K p) $$ H

/-- that its first round is reached, -/
theorem recs_reached (p : Dev nD × Fin 29) : recs m ⊢ reached ER (kcell p) 0 := by
  unfold recs
  iintro ⟨-, H, -⟩
  iapply (reached_at (F := F) p) $$ H

/-- and the levels, from the shared facts. -/
theorem recs_lev : recs m ⊢ levAts L lv := by unfold recs; iintro ⟨-, -, H⟩; iexact H

/-- A barrier's invariant, -/
theorem inv_bar (c : Dev nD) : recs m ⊢ iprop(∃ κ : ℕ, cellInv ER (Rd m) κ (barCell c)) := by
  rw [← kcell_bar]; exact recs_inv m _
/-- and a DMA semaphore's. -/
theorem inv_dma (c : Dev nD) (q : DmaSem sig) (hq : 3 ≤ q.val) : recs m ⊢ iprop(∃ κ : ℕ, cellInv ER (Rd m) κ ((c : Thread nD τ), .dma q)) := by
  rw [← kcell_dma c q hq]; exact recs_inv m _
/-- A barrier's first round is reached, -/
theorem reached_bar (c : Dev nD) : recs m ⊢ reached ER (barCell c) 0 := by
  rw [← kcell_bar]; exact recs_reached m _
/-- and a DMA semaphore's. -/
theorem reached_dma (c : Dev nD) (q : DmaSem sig) (hq : 3 ≤ q.val) : recs m ⊢ reached ER ((c : Thread nD τ), SemLoc.dma q) 0 := by
  rw [← kcell_dma c q hq]; exact recs_reached m _

/-! ## What a device holds for each copy -/

/-- The debts `O`, whatever the waits recorded. -/
def Ow (c : Dev nD) (O : CellTallies nD τ sig Unit) : sProp 𝕄 := iprop(∃ W : Waits sig Unit, owes (c : Thread nD τ) O W)

/-- Before the `k`-th remote copy, -/
def sndPre (c : Dev nD) (k : Fin 12) : sProp 𝕄 :=
  iprop(dutyTok ER (sndCell c k) 0 false ∗ dutyTok ER (rcvCell (dst k.val c) k) 0 false ∗ atPos ER (sndCell c k) 0 ∅ 0)
/-- a credit to wait with on a DMA semaphore, -/
def waitable (c : Dev nD) (q : DmaSem sig) : sProp 𝕄 :=
  iprop(cred (tallyAt (((c : Thread nD τ), .dma q) : GSem nD τ sig) () (amt q.val)) ∗ atPos ER ((c : Thread nD τ), SemLoc.dma q) 0 ∅ 0)
/-- before the `k`-th local copy, -/
def cpyPre (c : Dev nD) (k : Fin 4) : sProp 𝕄 :=
  iprop(dutyTok ER (cpyCell c k) 0 false ∗ atPos ER (cpyCell c k) 0 ∅ 0)
/-- and a semaphore after its wait. -/
def zeroed (c : Dev nD) (q : DmaSem sig) : sProp 𝕄 := semVal ((c : Thread nD τ), SemLoc.dma q) 0

/-- What lands on the semaphore of a send, -/
theorem dmaPay_snd (c : Dev nD) (k : Fin 12) : dmaPay m c (sndS k).val = sndPay m c k.val := by
  have := k.isLt
  show dmaPay m c (3 + k.val) = _
  unfold dmaPay; rw [if_pos (by omega), Nat.add_sub_cancel_left]
/-- of a receipt, -/
theorem dmaPay_rcv (c : Dev nD) (k : Fin 12) : dmaPay m c (rcvS k).val = rcvPay m c k.val := by
  have := k.isLt
  show dmaPay m c (15 + k.val) = _
  unfold dmaPay; rw [if_neg (by omega), if_pos (by omega), Nat.add_sub_cancel_left]
/-- and of a local copy. -/
theorem dmaPay_cpy (c : Dev nD) (k : Fin 4) : dmaPay m c (cpyS k).val = cpyPay m c k.val := by
  show dmaPay m c (27 + k.val) = _
  unfold dmaPay; rw [if_neg (by omega), if_neg (by omega), Nat.add_sub_cancel_left]

/-- A remote copy has one amount at both its ends. -/
theorem amt_snd_rcv (k : Fin 12) : amt (3 + k.val) = amt (15 + k.val) := by revert k; decide

variable {α : Type}

/-! ## Waits -/

/-- A wait on one of the kernel's DMA semaphores hands over what its copy put there; the semaphore is then at zero. -/
theorem wait_dma (c : Dev nD) (q : DmaSem sig) (hq : 3 ≤ q.val) {sem : DmaSem sig} (hs : sem = q) {O : CellTallies nD τ sig Unit}
    (hO : (levAts L lv : sProp 𝕄) ⊢ MayWait (c : Thread nD τ) (.dma q) () O)
    {sp sp' : Space} {s s' : Shape} {e e' : EltTy} {src : Memref sig .tc sp' s' e'} {κ' : Kind} {dst : Memref sig κ' sp s e}
    {hsrc : src.view.WordExact} {hdst : dst.view.WordExact} (hN : dst.view.dmaCredit = amt q.val)
    {P : sProp 𝕄} (hp : dmaPay m c q.val ⊢ P)
    {k : PUnit → Prog (TpuEff nD τ sig (Elt F) Λ₀ .tc) α} {Q : α → sProp 𝕄} :
    iprop(recs m ∗ waitable c q ∗ Ow c O)
      ⊢ iprop(((P ∗ zeroed c q ∗ Ow c O) -∗ WP c (k ⟨⟩) Q)
        -∗ WP c (.op (.waitDma2 sem src dst hsrc hdst) k) Q) := by
  subst hs
  unfold waitable Ow zeroed
  iintro ⟨#HR, ⟨Hc, Hat⟩, ⟨%W, HO⟩⟩ Hk
  ihave HI := (inv_dma m c sem hq) $$ HR
  icases HI with ⟨%κ, #HI⟩
  iapply (Rounds.wp_wait_rest_token 𝒱₀ ER (Rd m) (c : Thread nD τ) none (κ := κ)
      (wpE_waitDma2_eq 𝒱₀ (c : Thread nD τ) none Set.univ) (Set.mem_univ _) () (O := O) (W := W) (R := 0) (m := 0) (T := ∅)
      (by rw [Nat.zero_add, expect_dma m c sem hq, hN])) $$ [Hc HO Hat]
  · isplitr; · iexact HI
    isplitl [Hc]; · rw [hN]; iexact Hc
    isplitl [HO]; · iexact HO
    isplitr
    · iapply hO; iapply (recs_lev m); iexact HR
    iexact Hat
  iintro ⟨HO, Hat, -, Hpay⟩
  ihave Hp := (Entails.of_eq (rest_dma m c sem hq)) $$ Hpay
  imod (Rounds.cell_close ER (Rd m) (Set.mem_univ κ) (fun h => h) (R := 0 + 1) (duties_later m ((c : Thread nD τ), SemLoc.dma sem))) $$ [Hat] with Hz
  · isplitr; · iexact HI
    iexact Hat
  iapply Hk
  isplitl [Hp]; · iapply hp; iexact Hp
  isplitl [Hz]; · iexact Hz
  iexists _
  iexact HO

/-- A wait for the `k`-th send, whatever is owed. -/
theorem wait_snd (c : Dev nD) (k : Fin 12) (n : ℕ) {sem : DmaSem sig} (hs : sem = sndS k)
    {sp sp' : Space} {s s' : Shape} {e e' : EltTy} {src : Memref sig .tc sp' s' e'} {κ' : Kind} {dst : Memref sig κ' sp s e}
    {hsrc : src.view.WordExact} {hdst : dst.view.WordExact} (hN : dst.view.dmaCredit = amt (3 + k.val))
    {P : sProp 𝕄} (hp : sndPay m c k.val ⊢ P)
    {kk : PUnit → Prog (TpuEff nD τ sig (Elt F) Λ₀ .tc) α} {Q : α → sProp 𝕄} :
    iprop(recs m ∗ waitable c (sndS k) ∗ Ow c (owed c n))
      ⊢ iprop(((P ∗ zeroed c (sndS k) ∗ Ow c (owed c n)) -∗ WP c (kk ⟨⟩) Q)
        -∗ WP c (.op (.waitDma2 sem src dst hsrc hdst) kk) Q) := by
  exact wait_dma m c (sndS k) (Nat.le_add_right 3 _) hs (mayWait c _ n (by
    have := k.isLt
    show (if 15 ≤ 3 + k.val ∧ 3 + k.val < 27 then 3 + k.val - 13 else 0) < 2 + n
    rw [if_neg (by omega)]; omega)) hN ((Entails.of_eq (dmaPay_snd m c k)).trans hp)

/-- A wait for the `k`-th receipt, once that copy's own number and those before it are started. -/
theorem wait_rcv (c : Dev nD) (k : Fin 12) (n : ℕ) (hn : k.val < n) {sem : DmaSem sig} (hs : sem = rcvS k)
    {sp sp' : Space} {s s' : Shape} {e e' : EltTy} {src : Memref sig .tc sp' s' e'} {κ' : Kind} {dst : Memref sig κ' sp s e}
    {hsrc : src.view.WordExact} {hdst : dst.view.WordExact} (hN : dst.view.dmaCredit = amt (15 + k.val))
    {P : sProp 𝕄} (hp : rcvPay m c k.val ⊢ P)
    {kk : PUnit → Prog (TpuEff nD τ sig (Elt F) Λ₀ .tc) α} {Q : α → sProp 𝕄} :
    iprop(recs m ∗ waitable c (rcvS k) ∗ Ow c (owed c n))
      ⊢ iprop(((P ∗ zeroed c (rcvS k) ∗ Ow c (owed c n)) -∗ WP c (kk ⟨⟩) Q)
        -∗ WP c (.op (.waitDma2 sem src dst hsrc hdst) kk) Q) := by
  exact wait_dma m c (rcvS k) (by show 3 ≤ 15 + k.val; omega) hs (mayWait c _ n (by rw [lv_rcv]; omega)) hN ((Entails.of_eq (dmaPay_rcv m c k)).trans hp)

/-- A wait for the `k`-th local copy, whatever is owed. -/
theorem wait_cpy (c : Dev nD) (k : Fin 4) (n : ℕ) {sem : DmaSem sig} (hs : sem = cpyS k)
    {sp sp' : Space} {s s' : Shape} {e e' : EltTy} {src : Memref sig .tc sp' s' e'} {κ' : Kind} {dst : Memref sig κ' sp s e}
    {hsrc : src.view.WordExact} {hdst : dst.view.WordExact} (hN : dst.view.dmaCredit = amt (27 + k.val))
    {P : sProp 𝕄} (hp : cpyPay m c k.val ⊢ P)
    {kk : PUnit → Prog (TpuEff nD τ sig (Elt F) Λ₀ .tc) α} {Q : α → sProp 𝕄} :
    iprop(recs m ∗ waitable c (cpyS k) ∗ Ow c (owed c n))
      ⊢ iprop(((P ∗ zeroed c (cpyS k) ∗ Ow c (owed c n)) -∗ WP c (kk ⟨⟩) Q)
        -∗ WP c (.op (.waitDma2 sem src dst hsrc hdst) kk) Q) := by
  exact wait_dma m c (cpyS k) (by show 3 ≤ 27 + k.val; omega) hs (mayWait c _ n (by
    show (if 15 ≤ 27 + k.val ∧ 27 + k.val < 27 then 27 + k.val - 13 else 0) < 2 + n
    rw [if_neg (by omega)]; omega)) hN ((Entails.of_eq (dmaPay_cpy m c k)).trans hp)

/-! ## Copies -/

/-- The `k`-th remote copy: the source pays the own send semaphore, the landed rows the other device's receive semaphore. -/
theorem send (c : Dev nD) (k : Fin 12) {t n : Dev nD} (ht : t = dst k.val c) (hn : n = t) {sp sp' : Space} {s : Shape} {e : EltTy}
    {src : Memref sig .tc sp s e} {d : Memref sig .tc sp' s e} {sS sR : SemLoc sig}
    (hS : sS = .dma (sndS k)) (hR : sR = .dma (rcvS k)) {hsc : d.view.ref.isScScratch = false}
    {hsrc : src.view.WordExact} {hdst : d.view.WordExact} {hsem : DmaTarget.Typed sp sR (.remote (Dev.tc n : Thread nD τ) d sS hsc)}
    {q : PosShare TreeShare} {g : s.Idx → Elt F e} (hN : d.view.amount sR = amt (15 + k.val))
    (h₁ : held (c : Thread nD τ) src q Finset.univ g ⊢ sndPay m c k.val)
    (h₂ : held (t : Thread nD τ) d fullShare Finset.univ g ⊢ rcvPay m t k.val)
    {kk : PUnit → Prog (TpuEff nD τ sig (Elt F) Λ₀ .tc) α} {Q : α → sProp 𝕄} :
    iprop(recs m ∗ held (c : Thread nD τ) src q Finset.univ g ∗ heldAny (Elt F) (t : Thread nD τ) d Finset.univ
        ∗ sndPre c k ∗ Ow c (owed c k.val))
      ⊢ iprop(((waitable c (sndS k) ∗ Ow c (owed c (k.val + 1))) -∗ WP c (kk ⟨⟩) Q)
        -∗ WP c (.op (.enqueueDma src (.remote (Dev.tc n : Thread nD τ) d sS hsc) sR hsrc hdst hsem) kk) Q) := by
  subst hn; subst ht; subst hS; subst hR
  unfold sndPre Ow waitable
  iintro ⟨#HR, Hs, Hd, ⟨Ht1, Ht2, Hat⟩, ⟨%W, HO⟩⟩ Hk
  have hk3 : 3 ≤ (sndS k).val := Nat.le_add_right 3 _
  have hk15 : 3 ≤ (rcvS k).val := by show 3 ≤ 15 + k.val; omega
  ihave HI1 := (inv_dma m c (sndS k) hk3) $$ HR
  icases HI1 with ⟨%κ₁, #HI1⟩
  ihave HI2 := (inv_dma m (dst k.val c) (rcvS k) hk15) $$ HR
  icases HI2 with ⟨%κ₂, #HI2⟩
  iapply (wp_send_held 𝒱₀ (c : Thread nD τ) none ER (Rd m) (κ₁ := κ₁) (κ₂ := κ₂) (r₁ := 0) (r₂ := 0) (d₁ := false) (d₂ := false)
    (by rw [duties_dma m c _ hk3]; exact Finset.mem_singleton_self _)
    (by rw [duties_dma m (dst k.val c) _ hk15]; exact Finset.mem_singleton_self _)
    () () (amt (15 + k.val)) hN
    (by show amt (3 + k.val) = _; exact amt_snd_rcv k) rfl (O₀ := owed c k.val) (owed c (k.val + 1)) (owed_step c k) (W := W)
    (q := q) (g := g)
    (by rw [show (Rd m).payload ((c : Thread nD τ), .dma (sndS k)) 0 false = sndPay m c k.val from dmaPay_snd m c k]; exact h₁)
    (by rw [show (Rd m).payload ((Dev.tc (dst k.val c) : Thread nD τ), .dma (rcvS k)) 0 false = rcvPay m (dst k.val c) k.val from dmaPay_rcv m _ k]; exact h₂))
    $$ [Hs Hd Ht1 Ht2 HO]
  · isplitr; · iexact HI1
    isplitr; · iexact HI2
    isplitl [Hs]; · iexact Hs
    isplitl [Hd]; · iexact Hd
    isplitl [HO]; · iexact HO
    isplitl [Ht1]; · iexact Ht1
    isplitr; · iapply (reached_dma m c (sndS k) hk3); iexact HR
    isplitl [Ht2]; · iexact Ht2
    iapply (reached_dma m (dst k.val c) (rcvS k) hk15); iexact HR
  iintro ⟨Hc, HO⟩
  iapply Hk
  isplitl [Hc Hat]
  · isplitl [Hc]
    · rw [show amt (sndS k).val = amt (15 + k.val) from amt_snd_rcv k]; iexact Hc
    · iexact Hat
  iexists W
  iexact HO

/-- The `k`-th local copy: the landed matrix and the source pay its semaphore. -/
theorem copy (c : Dev nD) (k : Fin 4) {sp sp' : Space} {s : Shape} {e : EltTy}
    {src : Memref sig .tc sp s e} {d : Memref sig .tc sp' s e} {sR : SemLoc sig} (hR : sR = .dma (cpyS k))
    {hsrc : src.view.WordExact} {hdst : d.view.WordExact} {hsem : DmaTarget.Typed sp sR (DmaTarget.here (nD := nD) (p := (Proc.tc : Proc τ)) d)}
    {g : s.Idx → Elt F e} (hN : d.view.amount sR = amt (27 + k.val))
    (h : iprop(held (c : Thread nD τ) d fullShare Finset.univ g ∗ held (c : Thread nD τ) src fullShare Finset.univ g) ⊢ cpyPay m c k.val)
    {kk : PUnit → Prog (TpuEff nD τ sig (Elt F) Λ₀ .tc) α} {Q : α → sProp 𝕄} :
    iprop(recs m ∗ held (c : Thread nD τ) src fullShare Finset.univ g ∗ heldAny (Elt F) (c : Thread nD τ) d Finset.univ ∗ cpyPre c k)
      ⊢ iprop((waitable c (cpyS k) -∗ WP c (kk ⟨⟩) Q)
        -∗ WP c (.op (.enqueueDma src (.here d) sR hsrc hdst hsem) kk) Q) := by
  subst hR
  unfold cpyPre waitable
  iintro ⟨#HR, Hs, Hd, ⟨Ht, Hat⟩⟩ Hk
  have hk3 : 3 ≤ (cpyS k).val := by show 3 ≤ 27 + k.val; omega
  ihave HI := (inv_dma m c (cpyS k) hk3) $$ HR
  icases HI with ⟨%κ, #HI⟩
  iapply (wp_copy_held 𝒱₀ (c : Thread nD τ) none ER (Rd m) (κ := κ) (r := 0) (d := false)
    (by rw [duties_dma m c _ hk3]; exact Finset.mem_singleton_self _)
    () (amt (27 + k.val)) hN rfl (q := fullShare) (g := g)
    (by rw [show (Rd m).payload ((c : Thread nD τ), .dma (cpyS k)) 0 false = cpyPay m c k.val from dmaPay_cpy m c k]; exact h))
    $$ [Hs Hd Ht]
  · isplitr; · iexact HI
    isplitl [Hs]; · iexact Hs
    isplitl [Hd]; · iexact Hd
    isplitl [Ht]; · iexact Ht
    iapply (reached_dma m c (cpyS k) hk3); iexact HR
  iintro Hc
  iapply Hk
  isplitl [Hc]; · iexact Hc
  iexact Hat

/-! ## Loads and stores -/

/-- A load of a tile inside the held rows. -/
theorem load_tile (c : Dev nD) {cs : CoreSpace} {w : ℕ} {e : EltTy} {M : Memref sig .tc cs ⟨2, ![512, w]⟩ e} {off : Fin 2 → ℕ} {k : ℕ}
    (h : off = ![128 * k, 0]) (hk : k < 4) {S : Finset (⟨2, ![512, w]⟩ : Shape).Idx} (hS : rowSet w (128 * k) 128 ⊆ S)
    {inb : ∀ a, off a + (![128, w] : Fin 2 → ℕ) a ≤ (⟨2, ![512, w]⟩ : Shape).size a} {q : PosShare TreeShare}
    {g : (⟨2, ![512, w]⟩ : Shape).Idx → Elt F e}
    {hl : M.view.LoadsAt (Rect.unit (s := ⟨2, ![512, w]⟩) off ![128, w] inb).toLoadRect}
    {kk : ((⟨2, ![128, w]⟩ : Shape).Idx → Elt F e) → Prog (TpuEff nD τ sig (Elt F) Λ₀ .tc) α} {Q : α → sProp 𝕄} :
    held (c : Thread nD τ) M q S g
      ⊢ iprop((held (c : Thread nD τ) M q S g -∗ WP c (kk (tile k g)) Q)
        -∗ WP c (.op (.load M (Rect.unit (s := ⟨2, ![512, w]⟩) off ![128, w] inb).toLoadRect hl) kk) Q) := by
  rw [← cutAt_tile h hk inb g]
  exact wp_load_held 𝒱₀ (c : Thread nD τ) none (by
    rw [show (Rect.unit (s := ⟨2, ![512, w]⟩) off ![128, w] inb).toLoadRect.set = rowSet w (128 * k) 128 from
      (rect_set h inb)]
    exact hS)

/-- A load of a tile whose content does not matter. -/
theorem load_tile_any (c : Dev nD) {cs : CoreSpace} {w : ℕ} {e : EltTy} {M : Memref sig .tc cs ⟨2, ![512, w]⟩ e} {off : Fin 2 → ℕ} {k : ℕ}
    (h : off = ![128 * k, 0])
    {inb : ∀ a, off a + (![128, w] : Fin 2 → ℕ) a ≤ (⟨2, ![512, w]⟩ : Shape).size a}
    {hl : M.view.LoadsAt (Rect.unit (s := ⟨2, ![512, w]⟩) off ![128, w] inb).toLoadRect}
    {kk : ((⟨2, ![128, w]⟩ : Shape).Idx → Elt F e) → Prog (TpuEff nD τ sig (Elt F) Λ₀ .tc) α} {Q : α → sProp 𝕄} :
    heldAny (Elt F) (c : Thread nD τ) M (rowSet w (128 * k) 128)
      ⊢ iprop((∀ v, heldAny (Elt F) (c : Thread nD τ) M (rowSet w (128 * k) 128) -∗ WP c (kk v) Q)
        -∗ WP c (.op (.load M (Rect.unit (s := ⟨2, ![512, w]⟩) off ![128, w] inb).toLoadRect hl) kk) Q) :=
  wp_load_any 𝒱₀ (c : Thread nD τ) none (by
    rw [show (Rect.unit (s := ⟨2, ![512, w]⟩) off ![128, w] inb).toLoadRect.set = rowSet w (128 * k) 128 from
      (rect_set h inb)])

/-- A store of a tile: the rows are then held at any content with that tile. -/
theorem store_tile (c : Dev nD) {cs : CoreSpace} {w : ℕ} {e : EltTy} {M : Memref sig .tc cs ⟨2, ![512, w]⟩ e} {off : Fin 2 → ℕ} {k : ℕ}
    (h : off = ![128 * k, 0]) (hk : k < 4)
    {inb : ∀ a, off a + (![128, w] : Fin 2 → ℕ) a ≤ (⟨2, ![512, w]⟩ : Shape).size a}
    {v : (⟨2, ![128, w]⟩ : Shape).Idx → Elt F e} {g : (⟨2, ![512, w]⟩ : Shape).Idx → Elt F e} (hg : tile k g = v)
    {hx : (M.access (Rect.unit (s := ⟨2, ![512, w]⟩) off ![128, w] inb)).Stores Finset.univ}
    {hm : (Finset.univ : Finset (⟨2, ![128, w]⟩ : Shape).Idx) = Finset.univ ∨ ∀ a, (Rect.unit (s := ⟨2, ![512, w]⟩) off ![128, w] inb).stride a = 1}
    {kk : PUnit → Prog (TpuEff nD τ sig (Elt F) Λ₀ .tc) α} {Q : α → sProp 𝕄} :
    heldAny (Elt F) (c : Thread nD τ) M (rowSet w (128 * k) 128)
      ⊢ iprop((held (c : Thread nD τ) M fullShare (rowSet w (128 * k) 128) g -∗ WP c (kk ⟨⟩) Q)
        -∗ WP c (.op (.store M (Rect.unit (s := ⟨2, ![512, w]⟩) off ![128, w] inb) v Finset.univ hx hm) kk) Q) :=
  wp_store_held 𝒱₀ (c : Thread nD τ) none (rect_set h inb) ((cutAt_tile h hk inb g).trans hg)

/-- A load of a whole array. -/
theorem load_whole (c : Dev nD) {cs : CoreSpace} {a b : ℕ} {e : EltTy} {M : Memref sig .tc cs ⟨2, ![a, b]⟩ e}
    {inb : ∀ x, (![0, 0] : Fin 2 → ℕ) x + (![a, b] : Fin 2 → ℕ) x ≤ (⟨2, ![a, b]⟩ : Shape).size x} {q : PosShare TreeShare}
    {g : (⟨2, ![a, b]⟩ : Shape).Idx → Elt F e}
    {hl : M.view.LoadsAt (Rect.unit (s := ⟨2, ![a, b]⟩) ![0, 0] ![a, b] inb).toLoadRect}
    {kk : ((⟨2, ![a, b]⟩ : Shape).Idx → Elt F e) → Prog (TpuEff nD τ sig (Elt F) Λ₀ .tc) α} {Q : α → sProp 𝕄} :
    held (c : Thread nD τ) M q Finset.univ g
      ⊢ iprop((held (c : Thread nD τ) M q Finset.univ g -∗ WP c (kk g) Q)
        -∗ WP c (.op (.load M (Rect.unit (s := ⟨2, ![a, b]⟩) ![0, 0] ![a, b] inb).toLoadRect hl) kk) Q) := by
  have e1 := cutAt_whole rfl inb g
  have := wp_load_held (defs := defs₀ (F := F)) 𝒱₀ (c : Thread nD τ) none (m := M) (hl := hl) (k := kk) (Q := Q) (q := q) (g := g) (Γ := []) (S := Finset.univ) (Finset.subset_univ _) (E := Set.univ)
  rw [e1] at this
  exact this

/-- A load of a whole array whose content does not matter. -/
theorem load_whole_any (c : Dev nD) {cs : CoreSpace} {a b : ℕ} {e : EltTy} {M : Memref sig .tc cs ⟨2, ![a, b]⟩ e}
    {inb : ∀ x, (![0, 0] : Fin 2 → ℕ) x + (![a, b] : Fin 2 → ℕ) x ≤ (⟨2, ![a, b]⟩ : Shape).size x}
    {hl : M.view.LoadsAt (Rect.unit (s := ⟨2, ![a, b]⟩) ![0, 0] ![a, b] inb).toLoadRect}
    {kk : ((⟨2, ![a, b]⟩ : Shape).Idx → Elt F e) → Prog (TpuEff nD τ sig (Elt F) Λ₀ .tc) α} {Q : α → sProp 𝕄} :
    heldAny (Elt F) (c : Thread nD τ) M Finset.univ
      ⊢ iprop((∀ v, heldAny (Elt F) (c : Thread nD τ) M Finset.univ -∗ WP c (kk v) Q)
        -∗ WP c (.op (.load M (Rect.unit (s := ⟨2, ![a, b]⟩) ![0, 0] ![a, b] inb).toLoadRect hl) kk) Q) :=
  wp_load_any 𝒱₀ (c : Thread nD τ) none (m := M) (r := (Rect.unit (s := ⟨2, ![a, b]⟩) ![0, 0] ![a, b] inb).toLoadRect) (hl := hl)
    (S := Finset.univ) (Finset.subset_univ _)

/-- A store of a whole array. -/
theorem store_whole (c : Dev nD) {cs : CoreSpace} {a b : ℕ} {e : EltTy} {M : Memref sig .tc cs ⟨2, ![a, b]⟩ e}
    {inb : ∀ x, (![0, 0] : Fin 2 → ℕ) x + (![a, b] : Fin 2 → ℕ) x ≤ (⟨2, ![a, b]⟩ : Shape).size x}
    {g : (⟨2, ![a, b]⟩ : Shape).Idx → Elt F e}
    {hx : (M.access (Rect.unit (s := ⟨2, ![a, b]⟩) ![0, 0] ![a, b] inb)).Stores Finset.univ}
    {hm : (Finset.univ : Finset (⟨2, ![a, b]⟩ : Shape).Idx) = Finset.univ ∨ ∀ x, (Rect.unit (s := ⟨2, ![a, b]⟩) ![0, 0] ![a, b] inb).stride x = 1}
    {kk : PUnit → Prog (TpuEff nD τ sig (Elt F) Λ₀ .tc) α} {Q : α → sProp 𝕄} :
    heldAny (Elt F) (c : Thread nD τ) M Finset.univ
      ⊢ iprop((held (c : Thread nD τ) M fullShare Finset.univ g -∗ WP c (kk ⟨⟩) Q)
        -∗ WP c (.op (.store M (Rect.unit (s := ⟨2, ![a, b]⟩) ![0, 0] ![a, b] inb) g Finset.univ hx hm) kk) Q) :=
  wp_store_held 𝒱₀ (c : Thread nD τ) none (rect_set_whole rfl inb) (cutAt_whole rfl inb g)

/-- A load of one matrix of a stack. -/
theorem load_slab (c : Dev nD) {cs : CoreSpace} {n a b : ℕ} [NeZero n] {e : EltTy} {M : Memref sig .tc cs ⟨3, ![n, a, b]⟩ e} {off : Fin 3 → ℕ} {k : ℕ}
    (h : off = ![k, 0, 0]) (hk : k < n)
    {inb : ∀ x, off x + (![1, a, b] : Fin 3 → ℕ) x ≤ (⟨3, ![n, a, b]⟩ : Shape).size x} {q : PosShare TreeShare}
    {g : (⟨3, ![n, a, b]⟩ : Shape).Idx → Elt F e}
    {hl : M.view.LoadsAt (Rect.unit (s := ⟨3, ![n, a, b]⟩) off ![1, a, b] inb).toLoadRect}
    {kk : ((⟨3, ![1, a, b]⟩ : Shape).Idx → Elt F e) → Prog (TpuEff nD τ sig (Elt F) Λ₀ .tc) α} {Q : α → sProp 𝕄} :
    held (c : Thread nD τ) M q (slabSet n a b k) g
      ⊢ iprop((held (c : Thread nD τ) M q (slabSet n a b k) g -∗ WP c (kk (slab k g)) Q)
        -∗ WP c (.op (.load M (Rect.unit (s := ⟨3, ![n, a, b]⟩) off ![1, a, b] inb).toLoadRect hl) kk) Q) := by
  rw [← cutAt_slab h hk inb g]
  exact wp_load_held 𝒱₀ (c : Thread nD τ) none (by
    rw [show (Rect.unit (s := ⟨3, ![n, a, b]⟩) off ![1, a, b] inb).toLoadRect.set = slabSet n a b k from
      (slab_rect_set h inb)])

end Cert.MoeKernelIdeal
-- ==== Proof.ICopies.lean ====
/-
Copies of rows and of matrices, in terms of what is held.
-/
module

public import proofs.«01_k».proof.Proof.ISteps

@[expose] public section

noncomputable section

namespace Cert.MoeKernelIdeal

open Cert.KernelIdeal Cert.KernelIdeal.Gen Cert.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable {α : Type}

/-! ## Offsets -/

/-- Offset 1 is that of the device's first tile. -/
theorem off1_eq (c : Dev nD) : k0_off1 c = ![128 * ck c 0, 0] := (k0_off1_eq c).trans (by revert c; decide)
/-- Offset 2 is that of the device's first tile. -/
theorem off2_eq (c : Dev nD) : k0_off2 c = ![128 * ck c 0, 0] := (k0_off2_eq c).trans (by revert c; decide)
/-- Offset 3 is that of the device's first tile. -/
theorem off3_eq (c : Dev nD) : k0_off3 c = ![128 * ck c 0, 0] := (k0_off3_eq c).trans (by revert c; decide)
/-- Offset 4 is that of the device's first tile. -/
theorem off4_eq (c : Dev nD) : k0_off4 c = ![128 * ck c 0, 0] := (k0_off4_eq c).trans (by revert c; decide)
/-- Offset 8 is that of the device's first tile. -/
theorem off8_eq (c : Dev nD) : k0_off8 c = ![128 * ck c 0, 0] := (k0_off8_eq c).trans (by revert c; decide)
/-- Offset 5 is that of its second tile. -/
theorem off5_eq (c : Dev nD) : k0_off5 c = ![128 * ck c 1, 0] := (k0_off5_eq c).trans (by revert c; decide)
/-- Offset 6 is that of its second tile. -/
theorem off6_eq (c : Dev nD) : k0_off6 c = ![128 * ck c 1, 0] := (k0_off6_eq c).trans (by revert c; decide)
/-- Offset 7 is that of its second tile. -/
theorem off7_eq (c : Dev nD) : k0_off7 c = ![128 * ck c 1, 0] := (k0_off7_eq c).trans (by revert c; decide)
/-- Offset 15 is that of its second tile. -/
theorem off15_eq (c : Dev nD) : k0_off15 c = ![128 * ck c 1, 0] := (k0_off15_eq c).trans (by revert c; decide)
/-- Offset 9 is that of its third tile. -/
theorem off9_eq (c : Dev nD) : k0_off9 c = ![128 * ck c 2, 0] := (k0_off9_eq c).trans (by revert c; decide)
/-- Offset 10 is that of its third tile. -/
theorem off10_eq (c : Dev nD) : k0_off10 c = ![128 * ck c 2, 0] := (k0_off10_eq c).trans (by revert c; decide)
/-- Offset 11 is that of its third tile. -/
theorem off11_eq (c : Dev nD) : k0_off11 c = ![128 * ck c 2, 0] := (k0_off11_eq c).trans (by revert c; decide)
/-- Offset 16 is that of its third tile. -/
theorem off16_eq (c : Dev nD) : k0_off16 c = ![128 * ck c 2, 0] := (k0_off16_eq c).trans (by revert c; decide)
/-- Offset 12 is that of its fourth tile. -/
theorem off12_eq (c : Dev nD) : k0_off12 c = ![128 * ck c 3, 0] := (k0_off12_eq c).trans (by revert c; decide)
/-- Offset 13 is that of its fourth tile. -/
theorem off13_eq (c : Dev nD) : k0_off13 c = ![128 * ck c 3, 0] := (k0_off13_eq c).trans (by revert c; decide)
/-- Offset 14 is that of its fourth tile. -/
theorem off14_eq (c : Dev nD) : k0_off14 c = ![128 * ck c 3, 0] := (k0_off14_eq c).trans (by revert c; decide)
/-- Offset 17 is that of its fourth tile. -/
theorem off17_eq (c : Dev nD) : k0_off17 c = ![128 * ck c 3, 0] := (k0_off17_eq c).trans (by revert c; decide)

/-! ## Copies of rows, of whole buffers and of matrices -/

/-- The `k`-th remote copy, of rows. -/
theorem send_rows (c : Dev nD) (k : Fin 12) {t n : Dev nD} (ht : t = dst k.val c) (hn : n = t) {w lo nn : ℕ} {el : EltTy}
    {M : Memref sig .tc .vmem ⟨2, ![512, w]⟩ el} {M' : Memref sig .tc .vmem ⟨2, ![512, w]⟩ el} {off : Fin 2 → ℕ} (h : off = ![lo, 0])
    {inb : ∀ a, off a + (![nn, w] : Fin 2 → ℕ) a ≤ (⟨2, ![512, w]⟩ : Shape).size a}
    {hr : ∀ a, (Rect.unit (s := ⟨2, ![512, w]⟩) off ![nn, w] inb).stride a = 1}
    {sS sR : SemLoc sig}
    (hS : sS = .dma (sndS k)) (hR : sR = .dma (rcvS k))
    {hsc : (M'.slice (Rect.unit (s := ⟨2, ![512, w]⟩) off ![nn, w] inb) hr).view.ref.isScScratch = false}
    {hsrc : (M.slice (Rect.unit (s := ⟨2, ![512, w]⟩) off ![nn, w] inb) hr).view.WordExact}
    {hdst : (M'.slice (Rect.unit (s := ⟨2, ![512, w]⟩) off ![nn, w] inb) hr).view.WordExact}
    {hsem : DmaTarget.Typed .vmem sR (.remote (Dev.tc n : Thread nD τ) (M'.slice (Rect.unit (s := ⟨2, ![512, w]⟩) off ![nn, w] inb) hr) sS hsc)}
    {q : PosShare TreeShare} {g : (⟨2, ![512, w]⟩ : Shape).Idx → Elt F el}
    (hN : RefSig.tileCredit ⟨2, ![nn, w]⟩ el = amt (15 + k.val))
    (h₁ : held (c : Thread nD τ) M q (rowSet w lo nn) g ⊢ sndPay m c k.val)
    (h₂ : held (t : Thread nD τ) M' fullShare (rowSet w lo nn) g ⊢ rcvPay m t k.val)
    {kk : PUnit → Prog (TpuEff nD τ sig (Elt F) Λ₀ .tc) α} {Q : α → sProp 𝕄} :
    iprop(recs m ∗ held (c : Thread nD τ) M q (rowSet w lo nn) g ∗ heldAny (Elt F) (t : Thread nD τ) M' (rowSet w lo nn)
        ∗ sndPre c k ∗ Ow c (owed c k.val))
      ⊢ iprop(((waitable c (sndS k) ∗ Ow c (owed c (k.val + 1))) -∗ WP c (kk ⟨⟩) Q)
        -∗ WP c (.op (.enqueueDma (M.slice (Rect.unit (s := ⟨2, ![512, w]⟩) off ![nn, w] inb) hr)
            (.remote (Dev.tc n : Thread nD τ) (M'.slice (Rect.unit (s := ⟨2, ![512, w]⟩) off ![nn, w] inb) hr) sS hsc) sR hsrc hdst hsem) kk) Q) := by
  have e := rect_set h inb
  have e1 : held (c : Thread nD τ) (M.slice (Rect.unit (s := ⟨2, ![512, w]⟩) off ![nn, w] inb) hr) q Finset.univ
      (cutAt (Rect.unit (s := ⟨2, ![512, w]⟩) off ![nn, w] inb).toLoadRect g) = (held (c : Thread nD τ) M q (rowSet w lo nn) g : sProp 𝕄) := by
    rw [held_slice, e]
  have e2 : held (t : Thread nD τ) (M'.slice (Rect.unit (s := ⟨2, ![512, w]⟩) off ![nn, w] inb) hr) fullShare Finset.univ
      (cutAt (Rect.unit (s := ⟨2, ![512, w]⟩) off ![nn, w] inb).toLoadRect g) = (held (t : Thread nD τ) M' fullShare (rowSet w lo nn) g : sProp 𝕄) := by
    rw [held_slice, e]
  have e3 : heldAny (Elt F) (t : Thread nD τ) (M'.slice (Rect.unit (s := ⟨2, ![512, w]⟩) off ![nn, w] inb) hr) Finset.univ
      = (heldAny (Elt F) (t : Thread nD τ) M' (rowSet w lo nn) : sProp 𝕄) := by
    rw [heldAny_slice, e]
  rw [← e1, ← e3]
  exact send m c k ht hn hS hR ((show _ = RefSig.tileCredit ⟨2, ![nn, w]⟩ el by subst hR; rfl).trans hN) ((Entails.of_eq e1).trans h₁) ((Entails.of_eq e2).trans h₂)

/-- What a wait on a copy of rows takes. -/
theorem credit_rows {w nn : ℕ} {el : EltTy} {M : Memref sig .tc .vmem ⟨2, ![512, w]⟩ el} {off : Fin 2 → ℕ}
    {inb : ∀ a, off a + (![nn, w] : Fin 2 → ℕ) a ≤ (⟨2, ![512, w]⟩ : Shape).size a}
    {hr : ∀ a, (Rect.unit (s := ⟨2, ![512, w]⟩) off ![nn, w] inb).stride a = 1} {N : ℕ} (hN : RefSig.tileCredit ⟨2, ![nn, w]⟩ el = N) :
    (M.slice (Rect.unit (s := ⟨2, ![512, w]⟩) off ![nn, w] inb) hr).view.dmaCredit = N := hN

/-- What a wait on a copy of one matrix takes. -/
theorem credit_slab {a b : ℕ} {el : EltTy} {sp : Space} {M : Memref sig .tc sp ⟨3, ![2, a, b]⟩ el} {off : Fin 3 → ℕ}
    {inb : ∀ x, off x + (![1, a, b] : Fin 3 → ℕ) x ≤ (⟨3, ![2, a, b]⟩ : Shape).size x}
    {hr : ∀ x, (Rect.unit (s := ⟨3, ![2, a, b]⟩) off ![1, a, b] inb).stride x = 1}
    {hq : (⟨3, ![1, a, b]⟩ : Shape).Squeezes ⟨2, ![a, b]⟩} {N : ℕ} (hN : RefSig.tileCredit ⟨2, ![a, b]⟩ el = N) :
    ((M.slice (Rect.unit (s := ⟨3, ![2, a, b]⟩) off ![1, a, b] inb) hr).squeeze ⟨2, ![a, b]⟩ hq).view.dmaCredit = N := hN

/-- The `k`-th local copy, of one matrix of a stack into one of two. -/
theorem copy_slab (c : Dev nD) (k : Fin 4) {sp sp' : Space} {n a b e j : ℕ} [NeZero n] (he : e < n) (hj : j < 2) {el : EltTy}
    {M : Memref sig .tc sp ⟨3, ![n, a, b]⟩ el} {M' : Memref sig .tc sp' ⟨3, ![2, a, b]⟩ el} {off off' : Fin 3 → ℕ}
    (h : off = ![e, 0, 0]) (h' : off' = ![j, 0, 0])
    {inb : ∀ x, off x + (![1, a, b] : Fin 3 → ℕ) x ≤ (⟨3, ![n, a, b]⟩ : Shape).size x}
    {inb' : ∀ x, off' x + (![1, a, b] : Fin 3 → ℕ) x ≤ (⟨3, ![2, a, b]⟩ : Shape).size x}
    {hr : ∀ x, (Rect.unit (s := ⟨3, ![n, a, b]⟩) off ![1, a, b] inb).stride x = 1}
    {hr' : ∀ x, (Rect.unit (s := ⟨3, ![2, a, b]⟩) off' ![1, a, b] inb').stride x = 1}
    {hq hq' : (⟨3, ![1, a, b]⟩ : Shape).Squeezes ⟨2, ![a, b]⟩}
    {sR : SemLoc sig} (hR : sR = .dma (cpyS k))
    {hsrc : ((M.slice (Rect.unit (s := ⟨3, ![n, a, b]⟩) off ![1, a, b] inb) hr).squeeze ⟨2, ![a, b]⟩ hq).view.WordExact}
    {hdst : ((M'.slice (Rect.unit (s := ⟨3, ![2, a, b]⟩) off' ![1, a, b] inb') hr').squeeze ⟨2, ![a, b]⟩ hq').view.WordExact}
    {hsem : DmaTarget.Typed sp sR (DmaTarget.here (nD := nD) (p := (Proc.tc : Proc τ)) ((M'.slice (Rect.unit (s := ⟨3, ![2, a, b]⟩) off' ![1, a, b] inb') hr').squeeze ⟨2, ![a, b]⟩ hq'))}
    {g : (⟨3, ![n, a, b]⟩ : Shape).Idx → Elt F el} {g' : (⟨3, ![2, a, b]⟩ : Shape).Idx → Elt F el} (hg : slab j g' = slab e g)
    (hN : RefSig.tileCredit ⟨2, ![a, b]⟩ el = amt (27 + k.val))
    (hp : iprop(held (c : Thread nD τ) M' fullShare (slabSet 2 a b j) g' ∗ held (c : Thread nD τ) M fullShare (slabSet n a b e) g) ⊢ cpyPay m c k.val)
    {kk : PUnit → Prog (TpuEff nD τ sig (Elt F) Λ₀ .tc) α} {Q : α → sProp 𝕄} :
    iprop(recs m ∗ held (c : Thread nD τ) M fullShare (slabSet n a b e) g ∗ heldAny (Elt F) (c : Thread nD τ) M' (slabSet 2 a b j) ∗ cpyPre c k)
      ⊢ iprop((waitable c (cpyS k) -∗ WP c (kk ⟨⟩) Q)
        -∗ WP c (.op (.enqueueDma ((M.slice (Rect.unit (s := ⟨3, ![n, a, b]⟩) off ![1, a, b] inb) hr).squeeze ⟨2, ![a, b]⟩ hq)
            (.here ((M'.slice (Rect.unit (s := ⟨3, ![2, a, b]⟩) off' ![1, a, b] inb') hr').squeeze ⟨2, ![a, b]⟩ hq')) sR hsrc hdst hsem) kk) Q) := by
  have e1 : held (c : Thread nD τ) ((M.slice (Rect.unit (s := ⟨3, ![n, a, b]⟩) off ![1, a, b] inb) hr).squeeze ⟨2, ![a, b]⟩ hq) fullShare Finset.univ
      (fun i => slab e g (Shape.reshapeEquiv hq.numel_eq i)) = (held (c : Thread nD τ) M fullShare (slabSet n a b e) g : sProp 𝕄) := by
    rw [held_squeeze, ← cutAt_slab h he inb g, held_slice, slab_rect_set h inb]
  have e2 : held (c : Thread nD τ) ((M'.slice (Rect.unit (s := ⟨3, ![2, a, b]⟩) off' ![1, a, b] inb') hr').squeeze ⟨2, ![a, b]⟩ hq') fullShare Finset.univ
      (fun i => slab e g (Shape.reshapeEquiv hq'.numel_eq i)) = (held (c : Thread nD τ) M' fullShare (slabSet 2 a b j) g' : sProp 𝕄) := by
    rw [held_squeeze, ← hg, ← cutAt_slab h' hj inb' g', held_slice, slab_rect_set h' inb']
  have e3 : heldAny (Elt F) (c : Thread nD τ) ((M'.slice (Rect.unit (s := ⟨3, ![2, a, b]⟩) off' ![1, a, b] inb') hr').squeeze ⟨2, ![a, b]⟩ hq') Finset.univ
      = (heldAny (Elt F) (c : Thread nD τ) M' (slabSet 2 a b j) : sProp 𝕄) := by
    rw [heldAny_squeeze, heldAny_slice, slab_rect_set h' inb']
  rw [← e1, ← e3]
  refine copy m c k hR ((show _ = RefSig.tileCredit ⟨2, ![a, b]⟩ el by subst hR; rfl).trans hN) ((Entails.of_eq ?_).trans hp)
  rw [← e1, ← e2]

/-! ## The contents that a landing has on the other device -/

/-- The x neighbour's last two tiles are the device's first two, -/
theorem ck_xnb_lo (c : Dev nD) {i : ℕ} (hi : i < 2) : ck (xnb c) (i + 2) = ck c i := by
  have := px_xnb c; have := px_le c
  unfold ck; rw [if_neg (by omega), if_pos hi]; omega
/-- and its first two the device's last two. -/
theorem ck_xnb_hi (c : Dev nD) {i : ℕ} (hi : i < 2) : ck (xnb c) i = ck c (i + 2) := by
  have := px_xnb c; have := px_le c
  unfold ck; rw [if_neg (by omega : ¬ i + 2 < 2), if_pos hi]; omega

/-- The tokens that land at the y neighbour, -/
theorem land0 (c : Dev nD) : (held (ynb c : Thread nD τ) xrM fullShare (rowSet 1024 (128 * ck c 0) 256) (XS m c) : sProp 𝕄) ⊢ rcvPay m (ynb c) 0 := by
  show _ ⊢ held (ynb c : Thread nD τ) xrM fullShare (rowSet 1024 (128 * ck (ynb c) 0) 256) (XR m (ynb c))
  rw [ck_ynb]
  refine held_congr fun i hi => ?_
  rw [mem_rowSet] at hi
  have : ck c 0 = 2 * px c + 0 := if_pos (by decide)
  unfold XR
  rw [if_pos (by rw [px_ynb]; omega), ynb_ynb]
/-- the router columns, -/
theorem land1 (c : Dev nD) : (held (ynb c : Thread nD τ) rrM fullShare Finset.univ (rstg m c) : sProp 𝕄) ⊢ rcvPay m (ynb c) 1 := by
  show _ ⊢ held (ynb c : Thread nD τ) rrM fullShare Finset.univ (rstg m (ynb (ynb c)))
  rw [ynb_ynb]
/-- the weights, -/
theorem land2 (c : Dev nD) : (held (ynb c : Thread nD τ) wrM fullShare Finset.univ (WS m c) : sProp 𝕄) ⊢ rcvPay m (ynb c) 2 := by
  show _ ⊢ held (ynb c : Thread nD τ) wrM fullShare Finset.univ (WS m (ynb (ynb c)))
  rw [ynb_ynb]
/-- the forwarded tokens at the x neighbour, -/
theorem land3 (c : Dev nD) : (held (xnb c : Thread nD τ) xrM fullShare (rowSet 1024 (128 * ck c 0) 256) (XR m c) : sProp 𝕄) ⊢ rcvPay m (xnb c) 3 := by
  show _ ⊢ held (xnb c : Thread nD τ) xrM fullShare (rowSet 1024 (128 * ck (xnb c) 2) 256) (XR m (xnb c))
  rw [ck_xnb_lo c (i := 0) (by decide)]
  refine held_congr fun i hi => ?_
  rw [mem_rowSet] at hi
  have : ck c 0 = 2 * px c + 0 := if_pos (by decide)
  have := px_xnb c; have := px_le c
  unfold XR
  rw [if_pos (by omega), if_neg (by omega), xnb_xnb]
/-- the parts at the y neighbour, -/
theorem land4 (c : Dev nD) {i : ℕ} (hi : i < 4) :
    (held (ynb c : Thread nD τ) prM fullShare (rowSet 1024 (128 * ck c i) 128) (PS m c) : sProp 𝕄) ⊢ rcvPay m (ynb c) (i + 4) := by
  unfold rcvPay
  simp only []
  rw [if_pos hi, ck_ynb, ynb_ynb]
/-- and the sums at the x neighbour: what was sent is what the target expects. -/
theorem land8 (c : Dev nD) {i : ℕ} :
    (held (xnb c : Thread nD τ) srM fullShare (rowSet 1024 (128 * ck c i) 128) (SS m c) : sProp 𝕄) ⊢ rcvPay m (xnb c) (i + 4 + 4) := by
  unfold rcvPay
  simp only []
  rw [if_neg (by omega), xnb_xnb, Nat.add_sub_cancel]
/-- A send of a part hands the source back, -/
theorem back4 (c : Dev nD) {i : ℕ} (hi : i < 4) :
    sndPay m c (i + 4) = (held (c : Thread nD τ) psM fullShare (rowSet 1024 (128 * ck c i) 128) (PS m c) : sProp 𝕄) := by
  unfold sndPay
  simp only []
  rw [if_pos hi]
/-- as does a send of a sum, -/
theorem back8 (c : Dev nD) {i : ℕ} :
    sndPay m c (i + 4 + 4) = (held (c : Thread nD τ) ssM fullShare (rowSet 1024 (128 * ck c i) 128) (SS m c) : sProp 𝕄) := by
  unfold sndPay
  simp only []
  rw [if_neg (by omega), Nat.add_sub_cancel]
/-- the send of the tokens, -/
theorem back0 (c : Dev nD) : sndPay m c 0 = (held (c : Thread nD τ) xsM (PosShare.left fullShare) (rowSet 1024 (128 * ck c 0) 256) (XS m c) : sProp 𝕄) := rfl
/-- of the router columns, -/
theorem back1 (c : Dev nD) : sndPay m c 1 = (held (c : Thread nD τ) rM fullShare Finset.univ (rstg m c) : sProp 𝕄) := rfl
/-- of the weights, -/
theorem back2 (c : Dev nD) : sndPay m c 2 = (held (c : Thread nD τ) wsM fullShare Finset.univ (WS m c) : sProp 𝕄) := rfl
/-- and the forwarding. -/
theorem back3 (c : Dev nD) : sndPay m c 3 = (held (c : Thread nD τ) xrM (PosShare.left fullShare) (rowSet 1024 (128 * ck c 0) 256) (XR m c) : sProp 𝕄) := rfl
/-- What is received: the y neighbour's half of the tokens, -/
theorem got0 (c : Dev nD) : rcvPay m c 0 = (held (c : Thread nD τ) xrM fullShare (rowSet 1024 (128 * ck c 0) 256) (XR m c) : sProp 𝕄) := rfl
/-- its router columns, -/
theorem got1 (c : Dev nD) : rcvPay m c 1 = (held (c : Thread nD τ) rrM fullShare Finset.univ (rstg m (ynb c)) : sProp 𝕄) := rfl
/-- its weights, -/
theorem got2 (c : Dev nD) : rcvPay m c 2 = (held (c : Thread nD τ) wrM fullShare Finset.univ (WS m (ynb c)) : sProp 𝕄) := rfl
/-- and the other half of its tokens, from the x neighbour. -/
theorem got3 (c : Dev nD) : rcvPay m c 3 = (held (c : Thread nD τ) xrM fullShare (rowSet 1024 (128 * ck c 2) 256) (XR m c) : sProp 𝕄) := rfl
/-- A fetched first matrix and its source, -/
theorem gotA (c : Dev nD) (j : ℕ) : cpyPay m c (2 * j) = (iprop(held (c : Thread nD τ) w1M fullShare (slabSet 2 1024 2048 j) (W1P m c)
      ∗ held (c : Thread nD τ) w1A fullShare (slabSet 4 1024 2048 (2 * px c + j)) (w1V m c)) : sProp 𝕄) := by
  unfold cpyPay; rw [if_pos (by omega), Nat.mul_div_cancel_left _ (by decide)]
/-- and a second one. -/
theorem gotB (c : Dev nD) (j : ℕ) : cpyPay m c (2 * j + 1) = (iprop(held (c : Thread nD τ) w2M fullShare (slabSet 2 2048 1024 j) (W2P m c)
      ∗ held (c : Thread nD τ) w2A fullShare (slabSet 4 2048 1024 (2 * px c + j)) (w2V m c)) : sProp 𝕄) := by
  unfold cpyPay; rw [if_neg (by omega), show (2 * j + 1) / 2 = j by omega]
/-- A part received from the y neighbour, -/
theorem got4 (c : Dev nD) {i : ℕ} (hi : i < 4) :
    rcvPay m c (i + 4) = (held (c : Thread nD τ) prM fullShare (rowSet 1024 (128 * ck c i) 128) (PS m (ynb c)) : sProp 𝕄) := by
  unfold rcvPay
  simp only []
  rw [if_pos hi]
/-- and a sum from the x neighbour, by the neighbour's order of the tiles, -/
theorem got8 (c : Dev nD) {i : ℕ} :
    rcvPay m c (i + 4 + 4) = (held (c : Thread nD τ) srM fullShare (rowSet 1024 (128 * ck (xnb c) i) 128) (SS m (xnb c)) : sProp 𝕄) := by
  unfold rcvPay
  simp only []
  rw [if_neg (by omega), Nat.add_sub_cancel]
/-- by the device's own order, of the first two sums, -/
theorem got8lo (c : Dev nD) {i : ℕ} (hi : i < 2) :
    rcvPay m c (i + 4 + 4) = (held (c : Thread nD τ) srM fullShare (rowSet 1024 (128 * ck c (i + 2)) 128) (SS m (xnb c)) : sProp 𝕄) := by
  rw [got8, ck_xnb_hi c hi]
/-- and of the last two. -/
theorem got8hi (c : Dev nD) {i : ℕ} (hi : i < 2) :
    rcvPay m c (i + 2 + 4 + 4) = (held (c : Thread nD τ) srM fullShare (rowSet 1024 (128 * ck c i) 128) (SS m (xnb c)) : sProp 𝕄) := by
  rw [got8, ck_xnb_lo c hi]

end Cert.MoeKernelIdeal
-- ==== Proof.IPart1.lean ====
/-
The first part of the body.
-/
module

public import proofs.«01_k».proof.Proof.ICopies

@[expose] public section

noncomputable section

namespace Cert.MoeKernelIdeal

open Cert.KernelIdeal Cert.KernelIdeal.Gen Cert.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What is held, abbreviated -/

/-- A whole buffer at a content, -/
abbrev full {cs : Space} {s : Shape} {e : EltTy} (c : Dev nD) (M : Memref sig .tc cs s e) (g : s.Idx → Elt F e) : sProp 𝕄 :=
  held (c : Thread nD τ) M fullShare Finset.univ g
/-- and at some content. -/
abbrev anyU {cs : Space} {s : Shape} {e : EltTy} (c : Dev nD) (M : Memref sig .tc cs s e) : sProp 𝕄 :=
  heldAny (Elt F) (c : Thread nD τ) M Finset.univ
/-- Tile `k` at a content, -/
abbrev tl {e : EltTy} (c : Dev nD) (M : Memref sig .tc .vmem S512x1024 e) (k : ℕ) (g : S512x1024.Idx → Elt F e) : sProp 𝕄 :=
  held (c : Thread nD τ) M fullShare (rowSet 1024 (128 * k) 128) g
/-- tile `k` at some content, -/
abbrev tlAny {e : EltTy} (c : Dev nD) (M : Memref sig .tc .vmem S512x1024 e) (k : ℕ) : sProp 𝕄 :=
  heldAny (Elt F) (c : Thread nD τ) M (rowSet 1024 (128 * k) 128)
/-- and half of the rows, from tile `k` on. -/
abbrev hfAny {e : EltTy} (c : Dev nD) (M : Memref sig .tc .vmem S512x1024 e) (k : ℕ) : sProp 𝕄 :=
  heldAny (Elt F) (c : Thread nD τ) M (rowSet 1024 (128 * k) 256)
/-- Half of the rows, from tile `k` on, at a content and with a share. -/
abbrev hf {e : EltTy} (c : Dev nD) (M : Memref sig .tc .vmem S512x1024 e) (q : PosShare TreeShare) (k : ℕ) (g : S512x1024.Idx → Elt F e) : sProp 𝕄 :=
  held (c : Thread nD τ) M q (rowSet 1024 (128 * k) 256) g

/-- A finished program. -/
theorem ret_intro {α : Type} (c : Dev nD) {a : α} {Q : α → sProp 𝕄} : Q a ⊢ WP c (.ret a) Q := by
  unfold WP; rw [wp_ret]; iintro H; imodintro; iexact H

/-- A finished program whose result is known under another name. -/
theorem ret_to {α : Type} (c : Dev nD) {a b : α} (h : a = b) {Q : α → sProp 𝕄} : Q b ⊢ WP c (.ret a) Q := by
  subst h; exact ret_intro c

/-! ## The barrier -/

/-- What the barrier needs: the duties at both neighbours' barriers and the own position and credit. -/
def barPre (c : Dev nD) : sProp 𝕄 :=
  iprop(dutyTok ER (barCell (ynb c)) 0 false ∗ dutyTok ER (barCell (xnb c)) 0 true ∗ cred (tallyAt (barCell c) () 2) ∗ atPos ER (barCell c) 0 ∅ 0)

/-- The buffers of its own that a device lends to its neighbours, -/
def lend (c : Dev nD) : sProp 𝕄 :=
  iprop(hfAny c xrM (ck c 0) ∗ hfAny c xrM (ck c 2) ∗ anyU c rrM ∗ anyU c wrM ∗ anyU c prM ∗ anyU c srM)
/-- and the buffers of theirs that it is lent. -/
def lent (c : Dev nD) : sProp 𝕄 :=
  iprop((hfAny (ynb c) xrM (ck c 0) ∗ anyU (ynb c) rrM ∗ anyU (ynb c) wrM ∗ anyU (ynb c) prM) ∗ hfAny (xnb c) xrM (ck c 0) ∗ anyU (xnb c) srM)

/-- What a device lends its y neighbour with its signal, -/
theorem barPay_false (c : Dev nD) : iprop(hfAny c xrM (ck c 0) ∗ anyU c rrM ∗ anyU c wrM ∗ anyU c prM) ⊢ (Rd m).payload (barCell (ynb c)) 0 false := by
  show _ ⊢ iprop(heldAny (Elt F) (ynb (ynb c) : Thread nD τ) xrM (rowSet 1024 (128 * ck (ynb c) 0) 256)
      ∗ heldAny (Elt F) (ynb (ynb c) : Thread nD τ) rrM Finset.univ ∗ heldAny (Elt F) (ynb (ynb c) : Thread nD τ) wrM Finset.univ
      ∗ heldAny (Elt F) (ynb (ynb c) : Thread nD τ) prM Finset.univ)
  rw [ynb_ynb, ck_ynb]
/-- and its x neighbour. -/
theorem barPay_true (c : Dev nD) : iprop(hfAny c xrM (ck c 2) ∗ anyU c srM) ⊢ (Rd m).payload (barCell (xnb c)) 0 true := by
  show _ ⊢ iprop(heldAny (Elt F) (xnb (xnb c) : Thread nD τ) xrM (rowSet 1024 (128 * ck (xnb c) 0) 256)
      ∗ heldAny (Elt F) (xnb (xnb c) : Thread nD τ) srM Finset.univ)
  rw [xnb_xnb, ck_xnb_hi c (i := 0) (by decide)]

/-- The barrier may be awaited while all remote copies are owed. -/
theorem mayWait_bar (c : Dev nD) : (levAts L lv : sProp 𝕄) ⊢ MayWait (c : Thread nD τ) (.reg barS) () (owed c 0) :=
  mayWait c _ 0 (by show 1 < 2 + 0; decide)

set_option maxHeartbeats 800000 in
/-- The first part: the handshake, and the tokens rounded for sending. -/
theorem part1 (c : Dev nD) (Kt : (Σ' (_ : Dev nD) (_ : BitVec 32) (_ : BitVec 32) (_ : BitVec 32) (_ : BitVec 32) (_ : BitVec 32) (_ : BitVec 32) (_ : BitVec 32), BitVec 32) → sProp 𝕄) :
    iprop(recs m ∗ barPre c ∗ Ow c (O₀ c) ∗ lend c ∗ full c xM (xstg m c) ∗ anyU c xsM
        ∗ (∀ v5 v6 v7 v8 v10 v11 v12, (lent c ∗ Ow c (owed c 0) ∗ semVal (barCell c) 0 ∗ full c xM (xstg m c) ∗ full c xsM (XS m c))
            -∗ Kt ⟨c, v2 c, v5, v6, v7, v8, v10, v11, v12⟩))
      ⊢ WP c (k0_part1_skel xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14) Kt := by
  unfold k0_part1_skel v2
  simp only [semSignalWord, semWaitWord, Prog.lift, Prog.bind_op, Prog.bind_ret, Prog.pure_eq_ret, wp_deviceId]
  simp only [dev1_eq c, dev2_eq c]
  unfold barPre Ow lend
  iintro ⟨#HR, ⟨Ht1, Ht2, Hc, Hat⟩, ⟨%W, HO⟩, ⟨Hq, Hf, Hrr, Hwr, Hpr, Hsr⟩, Hx, Hxs, Hk⟩
  ihave HI1 := (inv_bar m (ynb c)) $$ HR
  icases HI1 with ⟨%κ₁, #HI1⟩
  ihave HI2 := (inv_bar m (xnb c)) $$ HR
  icases HI2 with ⟨%κ₂, #HI2⟩
  ihave HI := (inv_bar m c) $$ HR
  icases HI with ⟨%κ, #HI⟩
  iapply (Rounds.wp_signal 𝒱₀ ER (Rd m) (c : Thread nD τ) none (dst := (ynb c : Thread nD τ)) (κ := κ₁)
      (d := false) (by rw [duties_bar]; exact Finset.mem_univ _) (by show 1 = _; decide) () (O₁ c) rfl)
    $$ [HO Ht1 Hq Hrr Hwr Hpr]
  · isplitr; · iexact HI1
    isplitl [HO]; · iexact HO
    isplitl [Ht1]; · iexact Ht1
    isplitl [Hq Hrr Hwr Hpr]
    · iapply (barPay_false m c)
      isplitl [Hq]; · iexact Hq
      isplitl [Hrr]; · iexact Hrr
      isplitl [Hwr] <;> iassumption
    iapply (reached_bar m (ynb c)); iexact HR
  iintro HO
  unfold O₁
  iapply (Rounds.wp_signal 𝒱₀ ER (Rd m) (c : Thread nD τ) none (dst := (xnb c : Thread nD τ)) (κ := κ₂)
      (d := true) (by rw [duties_bar]; exact Finset.mem_univ _) (by show 1 = _; decide) () (owed c 0) rfl)
    $$ [HO Ht2 Hf Hsr]
  · isplitr; · iexact HI2
    isplitl [HO]; · iexact HO
    isplitl [Ht2]; · iexact Ht2
    isplitl [Hf Hsr]
    · iapply (barPay_true m c)
      isplitl [Hf] <;> iassumption
    iapply (reached_bar m (xnb c)); iexact HR
  iintro HO
  iapply (Rounds.wp_wait_rest_token 𝒱₀ ER (Rd m) (c : Thread nD τ) none (κ := κ)
      (wpE_semWait_eq 𝒱₀ (c : Thread nD τ) none Set.univ) (Set.mem_univ _) () (O := owed c 0) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar (F := F) c); iapply (recs_lev m); iexact HR
    iexact Hat
  iintro ⟨HO, Hat, -, Hpay⟩
  ihave Hp := (Entails.of_eq (rest_bar m c)) $$ Hpay
  imod (Rounds.cell_close ER (Rd m) (Set.mem_univ κ) (fun h => h) (R := 0 + 1) (duties_later m (barCell c))) $$ [Hat] with Hz
  · isplitr; · iexact HI
    iexact Hat
  iapply (load_whole c) $$ Hx; iintro Hx
  iapply (load_whole_any c) $$ Hxs; iintro %_ Hxs
  iapply (store_whole c) $$ Hxs; iintro Hxs
  iapply (ret_intro c)
  iapply Hk
  unfold lent
  isplitl [Hp]; · iexact Hp
  isplitl [HO]; · iexists _; iexact HO
  isplitl [Hz]; · iexact Hz
  isplitl [Hx]; · iexact Hx
  iexact Hxs

end Cert.MoeKernelIdeal
-- ==== Proof.IPieces.lean ====
/-
A buffer as its halves, its tiles or its matrices.
-/
module

public import proofs.«01_k».proof.Proof.IPart1

@[expose] public section

noncomputable section

namespace Cert.MoeKernelIdeal

open Cert.KernelIdeal Cert.KernelIdeal.Gen Cert.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Rows and tiles together -/

omit [FloatOps F] in
/-- The 512 rows are two halves, in either device's order. -/
theorem rows_halves (c : Dev nD) {w : ℕ} : (Finset.univ : Finset (⟨2, ![512, w]⟩ : Shape).Idx) = rowSet w (128 * ck c 0) 256 ∪ rowSet w (128 * ck c 2) 256 := by
  ext i
  have hi : (i 0).val < 512 := (i 0).isLt
  rw [Finset.mem_union, mem_rowSet, mem_rowSet]
  have e0 : ck c 0 = 2 * px c := if_pos (by decide)
  have e2 : ck c 2 = 2 - 2 * px c := if_neg (by decide)
  have := px_le c
  rw [e0, e2]
  exact ⟨fun _ => by omega, fun _ => Finset.mem_univ _⟩
omit [FloatOps F] in
/-- The halves do not overlap. -/
theorem halves_disj (c : Dev nD) {w : ℕ} : Disjoint (rowSet w (128 * ck c 0) 256) (rowSet w (128 * ck c 2) 256) := by
  have e0 : ck c 0 = 2 * px c := if_pos (by decide)
  have e2 : ck c 2 = 2 - 2 * px c := if_neg (by decide)
  have := px_le c
  exact rowSet_disjoint (by omega)
omit [FloatOps F] in
/-- A half is two tiles. -/
theorem half_tiles (c : Dev nD) {w : ℕ} (a : ℕ) (h : a = 0 ∨ a = 2) :
    rowSet w (128 * ck c a) 256 = rowSet w (128 * ck c a) 128 ∪ rowSet w (128 * ck c (a + 1)) 128 := by
  have e : ck c (a + 1) = ck c a + 1 := by
    have := px_le c
    unfold ck
    rcases h with rfl | rfl
    · rw [if_pos (by omega), if_pos (by omega)]
    · rw [if_neg (by omega), if_neg (by omega)]; omega
  rw [e, show 128 * (ck c a + 1) = 128 * ck c a + 128 by omega, rowSet_union]
omit [FloatOps F] in
/-- The two tiles of a half do not overlap. -/
theorem tiles_disj (c : Dev nD) {w : ℕ} (a : ℕ) (h : a = 0 ∨ a = 2) :
    Disjoint (rowSet w (128 * ck c a) 128) (rowSet w (128 * ck c (a + 1)) 128) := by
  have e : ck c (a + 1) = ck c a + 1 := by
    have := px_le c
    unfold ck
    rcases h with rfl | rfl
    · rw [if_pos (by omega), if_pos (by omega)]
    · rw [if_neg (by omega), if_neg (by omega)]; omega
  exact rowSet_disjoint (by omega)

section
variable {e : EltTy} (t c : Dev nD) (M : Memref sig .tc .vmem S512x1024 e)

omit [FloatOps F] in
/-- A buffer at some content is two halves at some content. -/
theorem halves_any : (anyU t M : sProp 𝕄) ⊢ iprop(hfAny t M (ck c 0) ∗ hfAny t M (ck c 2)) :=
  (Entails.of_eq (congrArg (heldAny (Elt F) (t : Thread nD τ) M) (rows_halves c))).trans (heldAny_split (halves_disj c))
omit [FloatOps F] in
/-- Two halves at one content are the buffer, -/
theorem halves_join {g : S512x1024.Idx → Elt F e} {q : PosShare TreeShare} :
    iprop(hf t M q (ck c 0) g ∗ hf t M q (ck c 2) g) ⊢ (held (t : Thread nD τ) M q Finset.univ g : sProp 𝕄) :=
  (held_join (halves_disj c)).trans (Entails.of_eq (congrArg (fun S => held (t : Thread nD τ) M q S g) (rows_halves c).symm))
omit [FloatOps F] in
/-- and the buffer is two halves. -/
theorem halves_held {g : S512x1024.Idx → Elt F e} {q : PosShare TreeShare} :
    (held (t : Thread nD τ) M q Finset.univ g : sProp 𝕄) ⊢ iprop(hf t M q (ck c 0) g ∗ hf t M q (ck c 2) g) :=
  (Entails.of_eq (congrArg (fun S => held (t : Thread nD τ) M q S g) (rows_halves c))).trans (held_split (halves_disj c))
omit [FloatOps F] in
/-- A half at some content is two tiles at some content. -/
theorem half_any (a : ℕ) (h : a = 0 ∨ a = 2) : (hfAny t M (ck c a) : sProp 𝕄) ⊢ iprop(tlAny t M (ck c a) ∗ tlAny t M (ck c (a + 1))) :=
  (Entails.of_eq (congrArg (heldAny (Elt F) (t : Thread nD τ) M) (half_tiles c a h))).trans (heldAny_split (tiles_disj c a h))
omit [FloatOps F] in
/-- Two tiles at one content are a half. -/
theorem half_join (a : ℕ) (h : a = 0 ∨ a = 2) {g : S512x1024.Idx → Elt F e} :
    iprop(tl t M (ck c a) g ∗ tl t M (ck c (a + 1)) g) ⊢ (hf t M fullShare (ck c a) g : sProp 𝕄) :=
  (held_join (tiles_disj c a h)).trans (Entails.of_eq (congrArg (fun S => held (t : Thread nD τ) M fullShare S g) (half_tiles c a h).symm))
omit [FloatOps F] in
/-- A buffer of 512 rows by its four tiles, -/
theorem tiles_any : (anyU t M : sProp 𝕄) ⊢ iprop(tlAny t M (ck c 0) ∗ tlAny t M (ck c 1) ∗ tlAny t M (ck c 2) ∗ tlAny t M (ck c 3)) := by
  iintro H
  ihave H := (halves_any t c M) $$ H
  icases H with ⟨H1, H2⟩
  ihave H1 := (half_any t c M 0 (.inl rfl)) $$ H1
  ihave H2 := (half_any t c M 2 (.inr rfl)) $$ H2
  icases H1 with ⟨Ha, Hb⟩
  icases H2 with ⟨Hc, Hd⟩
  isplitl [Ha]; · iexact Ha
  isplitl [Hb]; · iexact Hb
  isplitl [Hc]; · iexact Hc
  iexact Hd
omit [FloatOps F] in
/-- and back. -/
theorem tiles_join {g : S512x1024.Idx → Elt F e} :
    iprop(tl t M (ck c 0) g ∗ tl t M (ck c 1) g ∗ tl t M (ck c 2) g ∗ tl t M (ck c 3) g) ⊢ (full t M g : sProp 𝕄) := by
  iintro ⟨Ha, Hb, Hc, Hd⟩
  iapply (halves_join t c M)
  isplitl [Ha Hb]
  · iapply (half_join t c M 0 (.inl rfl))
    isplitl [Ha]; · iexact Ha
    iexact Hb
  · iapply (half_join t c M 2 (.inr rfl))
    isplitl [Hc]; · iexact Hc
    iexact Hd
omit [FloatOps F] in
/-- Four tiles at one content are the buffer at some content. -/
theorem tiles_drop {g : S512x1024.Idx → Elt F e} :
    iprop(tl t M (ck c 0) g ∗ tl t M (ck c 1) g ∗ tl t M (ck c 2) g ∗ tl t M (ck c 3) g) ⊢ (anyU t M : sProp 𝕄) :=
  (tiles_join t c M).trans heldAny_of_held
end

/-! ## Stacks of matrices -/

/-- The matrices of a stack of four that a device does not use. -/
def restSet (a b p : ℕ) : Finset (⟨3, ![4, a, b]⟩ : Shape).Idx := Finset.univ.filter fun i => ¬ (i 0).val / 2 = p

omit [FloatOps F] in
/-- A stack of four matrices is the two that a device uses and the rest. -/
theorem stack_eq (a b p : ℕ) :
    (Finset.univ : Finset (⟨3, ![4, a, b]⟩ : Shape).Idx) = (slabSet 4 a b (2 * p + 0) ∪ slabSet 4 a b (2 * p + 1)) ∪ restSet a b p := by
  ext i
  unfold restSet
  rw [Finset.mem_union, Finset.mem_union, mem_slabSet, mem_slabSet, Finset.mem_filter]
  refine ⟨fun _ => ?_, fun _ => Finset.mem_univ _⟩
  by_cases h : (i 0).val / 2 = p
  · exact .inl (by omega)
  · exact .inr ⟨Finset.mem_univ _, h⟩
omit [FloatOps F] in
/-- The two and the rest do not overlap. -/
theorem stack_disj (a b p : ℕ) : Disjoint (slabSet 4 a b (2 * p + 0) ∪ slabSet 4 a b (2 * p + 1)) (restSet a b p) := by
  rw [Finset.disjoint_left]
  intro i h
  unfold restSet
  rw [Finset.mem_union, mem_slabSet, mem_slabSet] at h
  rw [Finset.mem_filter]
  intro h'
  exact h'.2 (by omega)
omit [FloatOps F] in
/-- Different matrices do not overlap. -/
theorem slabs_disj (n a b : ℕ) {k k' : ℕ} (h : k ≠ k') : Disjoint (slabSet n a b k) (slabSet n a b k') := by
  rw [Finset.disjoint_left]
  intro i h1 h2
  rw [mem_slabSet] at h1 h2
  omega
omit [FloatOps F] in
/-- A stack of two matrices is the two. -/
theorem two_eq (a b : ℕ) : (Finset.univ : Finset (⟨3, ![2, a, b]⟩ : Shape).Idx) = slabSet 2 a b 0 ∪ slabSet 2 a b 1 := by
  ext i
  have hi : (i 0).val < 2 := (i 0).isLt
  rw [Finset.mem_union, mem_slabSet, mem_slabSet]
  exact ⟨fun _ => by omega, fun _ => Finset.mem_univ _⟩

section
variable {a b : ℕ} {sp : Space} (c : Dev nD)

omit [FloatOps F] in
/-- A stack of four is split into the two matrices that are copied and the rest, -/
theorem stack_split {M : Memref sig .tc sp ⟨3, ![4, a, b]⟩ .f32} {g : (⟨3, ![4, a, b]⟩ : Shape).Idx → Elt F .f32} (p : ℕ) :
    (held (c : Thread nD τ) M fullShare Finset.univ g : sProp 𝕄) ⊢ iprop(held (c : Thread nD τ) M fullShare (slabSet 4 a b (2 * p + 0)) g
      ∗ held (c : Thread nD τ) M fullShare (slabSet 4 a b (2 * p + 1)) g ∗ held (c : Thread nD τ) M fullShare (restSet a b p) g) := by
  rw [stack_eq a b p]
  iintro H
  ihave H := (held_split (stack_disj a b p)) $$ H
  icases H with ⟨H, Hr⟩
  ihave H := (held_split (slabs_disj 4 a b (by omega))) $$ H
  icases H with ⟨H1, H2⟩
  isplitl [H1]; · iexact H1
  isplitl [H2]; · iexact H2
  iexact Hr
omit [FloatOps F] in
/-- and put together again. -/
theorem stack_join {M : Memref sig .tc sp ⟨3, ![4, a, b]⟩ .f32} {g : (⟨3, ![4, a, b]⟩ : Shape).Idx → Elt F .f32} (p : ℕ) :
    iprop(held (c : Thread nD τ) M fullShare (slabSet 4 a b (2 * p + 0)) g
      ∗ held (c : Thread nD τ) M fullShare (slabSet 4 a b (2 * p + 1)) g ∗ held (c : Thread nD τ) M fullShare (restSet a b p) g)
      ⊢ (held (c : Thread nD τ) M fullShare Finset.univ g : sProp 𝕄) := by
  rw [stack_eq a b p]
  iintro ⟨H1, H2, Hr⟩
  iapply (held_join (stack_disj a b p))
  isplitl [H1 H2]
  · iapply (held_join (slabs_disj 4 a b (by omega)))
    isplitl [H1]; · iexact H1
    iexact H2
  iexact Hr
omit [FloatOps F] in
/-- A stack of two at some content is split into its matrices. -/
theorem two_any {M : Memref sig .tc sp ⟨3, ![2, a, b]⟩ .f32} :
    (heldAny (Elt F) (c : Thread nD τ) M Finset.univ : sProp 𝕄) ⊢ iprop(heldAny (Elt F) (c : Thread nD τ) M (slabSet 2 a b 0) ∗ heldAny (Elt F) (c : Thread nD τ) M (slabSet 2 a b 1)) := by
  rw [two_eq a b]; exact heldAny_split (slabs_disj 2 a b (by omega))
omit [FloatOps F] in
/-- Two matrices at one content are the stack at some content. -/
theorem two_drop {M : Memref sig .tc sp ⟨3, ![2, a, b]⟩ .f32} {g : (⟨3, ![2, a, b]⟩ : Shape).Idx → Elt F .f32} :
    iprop(held (c : Thread nD τ) M fullShare (slabSet 2 a b 0) g ∗ held (c : Thread nD τ) M fullShare (slabSet 2 a b 1) g)
      ⊢ (heldAny (Elt F) (c : Thread nD τ) M Finset.univ : sProp 𝕄) := by
  rw [two_eq a b]; exact (held_join (slabs_disj 2 a b (by omega))).trans heldAny_of_held
end

end Cert.MoeKernelIdeal
-- ==== Proof.IPart2.lean ====
/-
The second part of the body.
-/
module

public import proofs.«01_k».proof.Proof.IPart1

@[expose] public section

noncomputable section

namespace Cert.MoeKernelIdeal

open Cert.KernelIdeal Cert.KernelIdeal.Gen Cert.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The kernel's word for the place along x, at 0, -/
theorem v2_eq0 (c : Dev nD) (h : px c = 0) : v2 c = 0#32 := by revert c; decide
/-- and at 1. -/
theorem v2_eq1 (c : Dev nD) (h : px c = 1) : v2 c = 1#32 := by revert c; decide

/-- What the local copies use: two experts' matrices at their place, room for them, and the duties. -/
def cpyIn (c : Dev nD) : sProp 𝕄 :=
  iprop((held (c : Thread nD τ) w1A fullShare (slabSet 4 1024 2048 (2 * px c + 0)) (w1V m c) ∗ heldAny (Elt F) (c : Thread nD τ) w1M (slabSet 2 1024 2048 0) ∗ cpyPre c 0)
    ∗ (held (c : Thread nD τ) w2A fullShare (slabSet 4 2048 1024 (2 * px c + 0)) (w2V m c) ∗ heldAny (Elt F) (c : Thread nD τ) w2M (slabSet 2 2048 1024 0) ∗ cpyPre c 1)
    ∗ (held (c : Thread nD τ) w1A fullShare (slabSet 4 1024 2048 (2 * px c + 1)) (w1V m c) ∗ heldAny (Elt F) (c : Thread nD τ) w1M (slabSet 2 1024 2048 1) ∗ cpyPre c 2)
    ∗ (held (c : Thread nD τ) w2A fullShare (slabSet 4 2048 1024 (2 * px c + 1)) (w2V m c) ∗ heldAny (Elt F) (c : Thread nD τ) w2M (slabSet 2 2048 1024 1) ∗ cpyPre c 3))
/-- What the four fetches leave: their credits to wait with. -/
def cpyOut (c : Dev nD) : sProp 𝕄 :=
  iprop(waitable c (cpyS 0) ∗ waitable c (cpyS 1) ∗ waitable c (cpyS 2) ∗ waitable c (cpyS 3))

set_option maxHeartbeats 1600000 in
/-- The first two remote copies and the four fetches, on a device at place 0 along x, -/
theorem part2_0 (c : Dev nD) (hp : px c = 0) (v6 : BitVec 32) (Kt : PUnit → sProp 𝕄) :
    iprop(recs m ∗ hf c xsM (PosShare.left fullShare) (ck c 0) (XS m c) ∗ hfAny (ynb c) xrM (ck c 0) ∗ full c rM (rstg m c) ∗ anyU (ynb c) rrM
        ∗ sndPre c 0 ∗ sndPre c 1 ∗ Ow c (owed c 0) ∗ cpyIn m c
        ∗ ((waitable c (sndS 0) ∗ full c rM (rstg m c) ∗ zeroed c (sndS 1) ∗ Ow c (owed c 2) ∗ cpyOut c) -∗ Kt ⟨⟩))
      ⊢ WP c (k0_part2_skel xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14 c (v2 c) v6) Kt := by
  have hp : px c = 0 := hp
  have hv : v2 c = 0#32 := v2_eq0 c hp
  unfold k0_part2_skel
  rw [hv]
  dsimp -failIfUnchanged only
  simp only [Prog.lift, Prog.bind_op, Prog.bind_ret, Prog.pure_eq_ret]
  unfold cpyIn cpyOut
  iintro ⟨#HR, Hxs, Hd0, Hr, Hd1, Hp0, Hp1, HO, ⟨⟨Ha0, Had0, Hat0⟩, ⟨Hb0, Hbd0, Hbt0⟩, ⟨Ha1, Had1, Hat1⟩, ⟨Hb1, Hbd1, Hbt1⟩⟩, Hk⟩
  iapply (send_rows m c 0 (t := ynb c) rfl (dev3_eq c) (off1_eq c) (M := xsM) (M' := xrM) rfl rfl rfl (Entails.of_eq rfl) (land0 m c)) $$ [Hxs Hd0 Hp0 HO]
  · isplitr; · iexact HR
    isplitl [Hxs]; · iexact Hxs
    isplitl [Hd0]; · iexact Hd0
    isplitl [Hp0]; · iexact Hp0
    iexact HO
  iintro ⟨Hw0, HO⟩
  iapply (send m c 1 (t := ynb c) rfl (dev4_eq c) (src := rM) (d := rrM) rfl rfl rfl (Entails.of_eq rfl) (land1 m c)) $$ [Hr Hd1 Hp1 HO]
  · isplitr; · iexact HR
    isplitl [Hr]; · iexact Hr
    isplitl [Hd1]; · iexact Hd1
    isplitl [Hp1]; · iexact Hp1
    iexact HO
  iintro ⟨Hw1, HO⟩
  rw [dif_pos (by decide), dif_neg (by decide), dif_pos (by decide), dif_neg (by decide)]
  iapply (copy_slab m c 0 (e := 2 * px c + 0) (j := 0) (by omega) (by decide) (M := w1A) (M' := w1M)
      (g := w1V m c) (g' := W1P m c) (by rw [hp]) rfl rfl (slab_pair (2 * px c) (by decide) _) rfl (Entails.of_eq rfl)) $$ [Ha0 Had0 Hat0]
  · isplitr; · iexact HR
    isplitl [Ha0]; · iexact Ha0
    isplitl [Had0]; · iexact Had0
    iexact Hat0
  iintro Hat0
  iapply (copy_slab m c 1 (e := 2 * px c + 0) (j := 0) (by omega) (by decide) (M := w2A) (M' := w2M)
      (g := w2V m c) (g' := W2P m c) (by rw [hp]) rfl rfl (slab_pair (2 * px c) (by decide) _) rfl (Entails.of_eq rfl)) $$ [Hb0 Hbd0 Hbt0]
  · isplitr; · iexact HR
    isplitl [Hb0]; · iexact Hb0
    isplitl [Hbd0]; · iexact Hbd0
    iexact Hbt0
  iintro Hbt0
  iapply (copy_slab m c 2 (e := 2 * px c + 1) (j := 1) (by omega) (by decide) (M := w1A) (M' := w1M)
      (g := w1V m c) (g' := W1P m c) (by rw [hp]) rfl rfl (slab_pair (2 * px c) (by decide) _) rfl (Entails.of_eq rfl)) $$ [Ha1 Had1 Hat1]
  · isplitr; · iexact HR
    isplitl [Ha1]; · iexact Ha1
    isplitl [Had1]; · iexact Had1
    iexact Hat1
  iintro Hat1
  iapply (copy_slab m c 3 (e := 2 * px c + 1) (j := 1) (by omega) (by decide) (M := w2A) (M' := w2M)
      (g := w2V m c) (g' := W2P m c) (by rw [hp]) rfl rfl (slab_pair (2 * px c) (by decide) _) rfl (Entails.of_eq rfl)) $$ [Hb1 Hbd1 Hbt1]
  · isplitr; · iexact HR
    isplitl [Hb1]; · iexact Hb1
    isplitl [Hbd1]; · iexact Hbd1
    iexact Hbt1
  iintro Hbt1
  iapply (wait_snd m c 1 2 rfl rfl (Entails.of_eq (back1 m c))) $$ [Hw1 HO]
  · isplitr; · iexact HR
    isplitl [Hw1]; · iexact Hw1
    iexact HO
  iintro ⟨Hr, Hz1, HO⟩
  iapply (ret_intro c)
  iapply Hk
  isplitl [Hw0]; · iexact Hw0
  isplitl [Hr]; · iexact Hr
  isplitl [Hz1]; · iexact Hz1
  isplitl [HO]; · iexact HO
  isplitl [Hat0]; · iexact Hat0
  isplitl [Hbt0]; · iexact Hbt0
  isplitl [Hat1]; · iexact Hat1
  iexact Hbt1

set_option maxHeartbeats 1600000 in
/-- and on a device at place 1. -/
theorem part2_1 (c : Dev nD) (hp : px c = 1) (v6 : BitVec 32) (Kt : PUnit → sProp 𝕄) :
    iprop(recs m ∗ hf c xsM (PosShare.left fullShare) (ck c 0) (XS m c) ∗ hfAny (ynb c) xrM (ck c 0) ∗ full c rM (rstg m c) ∗ anyU (ynb c) rrM
        ∗ sndPre c 0 ∗ sndPre c 1 ∗ Ow c (owed c 0) ∗ cpyIn m c
        ∗ ((waitable c (sndS 0) ∗ full c rM (rstg m c) ∗ zeroed c (sndS 1) ∗ Ow c (owed c 2) ∗ cpyOut c) -∗ Kt ⟨⟩))
      ⊢ WP c (k0_part2_skel xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14 c (v2 c) v6) Kt := by
  have hp : px c = 1 := hp
  have hv : v2 c = 1#32 := v2_eq1 c hp
  unfold k0_part2_skel
  rw [hv]
  dsimp -failIfUnchanged only
  simp only [Prog.lift, Prog.bind_op, Prog.bind_ret, Prog.pure_eq_ret]
  unfold cpyIn cpyOut
  iintro ⟨#HR, Hxs, Hd0, Hr, Hd1, Hp0, Hp1, HO, ⟨⟨Ha0, Had0, Hat0⟩, ⟨Hb0, Hbd0, Hbt0⟩, ⟨Ha1, Had1, Hat1⟩, ⟨Hb1, Hbd1, Hbt1⟩⟩, Hk⟩
  iapply (send_rows m c 0 (t := ynb c) rfl (dev3_eq c) (off1_eq c) (M := xsM) (M' := xrM) rfl rfl rfl (Entails.of_eq rfl) (land0 m c)) $$ [Hxs Hd0 Hp0 HO]
  · isplitr; · iexact HR
    isplitl [Hxs]; · iexact Hxs
    isplitl [Hd0]; · iexact Hd0
    isplitl [Hp0]; · iexact Hp0
    iexact HO
  iintro ⟨Hw0, HO⟩
  iapply (send m c 1 (t := ynb c) rfl (dev4_eq c) (src := rM) (d := rrM) rfl rfl rfl (Entails.of_eq rfl) (land1 m c)) $$ [Hr Hd1 Hp1 HO]
  · isplitr; · iexact HR
    isplitl [Hr]; · iexact Hr
    isplitl [Hd1]; · iexact Hd1
    isplitl [Hp1]; · iexact Hp1
    iexact HO
  iintro ⟨Hw1, HO⟩
  rw [dif_neg (by decide), dif_pos (by decide), dif_neg (by decide), dif_pos (by decide)]
  iapply (copy_slab m c 0 (e := 2 * px c + 0) (j := 0) (by omega) (by decide) (M := w1A) (M' := w1M)
      (g := w1V m c) (g' := W1P m c) (by rw [hp]) rfl rfl (slab_pair (2 * px c) (by decide) _) rfl (Entails.of_eq rfl)) $$ [Ha0 Had0 Hat0]
  · isplitr; · iexact HR
    isplitl [Ha0]; · iexact Ha0
    isplitl [Had0]; · iexact Had0
    iexact Hat0
  iintro Hat0
  iapply (copy_slab m c 1 (e := 2 * px c + 0) (j := 0) (by omega) (by decide) (M := w2A) (M' := w2M)
      (g := w2V m c) (g' := W2P m c) (by rw [hp]) rfl rfl (slab_pair (2 * px c) (by decide) _) rfl (Entails.of_eq rfl)) $$ [Hb0 Hbd0 Hbt0]
  · isplitr; · iexact HR
    isplitl [Hb0]; · iexact Hb0
    isplitl [Hbd0]; · iexact Hbd0
    iexact Hbt0
  iintro Hbt0
  iapply (copy_slab m c 2 (e := 2 * px c + 1) (j := 1) (by omega) (by decide) (M := w1A) (M' := w1M)
      (g := w1V m c) (g' := W1P m c) (by rw [hp]) rfl rfl (slab_pair (2 * px c) (by decide) _) rfl (Entails.of_eq rfl)) $$ [Ha1 Had1 Hat1]
  · isplitr; · iexact HR
    isplitl [Ha1]; · iexact Ha1
    isplitl [Had1]; · iexact Had1
    iexact Hat1
  iintro Hat1
  iapply (copy_slab m c 3 (e := 2 * px c + 1) (j := 1) (by omega) (by decide) (M := w2A) (M' := w2M)
      (g := w2V m c) (g' := W2P m c) (by rw [hp]) rfl rfl (slab_pair (2 * px c) (by decide) _) rfl (Entails.of_eq rfl)) $$ [Hb1 Hbd1 Hbt1]
  · isplitr; · iexact HR
    isplitl [Hb1]; · iexact Hb1
    isplitl [Hbd1]; · iexact Hbd1
    iexact Hbt1
  iintro Hbt1
  iapply (wait_snd m c 1 2 rfl rfl (Entails.of_eq (back1 m c))) $$ [Hw1 HO]
  · isplitr; · iexact HR
    isplitl [Hw1]; · iexact Hw1
    iexact HO
  iintro ⟨Hr, Hz1, HO⟩
  iapply (ret_intro c)
  iapply Hk
  isplitl [Hw0]; · iexact Hw0
  isplitl [Hr]; · iexact Hr
  isplitl [Hz1]; · iexact Hz1
  isplitl [HO]; · iexact HO
  isplitl [Hat0]; · iexact Hat0
  isplitl [Hbt0]; · iexact Hbt0
  isplitl [Hat1]; · iexact Hat1
  iexact Hbt1

/-- The second part: tokens and router columns sent along `y`, the two experts' matrices brought in. -/
theorem part2 (c : Dev nD) (v6 : BitVec 32) (Kt : PUnit → sProp 𝕄) :
    iprop(recs m ∗ hf c xsM (PosShare.left fullShare) (ck c 0) (XS m c) ∗ hfAny (ynb c) xrM (ck c 0) ∗ full c rM (rstg m c) ∗ anyU (ynb c) rrM
        ∗ sndPre c 0 ∗ sndPre c 1 ∗ Ow c (owed c 0) ∗ cpyIn m c
        ∗ ((waitable c (sndS 0) ∗ full c rM (rstg m c) ∗ zeroed c (sndS 1) ∗ Ow c (owed c 2) ∗ cpyOut c) -∗ Kt ⟨⟩))
      ⊢ WP c (k0_part2_skel xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14 c (v2 c) v6) Kt := by
  rcases px_cases c with h | h
  · exact part2_0 m c h v6 Kt
  · exact part2_1 m c h v6 Kt

end Cert.MoeKernelIdeal
-- ==== Proof.IPart3.lean ====
/-
The third part of the body up to the sixth: gates, weights and matrices.
-/
module

public import proofs.«01_k».proof.Proof.IPart1

@[expose] public section

noncomputable section

namespace Cert.MoeKernelIdeal

open Cert.KernelIdeal Cert.KernelIdeal.Gen Cert.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The neighbour's router columns come in; the gates of the own tokens. -/
theorem part3 (c : Dev nD) (v6 : BitVec 32) (Kt : (Σ' (v86 : FVec F S512x1 .f32) (v92 : FVec F S512x1 .f32) (v94 : IVec S512x8 1) (v97 : FVec F S512x8 .f32), FVec F S512x8 .f32) → sProp 𝕄) :
    iprop(recs m ∗ waitable c (rcvS 1) ∗ Ow c (owed c 2) ∗ full c rM (rstg m c) ∗ held (c : Thread nD τ) xsM (PosShare.right fullShare) Finset.univ (XS m c) ∗ full c xM (xstg m c)
        ∗ ((Ow c (owed c 2) ∗ full c rM (rstg m c) ∗ held (c : Thread nD τ) xsM (PosShare.right fullShare) Finset.univ (XS m c) ∗ full c xM (xstg m c) ∗ zeroed c (rcvS 1) ∗ full c rrM (rstg m (ynb c))) -∗ Kt ⟨k0_pay4 (rstg m c) (rstg m (ynb c)) (XS m c) (xstg m c), k0_pay5 (rstg m c) (rstg m (ynb c)) (XS m c) (xstg m c), k0_pay6 (rstg m c) (rstg m (ynb c)) (XS m c) (xstg m c), k0_pay7 (rstg m c) (rstg m (ynb c)) (XS m c) (xstg m c), k0_pay8⟩))
      ⊢ WP c (k0_part3_skel xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14 (v2 c) v6) Kt := by
  unfold k0_part3_skel
  simp only [Prog.lift, Prog.bind_op, Prog.bind_ret, Prog.pure_eq_ret]
  iintro ⟨#HR, Hwr1, HO2, Hr, HxsR, Hx, Hk⟩
  iapply (wait_rcv m c 1 2 (by decide) rfl rfl (Entails.of_eq (got1 m c))) $$ [Hwr1 HO2]
  · isplitr; · iexact HR
    isplitl [Hwr1]; · iexact Hwr1
    iexact HO2
  iintro ⟨Hrr, Hzr1, HO2⟩
  iapply (load_whole c) $$ Hr; iintro Hr
  iapply (load_whole c) $$ Hrr; iintro Hrr
  iapply (load_whole c) $$ HxsR; iintro HxsR
  iapply (load_whole c) $$ Hx; iintro Hx
  iapply (ret_to c (b := ⟨k0_pay4 (rstg m c) (rstg m (ynb c)) (XS m c) (xstg m c), k0_pay5 (rstg m c) (rstg m (ynb c)) (XS m c) (xstg m c), k0_pay6 (rstg m c) (rstg m (ynb c)) (XS m c) (xstg m c), k0_pay7 (rstg m c) (rstg m (ynb c)) (XS m c) (xstg m c), k0_pay8⟩) (by exact rfl))
  iapply Hk
  isplitl [HO2]; · iexact HO2
  isplitl [Hr]; · iexact Hr
  isplitl [HxsR]; · iexact HxsR
  isplitl [Hx]; · iexact Hx
  isplitl [Hzr1]; · iexact Hzr1
  iexact Hrr

/-- The routing weights, kept and sent along `y`; the first expert's first matrix comes in. -/
theorem part4 (c : Dev nD) (v6 : BitVec 32) (Kt : PUnit → sProp 𝕄) :
    iprop(recs m ∗ anyU c wsM ∗ anyU (ynb c) wrM ∗ sndPre c 2 ∗ Ow c (owed c 2) ∗ anyU c waM ∗ waitable c (cpyS 0)
        ∗ ((waitable c (sndS 2) ∗ Ow c (owed c 3) ∗ full c waM (WA m c) ∗ zeroed c (cpyS 0) ∗ held (c : Thread nD τ) w1M fullShare (slabSet 2 1024 2048 0) (W1P m c) ∗ held (c : Thread nD τ) w1A fullShare (slabSet 4 1024 2048 (2 * px c + 0)) (w1V m c)) -∗ Kt ⟨⟩))
      ⊢ WP c (k0_part4_skel xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14 c (v2 c) v6 (k0_pay4 (rstg m c) (rstg m (ynb c)) (XS m c) (xstg m c)) (k0_pay5 (rstg m c) (rstg m (ynb c)) (XS m c) (xstg m c)) (k0_pay6 (rstg m c) (rstg m (ynb c)) (XS m c) (xstg m c)) (k0_pay7 (rstg m c) (rstg m (ynb c)) (XS m c) (xstg m c)) k0_pay8) Kt := by
  unfold k0_part4_skel
  simp only [Prog.lift, Prog.bind_op, Prog.bind_ret, Prog.pure_eq_ret]
  iintro ⟨#HR, HwsA, HwrY, Hp2, HO2, HwaA, Hwc0, Hk⟩
  iapply (load_whole_any c) $$ HwsA; iintro %_ HwsA
  iapply (store_whole c (g := WS m c)) $$ HwsA; iintro Hws
  iapply (send m c 2 (t := ynb c) rfl (dev5_eq c) (src := wsM) (d := wrM) rfl rfl rfl (Entails.of_eq rfl) (land2 m c)) $$ [Hws HwrY Hp2 HO2]
  · isplitr; · iexact HR
    isplitl [Hws]; · iexact Hws
    isplitl [HwrY]; · iexact HwrY
    isplitl [Hp2]; · iexact Hp2
    iexact HO2
  iintro ⟨Hws2, HO3⟩
  iapply (load_whole_any c) $$ HwaA; iintro %_ HwaA
  iapply (store_whole c (g := WA m c)) $$ HwaA; iintro Hwa
  iapply (wait_cpy m c 0 3 rfl (credit_slab rfl) (Entails.of_eq (gotA m c 0))) $$ [Hwc0 HO3]
  · isplitr; · iexact HR
    isplitl [Hwc0]; · iexact Hwc0
    iexact HO3
  iintro ⟨⟨Ha0, Haa0⟩, Hzc0, HO3⟩
  iapply (ret_to c (b := ⟨⟩) (by exact rfl))
  iapply Hk
  isplitl [Hws2]; · iexact Hws2
  isplitl [HO3]; · iexact HO3
  isplitl [Hwa]; · iexact Hwa
  isplitl [Hzc0]; · iexact Hzc0
  isplitl [Ha0]; · iexact Ha0
  iexact Haa0

/-- The other matrices come in and are read. -/
theorem part5 (c : Dev nD) (Kt : (Σ' (v139 : FVec F S1024x2048 .bf16) (v142 : FVec F S2048x1024 .bf16), FVec F S1024x2048 .bf16) → sProp 𝕄) :
    iprop(recs m ∗ waitable c (cpyS 1) ∗ waitable c (cpyS 2) ∗ waitable c (cpyS 3) ∗ Ow c (owed c 3) ∗ held (c : Thread nD τ) w1M fullShare (slabSet 2 1024 2048 0) (W1P m c)
        ∗ ((Ow c (owed c 3) ∗ held (c : Thread nD τ) w1M fullShare (slabSet 2 1024 2048 0) (W1P m c) ∗ zeroed c (cpyS 1) ∗ held (c : Thread nD τ) w2M fullShare (slabSet 2 2048 1024 0) (W2P m c) ∗ held (c : Thread nD τ) w2A fullShare (slabSet 4 2048 1024 (2 * px c + 0)) (w2V m c) ∗ zeroed c (cpyS 2) ∗ held (c : Thread nD τ) w1M fullShare (slabSet 2 1024 2048 1) (W1P m c) ∗ held (c : Thread nD τ) w1A fullShare (slabSet 4 1024 2048 (2 * px c + 1)) (w1V m c) ∗ zeroed c (cpyS 3) ∗ held (c : Thread nD τ) w2M fullShare (slabSet 2 2048 1024 1) (W2P m c) ∗ held (c : Thread nD τ) w2A fullShare (slabSet 4 2048 1024 (2 * px c + 1)) (w2V m c)) -∗ Kt ⟨E1 m c 0, E2 m c 0, E1 m c 1⟩))
      ⊢ WP c (k0_part5_skel xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14) Kt := by
  unfold k0_part5_skel
  simp only [Prog.lift, Prog.bind_op, Prog.bind_ret, Prog.pure_eq_ret]
  iintro ⟨#HR, Hwc1, Hwc2, Hwc3, HO3, Ha0, Hk⟩
  iapply (wait_cpy m c 1 3 rfl (credit_slab rfl) (Entails.of_eq (gotB m c 0))) $$ [Hwc1 HO3]
  · isplitr; · iexact HR
    isplitl [Hwc1]; · iexact Hwc1
    iexact HO3
  iintro ⟨⟨Hb0, Hbb0⟩, Hzc1, HO3⟩
  iapply (load_slab c (k := 0) rfl (by decide)) $$ Ha0; iintro Ha0
  iapply (load_slab c (k := 0) rfl (by decide)) $$ Hb0; iintro Hb0
  iapply (wait_cpy m c 2 3 rfl (credit_slab rfl) (Entails.of_eq (gotA m c 1))) $$ [Hwc2 HO3]
  · isplitr; · iexact HR
    isplitl [Hwc2]; · iexact Hwc2
    iexact HO3
  iintro ⟨⟨Ha1, Haa1⟩, Hzc2, HO3⟩
  iapply (wait_cpy m c 3 3 rfl (credit_slab rfl) (Entails.of_eq (gotB m c 1))) $$ [Hwc3 HO3]
  · isplitr; · iexact HR
    isplitl [Hwc3]; · iexact Hwc3
    iexact HO3
  iintro ⟨⟨Hb1, Hbb1⟩, Hzc3, HO3⟩
  iapply (load_slab c (k := 1) rfl (by decide)) $$ Ha1; iintro Ha1
  iapply (ret_to c (b := ⟨E1 m c 0, E2 m c 0, E1 m c 1⟩) (by exact rfl))
  iapply Hk
  isplitl [HO3]; · iexact HO3
  isplitl [Ha0]; · iexact Ha0
  isplitl [Hzc1]; · iexact Hzc1
  isplitl [Hb0]; · iexact Hb0
  isplitl [Hbb0]; · iexact Hbb0
  isplitl [Hzc2]; · iexact Hzc2
  isplitl [Ha1]; · iexact Ha1
  isplitl [Haa1]; · iexact Haa1
  isplitl [Hzc3]; · iexact Hzc3
  isplitl [Hb1]; · iexact Hb1
  iexact Hbb1

/-- The neighbour's weights and half of its tokens come in. -/
theorem part6 (c : Dev nD) (v5 : BitVec 32) (v6 : BitVec 32) (v7 : BitVec 32) (Kt : FVec F S2048x1024 .bf16 → sProp 𝕄) :
    iprop(recs m ∗ held (c : Thread nD τ) w2M fullShare (slabSet 2 2048 1024 1) (W2P m c) ∗ waitable c (sndS 2) ∗ waitable c (rcvS 2) ∗ waitable c (sndS 0) ∗ waitable c (rcvS 0) ∗ Ow c (owed c 3)
        ∗ ((held (c : Thread nD τ) w2M fullShare (slabSet 2 2048 1024 1) (W2P m c) ∗ Ow c (owed c 3) ∗ zeroed c (sndS 2) ∗ full c wsM (WS m c) ∗ zeroed c (rcvS 2) ∗ full c wrM (WS m (ynb c)) ∗ zeroed c (sndS 0) ∗ hf c xsM (PosShare.left fullShare) (ck c 0) (XS m c) ∗ zeroed c (rcvS 0) ∗ hf c xrM fullShare (ck c 0) (XR m c)) -∗ Kt (E2 m c 1)))
      ⊢ WP c (k0_part6_skel xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14 c (v2 c) v5 v6 v7) Kt := by
  unfold k0_part6_skel
  simp only [Prog.lift, Prog.bind_op, Prog.bind_ret, Prog.pure_eq_ret]
  iintro ⟨#HR, Hb1, Hws2, Hwr2, Hws0, Hwr0, HO3, Hk⟩
  iapply (load_slab c (k := 1) rfl (by decide)) $$ Hb1; iintro Hb1
  iapply (wait_snd m c 2 3 rfl rfl (Entails.of_eq (back2 m c))) $$ [Hws2 HO3]
  · isplitr; · iexact HR
    isplitl [Hws2]; · iexact Hws2
    iexact HO3
  iintro ⟨Hws, Hzs2, HO3⟩
  iapply (wait_rcv m c 2 3 (by decide) rfl rfl (Entails.of_eq (got2 m c))) $$ [Hwr2 HO3]
  · isplitr; · iexact HR
    isplitl [Hwr2]; · iexact Hwr2
    iexact HO3
  iintro ⟨Hwr, Hzr2, HO3⟩
  iapply (wait_snd m c 0 3 rfl (credit_rows rfl) (Entails.of_eq (back0 m c))) $$ [Hws0 HO3]
  · isplitr; · iexact HR
    isplitl [Hws0]; · iexact Hws0
    iexact HO3
  iintro ⟨HxsqL, Hzs0, HO3⟩
  iapply (wait_rcv m c 0 3 (by decide) rfl (credit_rows rfl) (Entails.of_eq (got0 m c))) $$ [Hwr0 HO3]
  · isplitr; · iexact HR
    isplitl [Hwr0]; · iexact Hwr0
    iexact HO3
  iintro ⟨Hxrq, Hzr0, HO3⟩
  iapply (ret_to c (b := (E2 m c 1)) (by exact rfl))
  iapply Hk
  isplitl [Hb1]; · iexact Hb1
  isplitl [HO3]; · iexact HO3
  isplitl [Hzs2]; · iexact Hzs2
  isplitl [Hws]; · iexact Hws
  isplitl [Hzr2]; · iexact Hzr2
  isplitl [Hwr]; · iexact Hwr
  isplitl [Hzs0]; · iexact Hzs0
  isplitl [HxsqL]; · iexact HxsqL
  isplitl [Hzr0]; · iexact Hzr0
  iexact Hxrq

end Cert.MoeKernelIdeal
-- ==== Proof.IPart7.lean ====
/-
The seventh part of the body up to the eleventh: the neighbour's tokens.
-/
module

public import proofs.«01_k».proof.Proof.IPart1

@[expose] public section

noncomputable section

namespace Cert.MoeKernelIdeal

open Cert.KernelIdeal Cert.KernelIdeal.Gen Cert.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Tile `i` of a half of the rows lies in it. -/
theorem ck_sub {w : ℕ} (c : Dev nD) (a i : ℕ) (h : a = 0 ∨ a = 2 := by decide) (hi : i < 2 := by decide) :
    rowSet w (128 * ck c (a + i)) 128 ⊆ rowSet w (128 * ck c a) 256 := by
  have e : ck c (a + i) = ck c a + i := by
    have := px_le c
    unfold ck
    rcases h with rfl | rfl
    · rw [if_pos (by omega), if_pos (by omega)]; omega
    · rw [if_neg (by omega), if_neg (by omega)]; omega
  rw [e]
  exact rowSet_subset (by omega) (by omega)

/-- Those tokens are forwarded along `x`; the first tile of the neighbour's tokens. -/
theorem part7 (c : Dev nD) (v6 : BitVec 32) (v8 : BitVec 32) (Kt : PUnit → sProp 𝕄) :
    iprop(recs m ∗ hf c xrM fullShare (ck c 0) (XR m c) ∗ hfAny (xnb c) xrM (ck c 0) ∗ sndPre c 3 ∗ Ow c (owed c 3) ∗ full c wrM (WS m (ynb c)) ∗ tlAny c psM (ck c 0)
        ∗ ((full c wrM (WS m (ynb c)) ∗ hf c xrM (PosShare.right fullShare) (ck c 0) (XR m c) ∗ waitable c (sndS 3) ∗ Ow c (owed c 4) ∗ tl c psM (ck c 0) (PS m c)) -∗ Kt ⟨⟩))
      ⊢ WP c (k0_part7_skel xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14 c (v2 c) v6 v8 (E1 m c 0) (E2 m c 0) (E1 m c 1) (E2 m c 1)) Kt := by
  unfold k0_part7_skel
  simp only [Prog.lift, Prog.bind_op, Prog.bind_ret, Prog.pure_eq_ret]
  iintro ⟨#HR, Hxrq, HxrX, Hp3, HO3, Hwr, HpsA0, Hk⟩
  ihave Hnew := (held_half) $$ Hxrq
  icases Hnew with ⟨HxrqL, HxrqR⟩
  iapply (send_rows m c 3 (t := xnb c) rfl (dev6_eq c) (off1_eq c) (M := xrM) (M' := xrM) rfl rfl rfl (Entails.of_eq rfl) (land3 m c)) $$ [HxrqL HxrX Hp3 HO3]
  · isplitr; · iexact HR
    isplitl [HxrqL]; · iexact HxrqL
    isplitl [HxrX]; · iexact HxrX
    isplitl [Hp3]; · iexact Hp3
    iexact HO3
  iintro ⟨Hws3, HO4⟩
  iapply (load_tile c (off2_eq c) (ck_lt c (by decide)) (ck_sub c 0 0)) $$ HxrqR; iintro HxrqR
  iapply (load_tile c (off3_eq c) (ck_lt c (by decide)) (Finset.subset_univ _)) $$ Hwr; iintro Hwr
  iapply (load_tile_any c (off2_eq c)) $$ HpsA0; iintro %_ HpsA0
  iapply (store_tile c (off2_eq c) (ck_lt c (by decide)) (g := PS m c) (tile_paste _ (ck_lt c (by decide)))) $$ HpsA0; iintro Hps0
  iapply (ret_to c (b := ⟨⟩) (by exact rfl))
  iapply Hk
  isplitl [Hwr]; · iexact Hwr
  isplitl [HxrqR]; · iexact HxrqR
  isplitl [Hws3]; · iexact Hws3
  isplitl [HO4]; · iexact HO4
  iexact Hps0

/-- The first tile is sent back; the second one. -/
theorem part8 (c : Dev nD) (v6 : BitVec 32) (v11 : BitVec 32) (Kt : PUnit → sProp 𝕄) :
    iprop(recs m ∗ tl c psM (ck c 0) (PS m c) ∗ tlAny (ynb c) prM (ck c 0) ∗ sndPre c 4 ∗ Ow c (owed c 4) ∗ hf c xrM (PosShare.right fullShare) (ck c 0) (XR m c) ∗ full c wrM (WS m (ynb c)) ∗ tlAny c psM (ck c 1)
        ∗ ((hf c xrM (PosShare.right fullShare) (ck c 0) (XR m c) ∗ full c wrM (WS m (ynb c)) ∗ waitable c (sndS 4) ∗ Ow c (owed c 5) ∗ tl c psM (ck c 1) (PS m c)) -∗ Kt ⟨⟩))
      ⊢ WP c (k0_part8_skel xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14 c (v2 c) v6 v11 (E1 m c 0) (E2 m c 0) (E1 m c 1) (E2 m c 1)) Kt := by
  unfold k0_part8_skel
  simp only [Prog.lift, Prog.bind_op, Prog.bind_ret, Prog.pure_eq_ret]
  iintro ⟨#HR, Hps0, HprY0, Hp4, HO4, HxrqR, Hwr, HpsA1, Hk⟩
  iapply (send_rows m c 4 (t := ynb c) rfl (dev7_eq c) (off4_eq c) (M := psM) (M' := prM) rfl rfl rfl (Entails.of_eq (back4 m c (i := 0) (by decide)).symm) (land4 m c (i := 0) (by decide))) $$ [Hps0 HprY0 Hp4 HO4]
  · isplitr; · iexact HR
    isplitl [Hps0]; · iexact Hps0
    isplitl [HprY0]; · iexact HprY0
    isplitl [Hp4]; · iexact Hp4
    iexact HO4
  iintro ⟨Hws4, HO5⟩
  iapply (load_tile c (off5_eq c) (ck_lt c (by decide)) (ck_sub c 0 1)) $$ HxrqR; iintro HxrqR
  iapply (load_tile c (off6_eq c) (ck_lt c (by decide)) (Finset.subset_univ _)) $$ Hwr; iintro Hwr
  iapply (load_tile_any c (off5_eq c)) $$ HpsA1; iintro %_ HpsA1
  iapply (store_tile c (off5_eq c) (ck_lt c (by decide)) (g := PS m c) (tile_paste _ (ck_lt c (by decide)))) $$ HpsA1; iintro Hps1
  iapply (ret_to c (b := ⟨⟩) (by exact rfl))
  iapply Hk
  isplitl [HxrqR]; · iexact HxrqR
  isplitl [Hwr]; · iexact Hwr
  isplitl [Hws4]; · iexact Hws4
  isplitl [HO5]; · iexact HO5
  iexact Hps1

/-- The second tile is sent back; the own first tile; the other half of the neighbour's tokens comes in. -/
theorem part9 (c : Dev nD) (v5 : BitVec 32) (v7 : BitVec 32) (v8 : BitVec 32) (v10 : BitVec 32) (Kt : FVec F S128x1024 .f32 → sProp 𝕄) :
    iprop(recs m ∗ tl c psM (ck c 1) (PS m c) ∗ tlAny (ynb c) prM (ck c 1) ∗ sndPre c 5 ∗ Ow c (owed c 5) ∗ held (c : Thread nD τ) xsM (PosShare.right fullShare) Finset.univ (XS m c) ∗ full c waM (WA m c) ∗ waitable c (sndS 3) ∗ waitable c (rcvS 3)
        ∗ ((held (c : Thread nD τ) xsM (PosShare.right fullShare) Finset.univ (XS m c) ∗ full c waM (WA m c) ∗ waitable c (sndS 5) ∗ Ow c (owed c 6) ∗ zeroed c (sndS 3) ∗ hf c xrM (PosShare.left fullShare) (ck c 0) (XR m c) ∗ zeroed c (rcvS 3) ∗ hf c xrM fullShare (ck c 2) (XR m c)) -∗ Kt (OWN m c (ck c 0))))
      ⊢ WP c (k0_part9_skel xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14 c v5 v7 v8 v10 (E1 m c 0) (E2 m c 0) (E1 m c 1) (E2 m c 1)) Kt := by
  unfold k0_part9_skel
  simp only [Prog.lift, Prog.bind_op, Prog.bind_ret, Prog.pure_eq_ret]
  iintro ⟨#HR, Hps1, HprY1, Hp5, HO5, HxsR, Hwa, Hws3, Hwr3, Hk⟩
  iapply (send_rows m c 5 (t := ynb c) rfl (dev8_eq c) (off7_eq c) (M := psM) (M' := prM) rfl rfl rfl (Entails.of_eq (back4 m c (i := 1) (by decide)).symm) (land4 m c (i := 1) (by decide))) $$ [Hps1 HprY1 Hp5 HO5]
  · isplitr; · iexact HR
    isplitl [Hps1]; · iexact Hps1
    isplitl [HprY1]; · iexact HprY1
    isplitl [Hp5]; · iexact Hp5
    iexact HO5
  iintro ⟨Hws5, HO6⟩
  iapply (load_tile c (off2_eq c) (ck_lt c (by decide)) (Finset.subset_univ _)) $$ HxsR; iintro HxsR
  iapply (load_tile c (off8_eq c) (ck_lt c (by decide)) (Finset.subset_univ _)) $$ Hwa; iintro Hwa
  iapply (wait_snd m c 3 6 rfl (credit_rows rfl) (Entails.of_eq (back3 m c))) $$ [Hws3 HO6]
  · isplitr; · iexact HR
    isplitl [Hws3]; · iexact Hws3
    iexact HO6
  iintro ⟨HxrqL, Hzs3, HO6⟩
  iapply (wait_rcv m c 3 6 (by decide) rfl (credit_rows rfl) (Entails.of_eq (got3 m c))) $$ [Hwr3 HO6]
  · isplitr; · iexact HR
    isplitl [Hwr3]; · iexact Hwr3
    iexact HO6
  iintro ⟨Hxrf, Hzr3, HO6⟩
  iapply (ret_to c (b := (OWN m c (ck c 0))) (by exact rfl))
  iapply Hk
  isplitl [HxsR]; · iexact HxsR
  isplitl [Hwa]; · iexact Hwa
  isplitl [Hws5]; · iexact Hws5
  isplitl [HO6]; · iexact HO6
  isplitl [Hzs3]; · iexact Hzs3
  isplitl [HxrqL]; · iexact HxrqL
  isplitl [Hzr3]; · iexact Hzr3
  iexact Hxrf

/-- The third tile of the neighbour's tokens, sent back. -/
theorem part10 (c : Dev nD) (v6 : BitVec 32) (v10 : BitVec 32) (v12 : BitVec 32) (Kt : PUnit → sProp 𝕄) :
    iprop(recs m ∗ hf c xrM fullShare (ck c 2) (XR m c) ∗ full c wrM (WS m (ynb c)) ∗ tlAny c psM (ck c 2) ∗ tlAny (ynb c) prM (ck c 2) ∗ sndPre c 6 ∗ Ow c (owed c 6)
        ∗ ((hf c xrM fullShare (ck c 2) (XR m c) ∗ full c wrM (WS m (ynb c)) ∗ waitable c (sndS 6) ∗ Ow c (owed c 7)) -∗ Kt ⟨⟩))
      ⊢ WP c (k0_part10_skel xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14 c (v2 c) v6 v10 v12 (E1 m c 0) (E2 m c 0) (E1 m c 1) (E2 m c 1)) Kt := by
  unfold k0_part10_skel
  simp only [Prog.lift, Prog.bind_op, Prog.bind_ret, Prog.pure_eq_ret]
  iintro ⟨#HR, Hxrf, Hwr, HpsA2, HprY2, Hp6, HO6, Hk⟩
  iapply (load_tile c (off9_eq c) (ck_lt c (by decide)) (ck_sub c 2 0)) $$ Hxrf; iintro Hxrf
  iapply (load_tile c (off10_eq c) (ck_lt c (by decide)) (Finset.subset_univ _)) $$ Hwr; iintro Hwr
  iapply (load_tile_any c (off9_eq c)) $$ HpsA2; iintro %_ HpsA2
  iapply (store_tile c (off9_eq c) (ck_lt c (by decide)) (g := PS m c) (tile_paste _ (ck_lt c (by decide)))) $$ HpsA2; iintro Hps2
  iapply (send_rows m c 6 (t := ynb c) rfl (dev9_eq c) (off11_eq c) (M := psM) (M' := prM) rfl rfl rfl (Entails.of_eq (back4 m c (i := 2) (by decide)).symm) (land4 m c (i := 2) (by decide))) $$ [Hps2 HprY2 Hp6 HO6]
  · isplitr; · iexact HR
    isplitl [Hps2]; · iexact Hps2
    isplitl [HprY2]; · iexact HprY2
    isplitl [Hp6]; · iexact Hp6
    iexact HO6
  iintro ⟨Hws6, HO7⟩
  iapply (ret_to c (b := ⟨⟩) (by exact rfl))
  iapply Hk
  isplitl [Hxrf]; · iexact Hxrf
  isplitl [Hwr]; · iexact Hwr
  isplitl [Hws6]; · iexact Hws6
  iexact HO7

/-- The fourth one, sent back. -/
theorem part11 (c : Dev nD) (v6 : BitVec 32) (v12 : BitVec 32) (Kt : PUnit → sProp 𝕄) :
    iprop(recs m ∗ hf c xrM fullShare (ck c 2) (XR m c) ∗ full c wrM (WS m (ynb c)) ∗ tlAny c psM (ck c 3) ∗ tlAny (ynb c) prM (ck c 3) ∗ sndPre c 7 ∗ Ow c (owed c 7)
        ∗ ((hf c xrM fullShare (ck c 2) (XR m c) ∗ full c wrM (WS m (ynb c)) ∗ waitable c (sndS 7) ∗ Ow c (owed c 8)) -∗ Kt ⟨⟩))
      ⊢ WP c (k0_part11_skel xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14 c (v2 c) v6 v12 (E1 m c 0) (E2 m c 0) (E1 m c 1) (E2 m c 1)) Kt := by
  unfold k0_part11_skel
  simp only [Prog.lift, Prog.bind_op, Prog.bind_ret, Prog.pure_eq_ret]
  iintro ⟨#HR, Hxrf, Hwr, HpsA3, HprY3, Hp7, HO7, Hk⟩
  iapply (load_tile c (off12_eq c) (ck_lt c (by decide)) (ck_sub c 2 1)) $$ Hxrf; iintro Hxrf
  iapply (load_tile c (off13_eq c) (ck_lt c (by decide)) (Finset.subset_univ _)) $$ Hwr; iintro Hwr
  iapply (load_tile_any c (off12_eq c)) $$ HpsA3; iintro %_ HpsA3
  iapply (store_tile c (off12_eq c) (ck_lt c (by decide)) (g := PS m c) (tile_paste _ (ck_lt c (by decide)))) $$ HpsA3; iintro Hps3
  iapply (send_rows m c 7 (t := ynb c) rfl (dev10_eq c) (off14_eq c) (M := psM) (M' := prM) rfl rfl rfl (Entails.of_eq (back4 m c (i := 3) (by decide)).symm) (land4 m c (i := 3) (by decide))) $$ [Hps3 HprY3 Hp7 HO7]
  · isplitr; · iexact HR
    isplitl [Hps3]; · iexact Hps3
    isplitl [HprY3]; · iexact HprY3
    isplitl [Hp7]; · iexact Hp7
    iexact HO7
  iintro ⟨Hws7, HO8⟩
  iapply (ret_to c (b := ⟨⟩) (by exact rfl))
  iapply Hk
  isplitl [Hxrf]; · iexact Hxrf
  isplitl [Hwr]; · iexact Hwr
  isplitl [Hws7]; · iexact Hws7
  iexact HO8

end Cert.MoeKernelIdeal
-- ==== Proof.IPart12.lean ====
/-
The twelfth part of the body up to the eighteenth: sums and results.
-/
module

public import proofs.«01_k».proof.Proof.IPart1

@[expose] public section

noncomputable section

namespace Cert.MoeKernelIdeal

open Cert.KernelIdeal Cert.KernelIdeal.Gen Cert.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The first tile with the neighbour's part added, sent along `x`. -/
theorem part12 (c : Dev nD) (v5 : BitVec 32) (v6 : BitVec 32) (v7 : BitVec 32) (v8 : BitVec 32) (v11 : BitVec 32) (Kt : (Σ' (v399 : FVec F S128x1024 .f32) (v416 : Vec F S128x1024 .bf16) (v418 : Vec F S128x2 .f32), FVec F S128x2048 .f32) → sProp 𝕄) :
    iprop(recs m ∗ waitable c (sndS 4) ∗ waitable c (rcvS 4) ∗ tlAny c ssM (ck c 0) ∗ tlAny (xnb c) srM (ck c 0) ∗ sndPre c 8 ∗ Ow c (owed c 8) ∗ held (c : Thread nD τ) xsM (PosShare.right fullShare) Finset.univ (XS m c) ∗ full c waM (WA m c)
        ∗ ((held (c : Thread nD τ) xsM (PosShare.right fullShare) Finset.univ (XS m c) ∗ full c waM (WA m c) ∗ zeroed c (sndS 4) ∗ tl c psM (ck c 0) (PS m c) ∗ zeroed c (rcvS 4) ∗ tl c prM (ck c 0) (PS m (ynb c)) ∗ waitable c (sndS 8) ∗ Ow c (owed c 9)) -∗ Kt ⟨SUM m c (ck c 0), tile (ck c 1) (XS m c), tile (ck c 1) (WA m c), constant S128x2048 .f32 0x00000000#32⟩))
      ⊢ WP c (k0_part12_skel xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14 c (v2 c) v5 v6 v7 v8 v11 (OWN m c (ck c 0))) Kt := by
  unfold k0_part12_skel
  simp only [Prog.lift, Prog.bind_op, Prog.bind_ret, Prog.pure_eq_ret]
  iintro ⟨#HR, Hws4, Hwr4, HssA0, HsrX0, Hp8, HO8, HxsR, Hwa, Hk⟩
  iapply (wait_snd m c 4 8 rfl (credit_rows rfl) (Entails.of_eq (back4 m c (i := 0) (by decide)))) $$ [Hws4 HO8]
  · isplitr; · iexact HR
    isplitl [Hws4]; · iexact Hws4
    iexact HO8
  iintro ⟨Hps0, Hzs4, HO8⟩
  iapply (wait_rcv m c 4 8 (by decide) rfl (credit_rows rfl) (Entails.of_eq (got4 m c (i := 0) (by decide)))) $$ [Hwr4 HO8]
  · isplitr; · iexact HR
    isplitl [Hwr4]; · iexact Hwr4
    iexact HO8
  iintro ⟨Hpr0, Hzr4, HO8⟩
  iapply (load_tile c (off2_eq c) (ck_lt c (by decide)) (Finset.Subset.refl _)) $$ Hpr0; iintro Hpr0
  iapply (load_tile_any c (off2_eq c)) $$ HssA0; iintro %_ HssA0
  iapply (store_tile c (off2_eq c) (ck_lt c (by decide)) (g := SS m c) (tile_paste _ (ck_lt c (by decide)))) $$ HssA0; iintro Hss0
  iapply (send_rows m c 8 (t := xnb c) rfl (dev11_eq c) (off4_eq c) (M := ssM) (M' := srM) rfl rfl rfl (Entails.of_eq (back8 m c (i := 0)).symm) (land8 m c (i := 0))) $$ [Hss0 HsrX0 Hp8 HO8]
  · isplitr; · iexact HR
    isplitl [Hss0]; · iexact Hss0
    isplitl [HsrX0]; · iexact HsrX0
    isplitl [Hp8]; · iexact Hp8
    iexact HO8
  iintro ⟨Hws8, HO9⟩
  iapply (load_tile c (off5_eq c) (ck_lt c (by decide)) (Finset.subset_univ _)) $$ HxsR; iintro HxsR
  iapply (load_tile c (off15_eq c) (ck_lt c (by decide)) (Finset.subset_univ _)) $$ Hwa; iintro Hwa
  iapply (ret_to c (b := ⟨SUM m c (ck c 0), tile (ck c 1) (XS m c), tile (ck c 1) (WA m c), constant S128x2048 .f32 0x00000000#32⟩) (by exact rfl))
  iapply Hk
  isplitl [HxsR]; · iexact HxsR
  isplitl [Hwa]; · iexact Hwa
  isplitl [Hzs4]; · iexact Hzs4
  isplitl [Hps0]; · iexact Hps0
  isplitl [Hzr4]; · iexact Hzr4
  isplitl [Hpr0]; · iexact Hpr0
  isplitl [Hws8]; · iexact Hws8
  iexact HO9

/-- The second tile with the neighbour's part added. -/
theorem part13 (c : Dev nD) (v6 : BitVec 32) (v11 : BitVec 32) (Kt : FVec F S128x1024 .f32 → sProp 𝕄) :
    iprop(recs m ∗ waitable c (sndS 5) ∗ waitable c (rcvS 5) ∗ tlAny c ssM (ck c 1) ∗ Ow c (owed c 9)
        ∗ ((Ow c (owed c 9) ∗ zeroed c (sndS 5) ∗ tl c psM (ck c 1) (PS m c) ∗ zeroed c (rcvS 5) ∗ tl c prM (ck c 1) (PS m (ynb c)) ∗ tl c ssM (ck c 1) (SS m c)) -∗ Kt (SUM m c (ck c 1))))
      ⊢ WP c (k0_part13_skel xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14 c (v2 c) v6 v11 (E1 m c 0) (E2 m c 0) (E1 m c 1) (E2 m c 1) (tile (ck c 1) (XS m c)) (tile (ck c 1) (WA m c)) (constant S128x2048 .f32 0x00000000#32)) Kt := by
  unfold k0_part13_skel
  simp only [Prog.lift, Prog.bind_op, Prog.bind_ret, Prog.pure_eq_ret]
  iintro ⟨#HR, Hws5, Hwr5, HssA1, HO9, Hk⟩
  iapply (wait_snd m c 5 9 rfl (credit_rows rfl) (Entails.of_eq (back4 m c (i := 1) (by decide)))) $$ [Hws5 HO9]
  · isplitr; · iexact HR
    isplitl [Hws5]; · iexact Hws5
    iexact HO9
  iintro ⟨Hps1, Hzs5, HO9⟩
  iapply (wait_rcv m c 5 9 (by decide) rfl (credit_rows rfl) (Entails.of_eq (got4 m c (i := 1) (by decide)))) $$ [Hwr5 HO9]
  · isplitr; · iexact HR
    isplitl [Hwr5]; · iexact Hwr5
    iexact HO9
  iintro ⟨Hpr1, Hzr5, HO9⟩
  iapply (load_tile c (off5_eq c) (ck_lt c (by decide)) (Finset.Subset.refl _)) $$ Hpr1; iintro Hpr1
  iapply (load_tile_any c (off5_eq c)) $$ HssA1; iintro %_ HssA1
  iapply (store_tile c (off5_eq c) (ck_lt c (by decide)) (g := SS m c) (tile_paste _ (ck_lt c (by decide)))) $$ HssA1; iintro Hss1
  iapply (ret_to c (b := (SUM m c (ck c 1))) (by exact rfl))
  iapply Hk
  isplitl [HO9]; · iexact HO9
  isplitl [Hzs5]; · iexact Hzs5
  isplitl [Hps1]; · iexact Hps1
  isplitl [Hzr5]; · iexact Hzr5
  isplitl [Hpr1]; · iexact Hpr1
  iexact Hss1

/-- That tile sent along `x`; the own third tile. -/
theorem part14 (c : Dev nD) (v5 : BitVec 32) (v7 : BitVec 32) (v10 : BitVec 32) (Kt : (Σ' (v487 : FVec F S128x1024 .f32), BitVec 32) → sProp 𝕄) :
    iprop(recs m ∗ tl c ssM (ck c 1) (SS m c) ∗ tlAny (xnb c) srM (ck c 1) ∗ sndPre c 9 ∗ Ow c (owed c 9) ∗ held (c : Thread nD τ) xsM (PosShare.right fullShare) Finset.univ (XS m c) ∗ full c waM (WA m c) ∗ waitable c (sndS 6)
        ∗ ((held (c : Thread nD τ) xsM (PosShare.right fullShare) Finset.univ (XS m c) ∗ full c waM (WA m c) ∗ waitable c (sndS 9) ∗ Ow c (owed c 10) ∗ zeroed c (sndS 6) ∗ tl c psM (ck c 2) (PS m c)) -∗ Kt ⟨OWN m c (ck c 2), 2#32⟩))
      ⊢ WP c (k0_part14_skel xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14 c v5 v7 v10 (E1 m c 0) (E2 m c 0) (E1 m c 1) (E2 m c 1)) Kt := by
  unfold k0_part14_skel
  simp only [Prog.lift, Prog.bind_op, Prog.bind_ret, Prog.pure_eq_ret]
  iintro ⟨#HR, Hss1, HsrX1, Hp9, HO9, HxsR, Hwa, Hws6, Hk⟩
  iapply (send_rows m c 9 (t := xnb c) rfl (dev12_eq c) (off7_eq c) (M := ssM) (M' := srM) rfl rfl rfl (Entails.of_eq (back8 m c (i := 1)).symm) (land8 m c (i := 1))) $$ [Hss1 HsrX1 Hp9 HO9]
  · isplitr; · iexact HR
    isplitl [Hss1]; · iexact Hss1
    isplitl [HsrX1]; · iexact HsrX1
    isplitl [Hp9]; · iexact Hp9
    iexact HO9
  iintro ⟨Hws9, HO10⟩
  iapply (load_tile c (off9_eq c) (ck_lt c (by decide)) (Finset.subset_univ _)) $$ HxsR; iintro HxsR
  iapply (load_tile c (off16_eq c) (ck_lt c (by decide)) (Finset.subset_univ _)) $$ Hwa; iintro Hwa
  iapply (wait_snd m c 6 10 rfl (credit_rows rfl) (Entails.of_eq (back4 m c (i := 2) (by decide)))) $$ [Hws6 HO10]
  · isplitr; · iexact HR
    isplitl [Hws6]; · iexact Hws6
    iexact HO10
  iintro ⟨Hps2, Hzs6, HO10⟩
  iapply (ret_to c (b := ⟨OWN m c (ck c 2), 2#32⟩) (by exact rfl))
  iapply Hk
  isplitl [HxsR]; · iexact HxsR
  isplitl [Hwa]; · iexact Hwa
  isplitl [Hws9]; · iexact Hws9
  isplitl [HO10]; · iexact HO10
  isplitl [Hzs6]; · iexact Hzs6
  iexact Hps2

/-- The third tile with the neighbour's part added, sent along `x`. -/
theorem part15 (c : Dev nD) (v5 : BitVec 32) (v6 : BitVec 32) (v7 : BitVec 32) (v10 : BitVec 32) (v12 : BitVec 32) (v0 : BitVec 32) (Kt : (Σ' (v503 : FVec F S128x1024 .f32) (v520 : Vec F S128x1024 .bf16) (v522 : Vec F S128x2 .f32), FVec F S128x1024 .f32) → sProp 𝕄) :
    iprop(recs m ∗ waitable c (rcvS 6) ∗ tlAny c ssM (ck c 2) ∗ tlAny (xnb c) srM (ck c 2) ∗ sndPre c 10 ∗ Ow c (owed c 10) ∗ held (c : Thread nD τ) xsM (PosShare.right fullShare) Finset.univ (XS m c) ∗ full c waM (WA m c)
        ∗ ((held (c : Thread nD τ) xsM (PosShare.right fullShare) Finset.univ (XS m c) ∗ full c waM (WA m c) ∗ zeroed c (rcvS 6) ∗ tl c prM (ck c 2) (PS m (ynb c)) ∗ waitable c (sndS 10) ∗ Ow c (owed c 11)) -∗ Kt ⟨SUM m c (ck c 2), tile (ck c 3) (XS m c), tile (ck c 3) (WA m c), k0_pay28 (E1 m c 0) (E2 m c 0) (tile (ck c 3) (XS m c)) (tile (ck c 3) (WA m c))⟩))
      ⊢ WP c (k0_part15_skel xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14 c (v2 c) v5 v6 v7 v10 v12 (E1 m c 0) (E2 m c 0) (OWN m c (ck c 2)) v0) Kt := by
  unfold k0_part15_skel
  simp only [Prog.lift, Prog.bind_op, Prog.bind_ret, Prog.pure_eq_ret]
  iintro ⟨#HR, Hwr6, HssA2, HsrX2, Hp10, HO10, HxsR, Hwa, Hk⟩
  iapply (wait_rcv m c 6 10 (by decide) rfl (credit_rows rfl) (Entails.of_eq (got4 m c (i := 2) (by decide)))) $$ [Hwr6 HO10]
  · isplitr; · iexact HR
    isplitl [Hwr6]; · iexact Hwr6
    iexact HO10
  iintro ⟨Hpr2, Hzr6, HO10⟩
  iapply (load_tile c (off9_eq c) (ck_lt c (by decide)) (Finset.Subset.refl _)) $$ Hpr2; iintro Hpr2
  iapply (load_tile_any c (off9_eq c)) $$ HssA2; iintro %_ HssA2
  iapply (store_tile c (off9_eq c) (ck_lt c (by decide)) (g := SS m c) (tile_paste _ (ck_lt c (by decide)))) $$ HssA2; iintro Hss2
  iapply (send_rows m c 10 (t := xnb c) rfl (dev13_eq c) (off11_eq c) (M := ssM) (M' := srM) rfl rfl rfl (Entails.of_eq (back8 m c (i := 2)).symm) (land8 m c (i := 2))) $$ [Hss2 HsrX2 Hp10 HO10]
  · isplitr; · iexact HR
    isplitl [Hss2]; · iexact Hss2
    isplitl [HsrX2]; · iexact HsrX2
    isplitl [Hp10]; · iexact Hp10
    iexact HO10
  iintro ⟨Hws10, HO11⟩
  iapply (load_tile c (off12_eq c) (ck_lt c (by decide)) (Finset.subset_univ _)) $$ HxsR; iintro HxsR
  iapply (load_tile c (off17_eq c) (ck_lt c (by decide)) (Finset.subset_univ _)) $$ Hwa; iintro Hwa
  iapply (ret_to c (b := ⟨SUM m c (ck c 2), tile (ck c 3) (XS m c), tile (ck c 3) (WA m c), k0_pay28 (E1 m c 0) (E2 m c 0) (tile (ck c 3) (XS m c)) (tile (ck c 3) (WA m c))⟩) (by exact rfl))
  iapply Hk
  isplitl [HxsR]; · iexact HxsR
  isplitl [Hwa]; · iexact Hwa
  isplitl [Hzr6]; · iexact Hzr6
  isplitl [Hpr2]; · iexact Hpr2
  isplitl [Hws10]; · iexact Hws10
  iexact HO11

/-- The fourth tile with the neighbour's part added. -/
theorem part16 (c : Dev nD) (v5 : BitVec 32) (v6 : BitVec 32) (v7 : BitVec 32) (v12 : BitVec 32) (Kt : FVec F S128x1024 .f32 → sProp 𝕄) :
    iprop(recs m ∗ waitable c (sndS 7) ∗ waitable c (rcvS 7) ∗ tlAny c ssM (ck c 3) ∗ Ow c (owed c 11)
        ∗ ((Ow c (owed c 11) ∗ zeroed c (sndS 7) ∗ tl c psM (ck c 3) (PS m c) ∗ zeroed c (rcvS 7) ∗ tl c prM (ck c 3) (PS m (ynb c)) ∗ tl c ssM (ck c 3) (SS m c)) -∗ Kt (SUM m c (ck c 3))))
      ⊢ WP c (k0_part16_skel xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14 c (v2 c) v5 v6 v7 v12 (E1 m c 1) (E2 m c 1) (tile (ck c 3) (XS m c)) (tile (ck c 3) (WA m c)) (k0_pay28 (E1 m c 0) (E2 m c 0) (tile (ck c 3) (XS m c)) (tile (ck c 3) (WA m c)))) Kt := by
  unfold k0_part16_skel
  simp only [Prog.lift, Prog.bind_op, Prog.bind_ret, Prog.pure_eq_ret]
  iintro ⟨#HR, Hws7, Hwr7, HssA3, HO11, Hk⟩
  iapply (wait_snd m c 7 11 rfl (credit_rows rfl) (Entails.of_eq (back4 m c (i := 3) (by decide)))) $$ [Hws7 HO11]
  · isplitr; · iexact HR
    isplitl [Hws7]; · iexact Hws7
    iexact HO11
  iintro ⟨Hps3, Hzs7, HO11⟩
  iapply (wait_rcv m c 7 11 (by decide) rfl (credit_rows rfl) (Entails.of_eq (got4 m c (i := 3) (by decide)))) $$ [Hwr7 HO11]
  · isplitr; · iexact HR
    isplitl [Hwr7]; · iexact Hwr7
    iexact HO11
  iintro ⟨Hpr3, Hzr7, HO11⟩
  iapply (load_tile c (off12_eq c) (ck_lt c (by decide)) (Finset.Subset.refl _)) $$ Hpr3; iintro Hpr3
  iapply (load_tile_any c (off12_eq c)) $$ HssA3; iintro %_ HssA3
  iapply (store_tile c (off12_eq c) (ck_lt c (by decide)) (g := SS m c) (tile_paste _ (ck_lt c (by decide)))) $$ HssA3; iintro Hss3
  iapply (ret_to c (b := (SUM m c (ck c 3))) (by exact rfl))
  iapply Hk
  isplitl [HO11]; · iexact HO11
  isplitl [Hzs7]; · iexact Hzs7
  isplitl [Hps3]; · iexact Hps3
  isplitl [Hzr7]; · iexact Hzr7
  isplitl [Hpr3]; · iexact Hpr3
  iexact Hss3

/-- That tile sent along `x`; the third tile of the result. -/
theorem part17 (c : Dev nD) (v5 : BitVec 32) (v7 : BitVec 32) (v10 : BitVec 32) (Kt : (Σ' (v594 : BitVec 32), BitVec 32) → sProp 𝕄) :
    iprop(recs m ∗ tl c ssM (ck c 3) (SS m c) ∗ tlAny (xnb c) srM (ck c 3) ∗ sndPre c 11 ∗ Ow c (owed c 11) ∗ waitable c (sndS 8) ∗ waitable c (rcvS 8) ∗ tlAny c oM (ck c 2) ∗ waitable c (sndS 9)
        ∗ ((waitable c (sndS 11) ∗ Ow c (owed c 12) ∗ zeroed c (sndS 8) ∗ tl c ssM (ck c 0) (SS m c) ∗ zeroed c (rcvS 8) ∗ tl c srM (ck c 2) (SS m (xnb c)) ∗ tl c oM (ck c 2) (OUT m c) ∗ zeroed c (sndS 9) ∗ tl c ssM (ck c 1) (SS m c)) -∗ Kt ⟨Scalar.addi 0#32 (Scalar.muli v7 2#32), 1#32⟩))
      ⊢ WP c (k0_part17_skel xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14 c v5 v7 v10 (SUM m c (ck c 2))) Kt := by
  unfold k0_part17_skel
  simp only [Prog.lift, Prog.bind_op, Prog.bind_ret, Prog.pure_eq_ret]
  iintro ⟨#HR, Hss3, HsrX3, Hp11, HO11, Hws8, Hwr8, HoA2, Hws9, Hk⟩
  iapply (send_rows m c 11 (t := xnb c) rfl (dev14_eq c) (off14_eq c) (M := ssM) (M' := srM) rfl rfl rfl (Entails.of_eq (back8 m c (i := 3)).symm) (land8 m c (i := 3))) $$ [Hss3 HsrX3 Hp11 HO11]
  · isplitr; · iexact HR
    isplitl [Hss3]; · iexact Hss3
    isplitl [HsrX3]; · iexact HsrX3
    isplitl [Hp11]; · iexact Hp11
    iexact HO11
  iintro ⟨Hws11, HO12⟩
  iapply (wait_snd m c 8 12 rfl (credit_rows rfl) (Entails.of_eq (back8 m c (i := 0)))) $$ [Hws8 HO12]
  · isplitr; · iexact HR
    isplitl [Hws8]; · iexact Hws8
    iexact HO12
  iintro ⟨Hss0, Hzs8, HO12⟩
  iapply (wait_rcv m c 8 12 (by decide) rfl (credit_rows rfl) (Entails.of_eq (got8lo m c (i := 0) (by decide)))) $$ [Hwr8 HO12]
  · isplitr; · iexact HR
    isplitl [Hwr8]; · iexact Hwr8
    iexact HO12
  iintro ⟨Hsr2, Hzr8, HO12⟩
  iapply (load_tile c (off9_eq c) (ck_lt c (by decide)) (Finset.Subset.refl _)) $$ Hsr2; iintro Hsr2
  iapply (load_tile_any c (off9_eq c)) $$ HoA2; iintro %_ HoA2
  iapply (store_tile c (off9_eq c) (ck_lt c (by decide)) (g := OUT m c) (tile_paste _ (ck_lt c (by decide)))) $$ HoA2; iintro Ho2
  iapply (wait_snd m c 9 12 rfl (credit_rows rfl) (Entails.of_eq (back8 m c (i := 1)))) $$ [Hws9 HO12]
  · isplitr; · iexact HR
    isplitl [Hws9]; · iexact Hws9
    iexact HO12
  iintro ⟨Hss1, Hzs9, HO12⟩
  iapply (ret_to c (b := ⟨Scalar.addi 0#32 (Scalar.muli v7 2#32), 1#32⟩) (by exact rfl))
  iapply Hk
  isplitl [Hws11]; · iexact Hws11
  isplitl [HO12]; · iexact HO12
  isplitl [Hzs8]; · iexact Hzs8
  isplitl [Hss0]; · iexact Hss0
  isplitl [Hzr8]; · iexact Hzr8
  isplitl [Hsr2]; · iexact Hsr2
  isplitl [Ho2]; · iexact Ho2
  isplitl [Hzs9]; · iexact Hzs9
  iexact Hss1

/-- The fourth and the first tile of the result. -/
theorem part18 (c : Dev nD) (v5 : BitVec 32) (v7 : BitVec 32) (v8 : BitVec 32) (v12 : BitVec 32) (v594 : BitVec 32) (v1 : BitVec 32) (Kt : PUnit → sProp 𝕄) :
    iprop(recs m ∗ waitable c (rcvS 9) ∗ Ow c (owed c 12) ∗ tlAny c oM (ck c 3) ∗ waitable c (sndS 10) ∗ waitable c (rcvS 10) ∗ tlAny c oM (ck c 0)
        ∗ ((Ow c (owed c 12) ∗ zeroed c (rcvS 9) ∗ tl c srM (ck c 3) (SS m (xnb c)) ∗ tl c oM (ck c 3) (OUT m c) ∗ zeroed c (sndS 10) ∗ tl c ssM (ck c 2) (SS m c) ∗ zeroed c (rcvS 10) ∗ tl c srM (ck c 0) (SS m (xnb c)) ∗ tl c oM (ck c 0) (OUT m c)) -∗ Kt ⟨⟩))
      ⊢ WP c (k0_part18_skel xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14 c v5 v7 v8 v12 (SUM m c (ck c 0)) (SUM m c (ck c 3)) v594 v1) Kt := by
  unfold k0_part18_skel
  simp only [Prog.lift, Prog.bind_op, Prog.bind_ret, Prog.pure_eq_ret]
  iintro ⟨#HR, Hwr9, HO12, HoA3, Hws10, Hwr10, HoA0, Hk⟩
  iapply (wait_rcv m c 9 12 (by decide) rfl (credit_rows rfl) (Entails.of_eq (got8lo m c (i := 1) (by decide)))) $$ [Hwr9 HO12]
  · isplitr; · iexact HR
    isplitl [Hwr9]; · iexact Hwr9
    iexact HO12
  iintro ⟨Hsr3, Hzr9, HO12⟩
  iapply (load_tile c (off12_eq c) (ck_lt c (by decide)) (Finset.Subset.refl _)) $$ Hsr3; iintro Hsr3
  iapply (load_tile_any c (off12_eq c)) $$ HoA3; iintro %_ HoA3
  iapply (store_tile c (off12_eq c) (ck_lt c (by decide)) (g := OUT m c) (tile_paste _ (ck_lt c (by decide)))) $$ HoA3; iintro Ho3
  iapply (wait_snd m c 10 12 rfl (credit_rows rfl) (Entails.of_eq (back8 m c (i := 2)))) $$ [Hws10 HO12]
  · isplitr; · iexact HR
    isplitl [Hws10]; · iexact Hws10
    iexact HO12
  iintro ⟨Hss2, Hzs10, HO12⟩
  iapply (wait_rcv m c 10 12 (by decide) rfl (credit_rows rfl) (Entails.of_eq (got8hi m c (i := 0) (by decide)))) $$ [Hwr10 HO12]
  · isplitr; · iexact HR
    isplitl [Hwr10]; · iexact Hwr10
    iexact HO12
  iintro ⟨Hsr0, Hzr10, HO12⟩
  iapply (load_tile c (off2_eq c) (ck_lt c (by decide)) (Finset.Subset.refl _)) $$ Hsr0; iintro Hsr0
  iapply (load_tile_any c (off2_eq c)) $$ HoA0; iintro %_ HoA0
  iapply (store_tile c (off2_eq c) (ck_lt c (by decide)) (g := OUT m c) (tile_paste _ (ck_lt c (by decide)))) $$ HoA0; iintro Ho0
  iapply (ret_to c (b := ⟨⟩) (by exact rfl))
  iapply Hk
  isplitl [HO12]; · iexact HO12
  isplitl [Hzr9]; · iexact Hzr9
  isplitl [Hsr3]; · iexact Hsr3
  isplitl [Ho3]; · iexact Ho3
  isplitl [Hzs10]; · iexact Hzs10
  isplitl [Hss2]; · iexact Hss2
  isplitl [Hzr10]; · iexact Hzr10
  isplitl [Hsr0]; · iexact Hsr0
  iexact Ho0

end Cert.MoeKernelIdeal
-- ==== Proof.IBody.lean ====
/-
The body from its parts.
-/
module

public import proofs.«01_k».proof.Proof.IPieces
public import proofs.«01_k».proof.Proof.IPart2
public import proofs.«01_k».proof.Proof.IPart3
public import proofs.«01_k».proof.Proof.IPart7
public import proofs.«01_k».proof.Proof.IPart12

@[expose] public section

noncomputable section

namespace Cert.MoeKernelIdeal

open Cert.KernelIdeal Cert.KernelIdeal.Gen Cert.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The parts followed by the rest -/

/-- A program followed by another. -/
theorem bindW {α β : Type} (c : Dev nD) {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := by
  unfold WP
  exact Entails.of_eq (wp_bind ..).symm
/-- The same from a goal that holds of the first. -/
theorem bindR {α β : Type} (c : Dev nD) {p : Prog (TpuEff nD τ sig (Elt F) Λ₀ .tc) α} {k : α → Prog (TpuEff nD τ sig (Elt F) Λ₀ .tc) β} {Q : β → sProp 𝕄}
    {R : sProp 𝕄} (h : R ⊢ WP c p (fun a => WP c (k a) Q)) : R ⊢ WP c (p >>= k) Q := h.trans (bindW c)

/-- Part 1 of the body, followed by the rest. -/
theorem step1 (c : Dev nD) (kk : (Σ' (_ : Dev nD) (_ : BitVec 32) (_ : BitVec 32) (_ : BitVec 32) (_ : BitVec 32) (_ : BitVec 32) (_ : BitVec 32) (_ : BitVec 32), BitVec 32) → Prog (TpuEff nD τ sig (Elt F) Λ₀ .tc) PUnit) (Q : PUnit → sProp 𝕄) :
    iprop(recs m ∗ barPre c ∗ Ow c (O₀ c) ∗ lend c ∗ full c xM (xstg m c) ∗ anyU c xsM
        ∗ (∀ v5 v6 v7 v8 v10 v11 v12, (lent c ∗ Ow c (owed c 0) ∗ semVal (barCell c) 0 ∗ full c xM (xstg m c) ∗ full c xsM (XS m c))
            -∗ WP c (kk ⟨c, v2 c, v5, v6, v7, v8, v10, v11, v12⟩) Q))
      ⊢ WP c (k0_part1 xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14 >>= kk) Q := by
  rw [k0_part1_eq_skeleton]
  exact (part1 m c (fun a => WP c (kk a) Q)).trans (bindW c)

/-- Part 2 of the body, followed by the rest. -/
theorem step2 (c : Dev nD) (v6 : BitVec 32) (kk : PUnit → Prog (TpuEff nD τ sig (Elt F) Λ₀ .tc) PUnit) (Q : PUnit → sProp 𝕄) :
    iprop(recs m ∗ hf c xsM (PosShare.left fullShare) (ck c 0) (XS m c) ∗ hfAny (ynb c) xrM (ck c 0) ∗ full c rM (rstg m c) ∗ anyU (ynb c) rrM
        ∗ sndPre c 0 ∗ sndPre c 1 ∗ Ow c (owed c 0) ∗ cpyIn m c
        ∗ ((waitable c (sndS 0) ∗ full c rM (rstg m c) ∗ zeroed c (sndS 1) ∗ Ow c (owed c 2) ∗ cpyOut c) -∗ WP c (kk ⟨⟩) Q))
      ⊢ WP c (k0_part2 xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14 c (v2 c) v6 >>= kk) Q := by
  rw [k0_part2_eq_skeleton]
  exact (part2 m c v6 (fun a => WP c (kk a) Q)).trans (bindW c)

/-- Part 3 of the body, followed by the rest. -/
theorem step3 (c : Dev nD) (v6 : BitVec 32) (kk : (Σ' (v86 : FVec F S512x1 .f32) (v92 : FVec F S512x1 .f32) (v94 : IVec S512x8 1) (v97 : FVec F S512x8 .f32), FVec F S512x8 .f32) → Prog (TpuEff nD τ sig (Elt F) Λ₀ .tc) PUnit) (Q : PUnit → sProp 𝕄) :
    iprop(recs m ∗ waitable c (rcvS 1) ∗ Ow c (owed c 2) ∗ full c rM (rstg m c) ∗ held (c : Thread nD τ) xsM (PosShare.right fullShare) Finset.univ (XS m c) ∗ full c xM (xstg m c)
        ∗ ((Ow c (owed c 2) ∗ full c rM (rstg m c) ∗ held (c : Thread nD τ) xsM (PosShare.right fullShare) Finset.univ (XS m c) ∗ full c xM (xstg m c) ∗ zeroed c (rcvS 1) ∗ full c rrM (rstg m (ynb c))) -∗ WP c (kk ⟨k0_pay4 (rstg m c) (rstg m (ynb c)) (XS m c) (xstg m c), k0_pay5 (rstg m c) (rstg m (ynb c)) (XS m c) (xstg m c), k0_pay6 (rstg m c) (rstg m (ynb c)) (XS m c) (xstg m c), k0_pay7 (rstg m c) (rstg m (ynb c)) (XS m c) (xstg m c), k0_pay8⟩) Q))
      ⊢ WP c (k0_part3 xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14 (v2 c) v6 >>= kk) Q := by
  refine bindR c ?_
  rw [k0_part3_eq_skeleton]
  exact (part3 m c v6 (fun a => WP c (kk a) Q))

/-- Part 4 of the body, followed by the rest. -/
theorem step4 (c : Dev nD) (v6 : BitVec 32) (kk : PUnit → Prog (TpuEff nD τ sig (Elt F) Λ₀ .tc) PUnit) (Q : PUnit → sProp 𝕄) :
    iprop(recs m ∗ anyU c wsM ∗ anyU (ynb c) wrM ∗ sndPre c 2 ∗ Ow c (owed c 2) ∗ anyU c waM ∗ waitable c (cpyS 0)
        ∗ ((waitable c (sndS 2) ∗ Ow c (owed c 3) ∗ full c waM (WA m c) ∗ zeroed c (cpyS 0) ∗ held (c : Thread nD τ) w1M fullShare (slabSet 2 1024 2048 0) (W1P m c) ∗ held (c : Thread nD τ) w1A fullShare (slabSet 4 1024 2048 (2 * px c + 0)) (w1V m c)) -∗ WP c (kk ⟨⟩) Q))
      ⊢ WP c (k0_part4 xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14 c (v2 c) v6 (k0_pay4 (rstg m c) (rstg m (ynb c)) (XS m c) (xstg m c)) (k0_pay5 (rstg m c) (rstg m (ynb c)) (XS m c) (xstg m c)) (k0_pay6 (rstg m c) (rstg m (ynb c)) (XS m c) (xstg m c)) (k0_pay7 (rstg m c) (rstg m (ynb c)) (XS m c) (xstg m c)) k0_pay8 >>= kk) Q := by
  refine bindR c ?_
  rw [k0_part4_eq_skeleton]
  exact (part4 m c v6 (fun a => WP c (kk a) Q))

/-- Part 5 of the body, followed by the rest. -/
theorem step5 (c : Dev nD) (kk : (Σ' (v139 : FVec F S1024x2048 .bf16) (v142 : FVec F S2048x1024 .bf16), FVec F S1024x2048 .bf16) → Prog (TpuEff nD τ sig (Elt F) Λ₀ .tc) PUnit) (Q : PUnit → sProp 𝕄) :
    iprop(recs m ∗ waitable c (cpyS 1) ∗ waitable c (cpyS 2) ∗ waitable c (cpyS 3) ∗ Ow c (owed c 3) ∗ held (c : Thread nD τ) w1M fullShare (slabSet 2 1024 2048 0) (W1P m c)
        ∗ ((Ow c (owed c 3) ∗ held (c : Thread nD τ) w1M fullShare (slabSet 2 1024 2048 0) (W1P m c) ∗ zeroed c (cpyS 1) ∗ held (c : Thread nD τ) w2M fullShare (slabSet 2 2048 1024 0) (W2P m c) ∗ held (c : Thread nD τ) w2A fullShare (slabSet 4 2048 1024 (2 * px c + 0)) (w2V m c) ∗ zeroed c (cpyS 2) ∗ held (c : Thread nD τ) w1M fullShare (slabSet 2 1024 2048 1) (W1P m c) ∗ held (c : Thread nD τ) w1A fullShare (slabSet 4 1024 2048 (2 * px c + 1)) (w1V m c) ∗ zeroed c (cpyS 3) ∗ held (c : Thread nD τ) w2M fullShare (slabSet 2 2048 1024 1) (W2P m c) ∗ held (c : Thread nD τ) w2A fullShare (slabSet 4 2048 1024 (2 * px c + 1)) (w2V m c)) -∗ WP c (kk ⟨E1 m c 0, E2 m c 0, E1 m c 1⟩) Q))
      ⊢ WP c (k0_part5 xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14 >>= kk) Q := by
  refine bindR c ?_
  rw [k0_part5_eq_skeleton]
  exact (part5 m c  (fun a => WP c (kk a) Q))

/-- Part 6 of the body, followed by the rest. -/
theorem step6 (c : Dev nD) (v5 : BitVec 32) (v6 : BitVec 32) (v7 : BitVec 32) (kk : FVec F S2048x1024 .bf16 → Prog (TpuEff nD τ sig (Elt F) Λ₀ .tc) PUnit) (Q : PUnit → sProp 𝕄) :
    iprop(recs m ∗ held (c : Thread nD τ) w2M fullShare (slabSet 2 2048 1024 1) (W2P m c) ∗ waitable c (sndS 2) ∗ waitable c (rcvS 2) ∗ waitable c (sndS 0) ∗ waitable c (rcvS 0) ∗ Ow c (owed c 3)
        ∗ ((held (c : Thread nD τ) w2M fullShare (slabSet 2 2048 1024 1) (W2P m c) ∗ Ow c (owed c 3) ∗ zeroed c (sndS 2) ∗ full c wsM (WS m c) ∗ zeroed c (rcvS 2) ∗ full c wrM (WS m (ynb c)) ∗ zeroed c (sndS 0) ∗ hf c xsM (PosShare.left fullShare) (ck c 0) (XS m c) ∗ zeroed c (rcvS 0) ∗ hf c xrM fullShare (ck c 0) (XR m c)) -∗ WP c (kk (E2 m c 1)) Q))
      ⊢ WP c (k0_part6 xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14 c (v2 c) v5 v6 v7 >>= kk) Q := by
  refine bindR c ?_
  rw [k0_part6_eq_skeleton]
  exact (part6 m c v5 v6 v7 (fun a => WP c (kk a) Q))

/-- Part 7 of the body, followed by the rest. -/
theorem step7 (c : Dev nD) (v6 : BitVec 32) (v8 : BitVec 32) (kk : PUnit → Prog (TpuEff nD τ sig (Elt F) Λ₀ .tc) PUnit) (Q : PUnit → sProp 𝕄) :
    iprop(recs m ∗ hf c xrM fullShare (ck c 0) (XR m c) ∗ hfAny (xnb c) xrM (ck c 0) ∗ sndPre c 3 ∗ Ow c (owed c 3) ∗ full c wrM (WS m (ynb c)) ∗ tlAny c psM (ck c 0)
        ∗ ((full c wrM (WS m (ynb c)) ∗ hf c xrM (PosShare.right fullShare) (ck c 0) (XR m c) ∗ waitable c (sndS 3) ∗ Ow c (owed c 4) ∗ tl c psM (ck c 0) (PS m c)) -∗ WP c (kk ⟨⟩) Q))
      ⊢ WP c (k0_part7 xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14 c (v2 c) v6 v8 (E1 m c 0) (E2 m c 0) (E1 m c 1) (E2 m c 1) >>= kk) Q := by
  refine bindR c ?_
  rw [k0_part7_eq_skeleton]
  exact (part7 m c v6 v8 (fun a => WP c (kk a) Q))

/-- Part 8 of the body, followed by the rest. -/
theorem step8 (c : Dev nD) (v6 : BitVec 32) (v11 : BitVec 32) (kk : PUnit → Prog (TpuEff nD τ sig (Elt F) Λ₀ .tc) PUnit) (Q : PUnit → sProp 𝕄) :
    iprop(recs m ∗ tl c psM (ck c 0) (PS m c) ∗ tlAny (ynb c) prM (ck c 0) ∗ sndPre c 4 ∗ Ow c (owed c 4) ∗ hf c xrM (PosShare.right fullShare) (ck c 0) (XR m c) ∗ full c wrM (WS m (ynb c)) ∗ tlAny c psM (ck c 1)
        ∗ ((hf c xrM (PosShare.right fullShare) (ck c 0) (XR m c) ∗ full c wrM (WS m (ynb c)) ∗ waitable c (sndS 4) ∗ Ow c (owed c 5) ∗ tl c psM (ck c 1) (PS m c)) -∗ WP c (kk ⟨⟩) Q))
      ⊢ WP c (k0_part8 xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14 c (v2 c) v6 v11 (E1 m c 0) (E2 m c 0) (E1 m c 1) (E2 m c 1) >>= kk) Q := by
  refine bindR c ?_
  rw [k0_part8_eq_skeleton]
  exact (part8 m c v6 v11 (fun a => WP c (kk a) Q))

/-- Part 9 of the body, followed by the rest. -/
theorem step9 (c : Dev nD) (v5 : BitVec 32) (v7 : BitVec 32) (v8 : BitVec 32) (v10 : BitVec 32) (kk : FVec F S128x1024 .f32 → Prog (TpuEff nD τ sig (Elt F) Λ₀ .tc) PUnit) (Q : PUnit → sProp 𝕄) :
    iprop(recs m ∗ tl c psM (ck c 1) (PS m c) ∗ tlAny (ynb c) prM (ck c 1) ∗ sndPre c 5 ∗ Ow c (owed c 5) ∗ held (c : Thread nD τ) xsM (PosShare.right fullShare) Finset.univ (XS m c) ∗ full c waM (WA m c) ∗ waitable c (sndS 3) ∗ waitable c (rcvS 3)
        ∗ ((held (c : Thread nD τ) xsM (PosShare.right fullShare) Finset.univ (XS m c) ∗ full c waM (WA m c) ∗ waitable c (sndS 5) ∗ Ow c (owed c 6) ∗ zeroed c (sndS 3) ∗ hf c xrM (PosShare.left fullShare) (ck c 0) (XR m c) ∗ zeroed c (rcvS 3) ∗ hf c xrM fullShare (ck c 2) (XR m c)) -∗ WP c (kk (OWN m c (ck c 0))) Q))
      ⊢ WP c (k0_part9 xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14 c v5 v7 v8 v10 (E1 m c 0) (E2 m c 0) (E1 m c 1) (E2 m c 1) >>= kk) Q := by
  refine bindR c ?_
  rw [k0_part9_eq_skeleton]
  exact (part9 m c v5 v7 v8 v10 (fun a => WP c (kk a) Q))

/-- Part 10 of the body, followed by the rest. -/
theorem step10 (c : Dev nD) (v6 : BitVec 32) (v10 : BitVec 32) (v12 : BitVec 32) (kk : PUnit → Prog (TpuEff nD τ sig (Elt F) Λ₀ .tc) PUnit) (Q : PUnit → sProp 𝕄) :
    iprop(recs m ∗ hf c xrM fullShare (ck c 2) (XR m c) ∗ full c wrM (WS m (ynb c)) ∗ tlAny c psM (ck c 2) ∗ tlAny (ynb c) prM (ck c 2) ∗ sndPre c 6 ∗ Ow c (owed c 6)
        ∗ ((hf c xrM fullShare (ck c 2) (XR m c) ∗ full c wrM (WS m (ynb c)) ∗ waitable c (sndS 6) ∗ Ow c (owed c 7)) -∗ WP c (kk ⟨⟩) Q))
      ⊢ WP c (k0_part10 xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14 c (v2 c) v6 v10 v12 (E1 m c 0) (E2 m c 0) (E1 m c 1) (E2 m c 1) >>= kk) Q := by
  refine bindR c ?_
  rw [k0_part10_eq_skeleton]
  exact (part10 m c v6 v10 v12 (fun a => WP c (kk a) Q))

/-- Part 11 of the body, followed by the rest. -/
theorem step11 (c : Dev nD) (v6 : BitVec 32) (v12 : BitVec 32) (kk : PUnit → Prog (TpuEff nD τ sig (Elt F) Λ₀ .tc) PUnit) (Q : PUnit → sProp 𝕄) :
    iprop(recs m ∗ hf c xrM fullShare (ck c 2) (XR m c) ∗ full c wrM (WS m (ynb c)) ∗ tlAny c psM (ck c 3) ∗ tlAny (ynb c) prM (ck c 3) ∗ sndPre c 7 ∗ Ow c (owed c 7)
        ∗ ((hf c xrM fullShare (ck c 2) (XR m c) ∗ full c wrM (WS m (ynb c)) ∗ waitable c (sndS 7) ∗ Ow c (owed c 8)) -∗ WP c (kk ⟨⟩) Q))
      ⊢ WP c (k0_part11 xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14 c (v2 c) v6 v12 (E1 m c 0) (E2 m c 0) (E1 m c 1) (E2 m c 1) >>= kk) Q := by
  refine bindR c ?_
  rw [k0_part11_eq_skeleton]
  exact (part11 m c v6 v12 (fun a => WP c (kk a) Q))

/-- Part 12 of the body, followed by the rest. -/
theorem step12 (c : Dev nD) (v5 : BitVec 32) (v6 : BitVec 32) (v7 : BitVec 32) (v8 : BitVec 32) (v11 : BitVec 32) (kk : (Σ' (v399 : FVec F S128x1024 .f32) (v416 : Vec F S128x1024 .bf16) (v418 : Vec F S128x2 .f32), FVec F S128x2048 .f32) → Prog (TpuEff nD τ sig (Elt F) Λ₀ .tc) PUnit) (Q : PUnit → sProp 𝕄) :
    iprop(recs m ∗ waitable c (sndS 4) ∗ waitable c (rcvS 4) ∗ tlAny c ssM (ck c 0) ∗ tlAny (xnb c) srM (ck c 0) ∗ sndPre c 8 ∗ Ow c (owed c 8) ∗ held (c : Thread nD τ) xsM (PosShare.right fullShare) Finset.univ (XS m c) ∗ full c waM (WA m c)
        ∗ ((held (c : Thread nD τ) xsM (PosShare.right fullShare) Finset.univ (XS m c) ∗ full c waM (WA m c) ∗ zeroed c (sndS 4) ∗ tl c psM (ck c 0) (PS m c) ∗ zeroed c (rcvS 4) ∗ tl c prM (ck c 0) (PS m (ynb c)) ∗ waitable c (sndS 8) ∗ Ow c (owed c 9)) -∗ WP c (kk ⟨SUM m c (ck c 0), tile (ck c 1) (XS m c), tile (ck c 1) (WA m c), constant S128x2048 .f32 0x00000000#32⟩) Q))
      ⊢ WP c (k0_part12 xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14 c (v2 c) v5 v6 v7 v8 v11 (OWN m c (ck c 0)) >>= kk) Q := by
  refine bindR c ?_
  rw [k0_part12_eq_skeleton]
  exact (part12 m c v5 v6 v7 v8 v11 (fun a => WP c (kk a) Q))

/-- Part 13 of the body, followed by the rest. -/
theorem step13 (c : Dev nD) (v6 : BitVec 32) (v11 : BitVec 32) (kk : FVec F S128x1024 .f32 → Prog (TpuEff nD τ sig (Elt F) Λ₀ .tc) PUnit) (Q : PUnit → sProp 𝕄) :
    iprop(recs m ∗ waitable c (sndS 5) ∗ waitable c (rcvS 5) ∗ tlAny c ssM (ck c 1) ∗ Ow c (owed c 9)
        ∗ ((Ow c (owed c 9) ∗ zeroed c (sndS 5) ∗ tl c psM (ck c 1) (PS m c) ∗ zeroed c (rcvS 5) ∗ tl c prM (ck c 1) (PS m (ynb c)) ∗ tl c ssM (ck c 1) (SS m c)) -∗ WP c (kk (SUM m c (ck c 1))) Q))
      ⊢ WP c (k0_part13 xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14 c (v2 c) v6 v11 (E1 m c 0) (E2 m c 0) (E1 m c 1) (E2 m c 1) (tile (ck c 1) (XS m c)) (tile (ck c 1) (WA m c)) (constant S128x2048 .f32 0x00000000#32) >>= kk) Q := by
  refine bindR c ?_
  rw [k0_part13_eq_skeleton]
  exact (part13 m c v6 v11 (fun a => WP c (kk a) Q))

/-- Part 14 of the body, followed by the rest. -/
theorem step14 (c : Dev nD) (v5 : BitVec 32) (v7 : BitVec 32) (v10 : BitVec 32) (kk : (Σ' (v487 : FVec F S128x1024 .f32), BitVec 32) → Prog (TpuEff nD τ sig (Elt F) Λ₀ .tc) PUnit) (Q : PUnit → sProp 𝕄) :
    iprop(recs m ∗ tl c ssM (ck c 1) (SS m c) ∗ tlAny (xnb c) srM (ck c 1) ∗ sndPre c 9 ∗ Ow c (owed c 9) ∗ held (c : Thread nD τ) xsM (PosShare.right fullShare) Finset.univ (XS m c) ∗ full c waM (WA m c) ∗ waitable c (sndS 6)
        ∗ ((held (c : Thread nD τ) xsM (PosShare.right fullShare) Finset.univ (XS m c) ∗ full c waM (WA m c) ∗ waitable c (sndS 9) ∗ Ow c (owed c 10) ∗ zeroed c (sndS 6) ∗ tl c psM (ck c 2) (PS m c)) -∗ WP c (kk ⟨OWN m c (ck c 2), 2#32⟩) Q))
      ⊢ WP c (k0_part14 xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14 c v5 v7 v10 (E1 m c 0) (E2 m c 0) (E1 m c 1) (E2 m c 1) >>= kk) Q := by
  refine bindR c ?_
  rw [k0_part14_eq_skeleton]
  exact (part14 m c v5 v7 v10 (fun a => WP c (kk a) Q))

/-- Part 15 of the body, followed by the rest. -/
theorem step15 (c : Dev nD) (v5 : BitVec 32) (v6 : BitVec 32) (v7 : BitVec 32) (v10 : BitVec 32) (v12 : BitVec 32) (v0 : BitVec 32) (kk : (Σ' (v503 : FVec F S128x1024 .f32) (v520 : Vec F S128x1024 .bf16) (v522 : Vec F S128x2 .f32), FVec F S128x1024 .f32) → Prog (TpuEff nD τ sig (Elt F) Λ₀ .tc) PUnit) (Q : PUnit → sProp 𝕄) :
    iprop(recs m ∗ waitable c (rcvS 6) ∗ tlAny c ssM (ck c 2) ∗ tlAny (xnb c) srM (ck c 2) ∗ sndPre c 10 ∗ Ow c (owed c 10) ∗ held (c : Thread nD τ) xsM (PosShare.right fullShare) Finset.univ (XS m c) ∗ full c waM (WA m c)
        ∗ ((held (c : Thread nD τ) xsM (PosShare.right fullShare) Finset.univ (XS m c) ∗ full c waM (WA m c) ∗ zeroed c (rcvS 6) ∗ tl c prM (ck c 2) (PS m (ynb c)) ∗ waitable c (sndS 10) ∗ Ow c (owed c 11)) -∗ WP c (kk ⟨SUM m c (ck c 2), tile (ck c 3) (XS m c), tile (ck c 3) (WA m c), k0_pay28 (E1 m c 0) (E2 m c 0) (tile (ck c 3) (XS m c)) (tile (ck c 3) (WA m c))⟩) Q))
      ⊢ WP c (k0_part15 xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14 c (v2 c) v5 v6 v7 v10 v12 (E1 m c 0) (E2 m c 0) (OWN m c (ck c 2)) v0 >>= kk) Q := by
  refine bindR c ?_
  rw [k0_part15_eq_skeleton]
  exact (part15 m c v5 v6 v7 v10 v12 v0 (fun a => WP c (kk a) Q))

/-- Part 16 of the body, followed by the rest. -/
theorem step16 (c : Dev nD) (v5 : BitVec 32) (v6 : BitVec 32) (v7 : BitVec 32) (v12 : BitVec 32) (kk : FVec F S128x1024 .f32 → Prog (TpuEff nD τ sig (Elt F) Λ₀ .tc) PUnit) (Q : PUnit → sProp 𝕄) :
    iprop(recs m ∗ waitable c (sndS 7) ∗ waitable c (rcvS 7) ∗ tlAny c ssM (ck c 3) ∗ Ow c (owed c 11)
        ∗ ((Ow c (owed c 11) ∗ zeroed c (sndS 7) ∗ tl c psM (ck c 3) (PS m c) ∗ zeroed c (rcvS 7) ∗ tl c prM (ck c 3) (PS m (ynb c)) ∗ tl c ssM (ck c 3) (SS m c)) -∗ WP c (kk (SUM m c (ck c 3))) Q))
      ⊢ WP c (k0_part16 xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14 c (v2 c) v5 v6 v7 v12 (E1 m c 1) (E2 m c 1) (tile (ck c 3) (XS m c)) (tile (ck c 3) (WA m c)) (k0_pay28 (E1 m c 0) (E2 m c 0) (tile (ck c 3) (XS m c)) (tile (ck c 3) (WA m c))) >>= kk) Q := by
  refine bindR c ?_
  rw [k0_part16_eq_skeleton]
  exact (part16 m c v5 v6 v7 v12 (fun a => WP c (kk a) Q))

/-- Part 17 of the body, followed by the rest. -/
theorem step17 (c : Dev nD) (v5 : BitVec 32) (v7 : BitVec 32) (v10 : BitVec 32) (kk : (Σ' (v594 : BitVec 32), BitVec 32) → Prog (TpuEff nD τ sig (Elt F) Λ₀ .tc) PUnit) (Q : PUnit → sProp 𝕄) :
    iprop(recs m ∗ tl c ssM (ck c 3) (SS m c) ∗ tlAny (xnb c) srM (ck c 3) ∗ sndPre c 11 ∗ Ow c (owed c 11) ∗ waitable c (sndS 8) ∗ waitable c (rcvS 8) ∗ tlAny c oM (ck c 2) ∗ waitable c (sndS 9)
        ∗ ((waitable c (sndS 11) ∗ Ow c (owed c 12) ∗ zeroed c (sndS 8) ∗ tl c ssM (ck c 0) (SS m c) ∗ zeroed c (rcvS 8) ∗ tl c srM (ck c 2) (SS m (xnb c)) ∗ tl c oM (ck c 2) (OUT m c) ∗ zeroed c (sndS 9) ∗ tl c ssM (ck c 1) (SS m c)) -∗ WP c (kk ⟨Scalar.addi 0#32 (Scalar.muli v7 2#32), 1#32⟩) Q))
      ⊢ WP c (k0_part17 xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14 c v5 v7 v10 (SUM m c (ck c 2)) >>= kk) Q := by
  refine bindR c ?_
  rw [k0_part17_eq_skeleton]
  exact (part17 m c v5 v7 v10 (fun a => WP c (kk a) Q))

/-- Part 18 of the body, followed by the rest. -/
theorem step18 (c : Dev nD) (v5 : BitVec 32) (v7 : BitVec 32) (v8 : BitVec 32) (v12 : BitVec 32) (v594 : BitVec 32) (v1 : BitVec 32) (kk : PUnit → Prog (TpuEff nD τ sig (Elt F) Λ₀ .tc) PUnit) (Q : PUnit → sProp 𝕄) :
    iprop(recs m ∗ waitable c (rcvS 9) ∗ Ow c (owed c 12) ∗ tlAny c oM (ck c 3) ∗ waitable c (sndS 10) ∗ waitable c (rcvS 10) ∗ tlAny c oM (ck c 0)
        ∗ ((Ow c (owed c 12) ∗ zeroed c (rcvS 9) ∗ tl c srM (ck c 3) (SS m (xnb c)) ∗ tl c oM (ck c 3) (OUT m c) ∗ zeroed c (sndS 10) ∗ tl c ssM (ck c 2) (SS m c) ∗ zeroed c (rcvS 10) ∗ tl c srM (ck c 0) (SS m (xnb c)) ∗ tl c oM (ck c 0) (OUT m c)) -∗ WP c (kk ⟨⟩) Q))
      ⊢ WP c (k0_part18 xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14 c v5 v7 v8 v12 (SUM m c (ck c 0)) (SUM m c (ck c 3)) v594 v1 >>= kk) Q := by
  refine bindR c ?_
  rw [k0_part18_eq_skeleton]
  exact (part18 m c v5 v7 v8 v12 v594 v1 (fun a => WP c (kk a) Q))

/-! ## The whole body -/

/-- What a device holds of semaphores when the body starts, -/
def semIn (c : Dev nD) : sProp 𝕄 :=
  iprop(barPre c ∗ (sndPre c 0 ∗ sndPre c 1 ∗ sndPre c 2 ∗ sndPre c 3 ∗ sndPre c 4 ∗ sndPre c 5 ∗ sndPre c 6 ∗ sndPre c 7 ∗ sndPre c 8 ∗ sndPre c 9 ∗ sndPre c 10 ∗ sndPre c 11)
    ∗ (waitable c (rcvS 0) ∗ waitable c (rcvS 1) ∗ waitable c (rcvS 2) ∗ waitable c (rcvS 3) ∗ waitable c (rcvS 4) ∗ waitable c (rcvS 5) ∗ waitable c (rcvS 6) ∗ waitable c (rcvS 7) ∗ waitable c (rcvS 8) ∗ waitable c (rcvS 9) ∗ waitable c (rcvS 10) ∗ waitable c (rcvS 11))
    ∗ (cpyPre c 0 ∗ cpyPre c 1 ∗ cpyPre c 2 ∗ cpyPre c 3))
/-- and when it ends. -/
def semOut (c : Dev nD) : sProp 𝕄 :=
  iprop(semVal (barCell c) 0 ∗ (zeroed c (sndS 0) ∗ zeroed c (sndS 1) ∗ zeroed c (sndS 2) ∗ zeroed c (sndS 3) ∗ zeroed c (sndS 4) ∗ zeroed c (sndS 5) ∗ zeroed c (sndS 6) ∗ zeroed c (sndS 7) ∗ zeroed c (sndS 8) ∗ zeroed c (sndS 9) ∗ zeroed c (sndS 10) ∗ zeroed c (sndS 11))
    ∗ (zeroed c (rcvS 0) ∗ zeroed c (rcvS 1) ∗ zeroed c (rcvS 2) ∗ zeroed c (rcvS 3) ∗ zeroed c (rcvS 4) ∗ zeroed c (rcvS 5) ∗ zeroed c (rcvS 6) ∗ zeroed c (rcvS 7) ∗ zeroed c (rcvS 8) ∗ zeroed c (rcvS 9) ∗ zeroed c (rcvS 10) ∗ zeroed c (rcvS 11))
    ∗ (zeroed c (cpyS 0) ∗ zeroed c (cpyS 1) ∗ zeroed c (cpyS 2) ∗ zeroed c (cpyS 3)))
/-- The scratch buffers. -/
def scratchAny (c : Dev nD) : sProp 𝕄 :=
  iprop(anyU c xsM ∗ anyU c xrM ∗ anyU c rrM ∗ anyU c wsM ∗ anyU c wrM ∗ anyU c waM ∗ anyU c w1M ∗ anyU c w2M ∗ anyU c psM ∗ anyU c prM ∗ anyU c ssM ∗ anyU c srM)
/-- The weights in the device's memory. -/
def weights (c : Dev nD) : sProp 𝕄 := iprop(full c w1A (w1V m c) ∗ full c w2A (w2V m c))

set_option maxHeartbeats 4000000 in
/-- The body on one device: from the staged blocks, the weights and the scratch buffers it leaves the result `OUT`,
    everything lent is back, and every semaphore is at zero. -/
theorem body_run (c : Dev nD) (Kt : PUnit → sProp 𝕄) :
    iprop(recs m ∗ Ow c (O₀ c) ∗ semIn c ∗ full c xM (xstg m c) ∗ full c rM (rstg m c) ∗ weights m c ∗ anyU c oM ∗ scratchAny c
        ∗ ((Ow c (owed c 12) ∗ semOut c ∗ full c xM (xstg m c) ∗ full c rM (rstg m c) ∗ weights m c ∗ full c oM (OUT m c) ∗ scratchAny c) -∗ Kt ⟨⟩))
      ⊢ WP c (cc0_body xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14) Kt := by
  rw [cc0_body_eq_skeleton]
  unfold cc0_body_skel
  unfold semIn scratchAny weights
  iintro ⟨#HR, HOw, ⟨Hbar, ⟨Hp0, Hp1, Hp2, Hp3, Hp4, Hp5, Hp6, Hp7, Hp8, Hp9, Hp10, Hp11⟩, ⟨Hwr0, Hwr1, Hwr2, Hwr3, Hwr4, Hwr5, Hwr6, Hwr7, Hwr8, Hwr9, Hwr10, Hwr11⟩, ⟨Hq0, Hq1, Hq2, Hq3⟩⟩, Hx, Hr, ⟨Hw1A, Hw2A⟩, HoA, ⟨Hsxs, Hsxr, Hsrr, Hsws, Hswr, Hswa, Hsw1, Hsw2, Hsps, Hspr, Hsss, Hssr⟩, Hk⟩
  ihave Hnew := (halves_any c c xrM) $$ Hsxr
  icases Hnew with ⟨Hl0, Hl2⟩
  iapply (step1 m c) $$ [-]
  isplitr; · iexact HR
  isplitl [Hbar]; · iexact Hbar
  isplitl [HOw]; · iexact HOw
  isplitl [Hl0 Hl2 Hsrr Hswr Hspr Hssr]
  · unfold lend
    isplitl [Hl0]; · iexact Hl0
    isplitl [Hl2]; · iexact Hl2
    isplitl [Hsrr]; · iexact Hsrr
    isplitl [Hswr]; · iexact Hswr
    isplitl [Hspr]; · iexact Hspr
    iexact Hssr
  isplitl [Hx]; · iexact Hx
  isplitl [Hsxs]; · iexact Hsxs
  iintro %v5 %v6 %v7 %v8 %v10 %v11 %v12 ⟨Hlent, HO0, Hz, Hx, Hxs⟩
  unfold lent
  icases Hlent with ⟨⟨Hd0, HrrY, HwrY, HprY⟩, HxrX, HsrX⟩
  ihave Hnew := (held_half) $$ Hxs
  icases Hnew with ⟨Hxl, HxsR⟩
  ihave Hnew := (halves_held c c xsM) $$ Hxl
  icases Hnew with ⟨HxsqL, HxsfL⟩
  ihave Hnew := (stack_split c (px c)) $$ Hw1A
  icases Hnew with ⟨Ha0, Ha1, Haz⟩
  ihave Hnew := (stack_split c (px c)) $$ Hw2A
  icases Hnew with ⟨Hb0, Hb1, Hbz⟩
  ihave Hnew := (two_any c) $$ Hsw1
  icases Hnew with ⟨Hm0, Hm1⟩
  ihave Hnew := (two_any c) $$ Hsw2
  icases Hnew with ⟨Hn0, Hn1⟩
  iapply (step2 m c v6) $$ [-]
  isplitr; · iexact HR
  isplitl [HxsqL]; · iexact HxsqL
  isplitl [Hd0]; · iexact Hd0
  isplitl [Hr]; · iexact Hr
  isplitl [HrrY]; · iexact HrrY
  isplitl [Hp0]; · iexact Hp0
  isplitl [Hp1]; · iexact Hp1
  isplitl [HO0]; · iexact HO0
  isplitl [Ha0 Hm0 Hq0 Hb0 Hn0 Hq1 Ha1 Hm1 Hq2 Hb1 Hn1 Hq3]
  · unfold cpyIn
    isplitl [Ha0 Hm0 Hq0]
    · isplitl [Ha0]; · iexact Ha0
      isplitl [Hm0]; · iexact Hm0
      iexact Hq0
    isplitl [Hb0 Hn0 Hq1]
    · isplitl [Hb0]; · iexact Hb0
      isplitl [Hn0]; · iexact Hn0
      iexact Hq1
    isplitl [Ha1 Hm1 Hq2]
    · isplitl [Ha1]; · iexact Ha1
      isplitl [Hm1]; · iexact Hm1
      iexact Hq2
    isplitl [Hb1]; · iexact Hb1
    isplitl [Hn1]; · iexact Hn1
    iexact Hq3
  unfold cpyOut
  iintro ⟨Hws0, Hr, Hzs1, HO2, Hwc0, Hwc1, Hwc2, Hwc3⟩
  ihave Hnew := (tiles_any (ynb c) c prM) $$ HprY
  icases Hnew with ⟨HprY0, HprY1, HprY2, HprY3⟩
  ihave Hnew := (tiles_any (xnb c) c srM) $$ HsrX
  icases Hnew with ⟨HsrX0, HsrX1, HsrX2, HsrX3⟩
  ihave Hnew := (tiles_any c c psM) $$ Hsps
  icases Hnew with ⟨HpsA0, HpsA1, HpsA2, HpsA3⟩
  ihave Hnew := (tiles_any c c ssM) $$ Hsss
  icases Hnew with ⟨HssA0, HssA1, HssA2, HssA3⟩
  ihave Hnew := (tiles_any c c oM) $$ HoA
  icases Hnew with ⟨HoA0, HoA1, HoA2, HoA3⟩
  iapply (step3 m c _) $$ [-]
  isplitr; · iexact HR
  isplitl [Hwr1]; · iexact Hwr1
  isplitl [HO2]; · iexact HO2
  isplitl [Hr]; · iexact Hr
  isplitl [HxsR]; · iexact HxsR
  isplitl [Hx]; · iexact Hx
  iintro ⟨HO2, Hr, HxsR, Hx, Hzr1, Hrr⟩
  iapply (step4 m c _) $$ [-]
  isplitr; · iexact HR
  isplitl [Hsws]; · iexact Hsws
  isplitl [HwrY]; · iexact HwrY
  isplitl [Hp2]; · iexact Hp2
  isplitl [HO2]; · iexact HO2
  isplitl [Hswa]; · iexact Hswa
  isplitl [Hwc0]; · iexact Hwc0
  iintro ⟨Hws2, HO3, Hwa, Hzc0, Ha0, Haa0⟩
  iapply (step5 m c) $$ [-]
  isplitr; · iexact HR
  isplitl [Hwc1]; · iexact Hwc1
  isplitl [Hwc2]; · iexact Hwc2
  isplitl [Hwc3]; · iexact Hwc3
  isplitl [HO3]; · iexact HO3
  isplitl [Ha0]; · iexact Ha0
  iintro ⟨HO3, Ha0, Hzc1, Hb0, Hbb0, Hzc2, Ha1, Haa1, Hzc3, Hb1, Hbb1⟩
  iapply (step6 m c _ _ _) $$ [-]
  isplitr; · iexact HR
  isplitl [Hb1]; · iexact Hb1
  isplitl [Hws2]; · iexact Hws2
  isplitl [Hwr2]; · iexact Hwr2
  isplitl [Hws0]; · iexact Hws0
  isplitl [Hwr0]; · iexact Hwr0
  isplitl [HO3]; · iexact HO3
  iintro ⟨Hb1, HO3, Hzs2, Hws, Hzr2, Hwr, Hzs0, HxsqL, Hzr0, Hxrq⟩
  iapply (step7 m c _ _) $$ [-]
  isplitr; · iexact HR
  isplitl [Hxrq]; · iexact Hxrq
  isplitl [HxrX]; · iexact HxrX
  isplitl [Hp3]; · iexact Hp3
  isplitl [HO3]; · iexact HO3
  isplitl [Hwr]; · iexact Hwr
  isplitl [HpsA0]; · iexact HpsA0
  iintro ⟨Hwr, HxrqR, Hws3, HO4, Hps0⟩
  iapply (step8 m c _ _) $$ [-]
  isplitr; · iexact HR
  isplitl [Hps0]; · iexact Hps0
  isplitl [HprY0]; · iexact HprY0
  isplitl [Hp4]; · iexact Hp4
  isplitl [HO4]; · iexact HO4
  isplitl [HxrqR]; · iexact HxrqR
  isplitl [Hwr]; · iexact Hwr
  isplitl [HpsA1]; · iexact HpsA1
  iintro ⟨HxrqR, Hwr, Hws4, HO5, Hps1⟩
  iapply (step9 m c _ _ _ _) $$ [-]
  isplitr; · iexact HR
  isplitl [Hps1]; · iexact Hps1
  isplitl [HprY1]; · iexact HprY1
  isplitl [Hp5]; · iexact Hp5
  isplitl [HO5]; · iexact HO5
  isplitl [HxsR]; · iexact HxsR
  isplitl [Hwa]; · iexact Hwa
  isplitl [Hws3]; · iexact Hws3
  isplitl [Hwr3]; · iexact Hwr3
  iintro ⟨HxsR, Hwa, Hws5, HO6, Hzs3, HxrqL, Hzr3, Hxrf⟩
  iapply (step10 m c _ _ _) $$ [-]
  isplitr; · iexact HR
  isplitl [Hxrf]; · iexact Hxrf
  isplitl [Hwr]; · iexact Hwr
  isplitl [HpsA2]; · iexact HpsA2
  isplitl [HprY2]; · iexact HprY2
  isplitl [Hp6]; · iexact Hp6
  isplitl [HO6]; · iexact HO6
  iintro ⟨Hxrf, Hwr, Hws6, HO7⟩
  iapply (step11 m c _ _) $$ [-]
  isplitr; · iexact HR
  isplitl [Hxrf]; · iexact Hxrf
  isplitl [Hwr]; · iexact Hwr
  isplitl [HpsA3]; · iexact HpsA3
  isplitl [HprY3]; · iexact HprY3
  isplitl [Hp7]; · iexact Hp7
  isplitl [HO7]; · iexact HO7
  iintro ⟨Hxrf, Hwr, Hws7, HO8⟩
  iapply (step12 m c _ _ _ _ _) $$ [-]
  isplitr; · iexact HR
  isplitl [Hws4]; · iexact Hws4
  isplitl [Hwr4]; · iexact Hwr4
  isplitl [HssA0]; · iexact HssA0
  isplitl [HsrX0]; · iexact HsrX0
  isplitl [Hp8]; · iexact Hp8
  isplitl [HO8]; · iexact HO8
  isplitl [HxsR]; · iexact HxsR
  isplitl [Hwa]; · iexact Hwa
  iintro ⟨HxsR, Hwa, Hzs4, Hps0, Hzr4, Hpr0, Hws8, HO9⟩
  iapply (step13 m c _ _) $$ [-]
  isplitr; · iexact HR
  isplitl [Hws5]; · iexact Hws5
  isplitl [Hwr5]; · iexact Hwr5
  isplitl [HssA1]; · iexact HssA1
  isplitl [HO9]; · iexact HO9
  iintro ⟨HO9, Hzs5, Hps1, Hzr5, Hpr1, Hss1⟩
  iapply (step14 m c _ _ _) $$ [-]
  isplitr; · iexact HR
  isplitl [Hss1]; · iexact Hss1
  isplitl [HsrX1]; · iexact HsrX1
  isplitl [Hp9]; · iexact Hp9
  isplitl [HO9]; · iexact HO9
  isplitl [HxsR]; · iexact HxsR
  isplitl [Hwa]; · iexact Hwa
  isplitl [Hws6]; · iexact Hws6
  iintro ⟨HxsR, Hwa, Hws9, HO10, Hzs6, Hps2⟩
  iapply (step15 m c _ _ _ _ _ _) $$ [-]
  isplitr; · iexact HR
  isplitl [Hwr6]; · iexact Hwr6
  isplitl [HssA2]; · iexact HssA2
  isplitl [HsrX2]; · iexact HsrX2
  isplitl [Hp10]; · iexact Hp10
  isplitl [HO10]; · iexact HO10
  isplitl [HxsR]; · iexact HxsR
  isplitl [Hwa]; · iexact Hwa
  iintro ⟨HxsR, Hwa, Hzr6, Hpr2, Hws10, HO11⟩
  iapply (step16 m c _ _ _ _) $$ [-]
  isplitr; · iexact HR
  isplitl [Hws7]; · iexact Hws7
  isplitl [Hwr7]; · iexact Hwr7
  isplitl [HssA3]; · iexact HssA3
  isplitl [HO11]; · iexact HO11
  iintro ⟨HO11, Hzs7, Hps3, Hzr7, Hpr3, Hss3⟩
  iapply (step17 m c _ _ _) $$ [-]
  isplitr; · iexact HR
  isplitl [Hss3]; · iexact Hss3
  isplitl [HsrX3]; · iexact HsrX3
  isplitl [Hp11]; · iexact Hp11
  isplitl [HO11]; · iexact HO11
  isplitl [Hws8]; · iexact Hws8
  isplitl [Hwr8]; · iexact Hwr8
  isplitl [HoA2]; · iexact HoA2
  isplitl [Hws9]; · iexact Hws9
  iintro ⟨Hws11, HO12, Hzs8, Hss0, Hzr8, Hsr2, Ho2, Hzs9, Hss1⟩
  iapply (step18 m c _ _ _ _ _ _) $$ [-]
  isplitr; · iexact HR
  isplitl [Hwr9]; · iexact Hwr9
  isplitl [HO12]; · iexact HO12
  isplitl [HoA3]; · iexact HoA3
  isplitl [Hws10]; · iexact Hws10
  isplitl [Hwr10]; · iexact Hwr10
  isplitl [HoA0]; · iexact HoA0
  iintro ⟨HO12, Hzr9, Hsr3, Ho3, Hzs10, Hss2, Hzr10, Hsr0, Ho0⟩
  simp only [Prog.lift, Prog.bind_op, Prog.bind_ret, Prog.pure_eq_ret]
  iapply (wait_snd m c 11 12 rfl (credit_rows rfl) (Entails.of_eq (back8 m c (i := 3)))) $$ [Hws11 HO12]
  · isplitr; · iexact HR
    isplitl [Hws11]; · iexact Hws11
    iexact HO12
  iintro ⟨Hss3, Hzs11, HO12⟩
  iapply (wait_rcv m c 11 12 (by decide) rfl (credit_rows rfl) (Entails.of_eq (got8hi m c (i := 1) (by decide)))) $$ [Hwr11 HO12]
  · isplitr; · iexact HR
    isplitl [Hwr11]; · iexact Hwr11
    iexact HO12
  iintro ⟨Hsr1, Hzr11, HO12⟩
  iapply (load_tile c (off5_eq c) (ck_lt c (by decide)) (Finset.Subset.refl _)) $$ Hsr1; iintro Hsr1
  iapply (load_tile_any c (off5_eq c)) $$ HoA1; iintro %_ HoA1
  iapply (store_tile c (off5_eq c) (ck_lt c (by decide)) (g := OUT m c) (tile_paste _ (ck_lt c (by decide)))) $$ HoA1; iintro Ho1
  ihave Hnew := (held_whole_share) $$ [HxrqL HxrqR]
  · isplitl [HxrqL]; · iexact HxrqL
    iexact HxrqR
  irename Hnew => Hxrq
  ihave Hnew := ((halves_join c c xrM).trans heldAny_of_held) $$ [Hxrq Hxrf]
  · isplitl [Hxrq]; · iexact Hxrq
    iexact Hxrf
  irename Hnew => Hsxr
  ihave Hnew := (halves_join c c xsM) $$ [HxsqL HxsfL]
  · isplitl [HxsqL]; · iexact HxsqL
    iexact HxsfL
  irename Hnew => Hxl
  ihave Hnew := (held_whole_share.trans heldAny_of_held) $$ [Hxl HxsR]
  · isplitl [Hxl]; · iexact Hxl
    iexact HxsR
  irename Hnew => Hsxs
  ihave Hnew := (heldAny_of_held) $$ Hrr
  irename Hnew => Hsrr
  ihave Hnew := (heldAny_of_held) $$ Hws
  irename Hnew => Hsws
  ihave Hnew := (heldAny_of_held) $$ Hwr
  irename Hnew => Hswr
  ihave Hnew := (heldAny_of_held) $$ Hwa
  irename Hnew => Hswa
  ihave Hnew := (two_drop c) $$ [Ha0 Ha1]
  · isplitl [Ha0]; · iexact Ha0
    iexact Ha1
  irename Hnew => Hsw1
  ihave Hnew := (two_drop c) $$ [Hb0 Hb1]
  · isplitl [Hb0]; · iexact Hb0
    iexact Hb1
  irename Hnew => Hsw2
  ihave Hnew := (stack_join c (px c)) $$ [Haa0 Haa1 Haz]
  · isplitl [Haa0]; · iexact Haa0
    isplitl [Haa1]; · iexact Haa1
    iexact Haz
  irename Hnew => Hw1A
  ihave Hnew := (stack_join c (px c)) $$ [Hbb0 Hbb1 Hbz]
  · isplitl [Hbb0]; · iexact Hbb0
    isplitl [Hbb1]; · iexact Hbb1
    iexact Hbz
  irename Hnew => Hw2A
  ihave Hnew := (tiles_drop c c psM) $$ [Hps0 Hps1 Hps2 Hps3]
  · isplitl [Hps0]; · iexact Hps0
    isplitl [Hps1]; · iexact Hps1
    isplitl [Hps2]; · iexact Hps2
    iexact Hps3
  irename Hnew => Hsps
  ihave Hnew := (tiles_drop c c prM) $$ [Hpr0 Hpr1 Hpr2 Hpr3]
  · isplitl [Hpr0]; · iexact Hpr0
    isplitl [Hpr1]; · iexact Hpr1
    isplitl [Hpr2]; · iexact Hpr2
    iexact Hpr3
  irename Hnew => Hspr
  ihave Hnew := (tiles_drop c c ssM) $$ [Hss0 Hss1 Hss2 Hss3]
  · isplitl [Hss0]; · iexact Hss0
    isplitl [Hss1]; · iexact Hss1
    isplitl [Hss2]; · iexact Hss2
    iexact Hss3
  irename Hnew => Hsss
  ihave Hnew := (tiles_drop c c srM) $$ [Hsr0 Hsr1 Hsr2 Hsr3]
  · isplitl [Hsr0]; · iexact Hsr0
    isplitl [Hsr1]; · iexact Hsr1
    isplitl [Hsr2]; · iexact Hsr2
    iexact Hsr3
  irename Hnew => Hssr
  ihave Hnew := (tiles_join c c oM) $$ [Ho0 Ho1 Ho2 Ho3]
  · isplitl [Ho0]; · iexact Ho0
    isplitl [Ho1]; · iexact Ho1
    isplitl [Ho2]; · iexact Ho2
    iexact Ho3
  irename Hnew => Ho
  iapply (ret_intro c)
  iapply Hk
  isplitl [HO12]; · iexact HO12
  isplitl [Hz Hzs0 Hzs1 Hzs2 Hzs3 Hzs4 Hzs5 Hzs6 Hzs7 Hzs8 Hzs9 Hzs10 Hzs11 Hzr0 Hzr1 Hzr2 Hzr3 Hzr4 Hzr5 Hzr6 Hzr7 Hzr8 Hzr9 Hzr10 Hzr11 Hzc0 Hzc1 Hzc2 Hzc3]
  · unfold semOut
    isplitl [Hz]; · iexact Hz
    isplitl [Hzs0 Hzs1 Hzs2 Hzs3 Hzs4 Hzs5 Hzs6 Hzs7 Hzs8 Hzs9 Hzs10 Hzs11]
    · isplitl [Hzs0]; · iexact Hzs0
      isplitl [Hzs1]; · iexact Hzs1
      isplitl [Hzs2]; · iexact Hzs2
      isplitl [Hzs3]; · iexact Hzs3
      isplitl [Hzs4]; · iexact Hzs4
      isplitl [Hzs5]; · iexact Hzs5
      isplitl [Hzs6]; · iexact Hzs6
      isplitl [Hzs7]; · iexact Hzs7
      isplitl [Hzs8]; · iexact Hzs8
      isplitl [Hzs9]; · iexact Hzs9
      isplitl [Hzs10]; · iexact Hzs10
      iexact Hzs11
    isplitl [Hzr0 Hzr1 Hzr2 Hzr3 Hzr4 Hzr5 Hzr6 Hzr7 Hzr8 Hzr9 Hzr10 Hzr11]
    · isplitl [Hzr0]; · iexact Hzr0
      isplitl [Hzr1]; · iexact Hzr1
      isplitl [Hzr2]; · iexact Hzr2
      isplitl [Hzr3]; · iexact Hzr3
      isplitl [Hzr4]; · iexact Hzr4
      isplitl [Hzr5]; · iexact Hzr5
      isplitl [Hzr6]; · iexact Hzr6
      isplitl [Hzr7]; · iexact Hzr7
      isplitl [Hzr8]; · iexact Hzr8
      isplitl [Hzr9]; · iexact Hzr9
      isplitl [Hzr10]; · iexact Hzr10
      iexact Hzr11
    isplitl [Hzc0]; · iexact Hzc0
    isplitl [Hzc1]; · iexact Hzc1
    isplitl [Hzc2]; · iexact Hzc2
    iexact Hzc3
  isplitl [Hx]; · iexact Hx
  isplitl [Hr]; · iexact Hr
  isplitl [Hw1A Hw2A]
  · isplitl [Hw1A]; · iexact Hw1A
    iexact Hw2A
  isplitl [Ho]; · iexact Ho
  isplitl [Hsxs]; · iexact Hsxs
  isplitl [Hsxr]; · iexact Hsxr
  isplitl [Hsrr]; · iexact Hsrr
  isplitl [Hsws]; · iexact Hsws
  isplitl [Hswr]; · iexact Hswr
  isplitl [Hswa]; · iexact Hswa
  isplitl [Hsw1]; · iexact Hsw1
  isplitl [Hsw2]; · iexact Hsw2
  isplitl [Hsps]; · iexact Hsps
  isplitl [Hspr]; · iexact Hspr
  isplitl [Hsss]; · iexact Hsss
  iexact Hssr

end Cert.MoeKernelIdeal
-- ==== Proof.ILaunch.lean ====
/-
The launch on the four devices, and what the memory holds after the run.
-/
module

public import proofs.«01_k».proof.Proof.IBody

public import proofs.«01_k».proof.Proof.Gen.KernelIdeal.Points
public import Idealize.ShloMosaic.Lib.Pipeline.Launch
public import Idealize.ShloMosaic.Lib.Pipeline.Kit
public import Idealize.ShloMosaic.Lib.Pipeline.Frame
public import Idealize.ShloMosaic.Lib.Pipeline.CollectiveSegs
public import Idealize.ShloMosaic.Lib.Tactic

@[expose] public section

noncomputable section

namespace Cert.MoeKernelIdeal

open Cert.KernelIdeal Cert.KernelIdeal.Gen Cert.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Whole buffers -/

section
variable {cs : Space} (c : Dev nD) (b : Ref sig .tc)

omit [FloatOps F] in
/-- A whole buffer at some content is ownership of the buffer at some contents, -/
theorem any_pts : (anyU c (Memref.whole b) : sProp 𝕄) = iprop(∃ f : Buf (Elt F) ((c : Thread nD τ).loc b), ((c : Thread nD τ).loc b) ↦{fullShare} f) := by
  unfold anyU heldAny
  simp only [Memref.view_whole, View.setOn_univ, View.set_whole]
omit [FloatOps F] in
/-- and at a content, at contents that are it. -/
theorem full_pts (X : b.ty.Contents (Elt F)) : (full c (Memref.whole b) X : sProp 𝕄)
    = iprop(∃ f : Buf (Elt F) ((c : Thread nD τ).loc b), ⌜f = X⌝ ∗ (((c : Thread nD τ).loc b) ↦{fullShare} f)) := by
  unfold full held
  simp only [Memref.view_whole, View.setOn_univ, View.set_whole, View.read_whole, Finset.mem_univ, true_imp_iff]
  have e : ∀ f : Buf (Elt F) ((c : Thread nD τ).loc b), (∀ i, f i = X i) = (f = X) := fun f => propext ⟨funext, fun h i => h ▸ rfl⟩
  exact congrArg BIBase.exists (funext fun f => congrArg (fun p => iprop(⌜p⌝ ∗ (((c : Thread nD τ).loc b) ↦{fullShare} f))) (e f))
omit [FloatOps F] in
/-- The library's ownership of a whole buffer is the same. -/
theorem owns_whole_full (X : b.ty.Contents (Elt F)) :
    (owns (Ix := Unit) (Name := ℕ) (U := UU) (Lvl := ℕ) (c : Thread nD τ) (Memref.whole b) fullShare X : sProp 𝕄) = full c (Memref.whole b) X := by
  rw [full_pts]; unfold owns; simp only [Memref.view_whole, View.read_whole, View.set_whole]
omit [FloatOps F] in
/-- Ownership of a buffer is holding it, -/
theorem pts_full (f : Buf (Elt F) ((c : Thread nD τ).loc b)) : ((((c : Thread nD τ).loc b) ↦{fullShare} f) : sProp 𝕄) ⊢ full c (Memref.whole b) f := by
  rw [full_pts]; iintro H; iexists f; isplitr; · (ipureintro; rfl)
  iexact H
omit [FloatOps F] in
/-- and conversely. -/
theorem full_back (f : Buf (Elt F) ((c : Thread nD τ).loc b)) : (full c (Memref.whole b) f : sProp 𝕄) ⊢ (((c : Thread nD τ).loc b) ↦{fullShare} f) := by
  rw [full_pts]; iintro ⟨%g, %h, H⟩; subst h; iexact H
end

/-! ## The region's data -/

variable (ρ : Dev nD → PrngReg)

/-- What device `c`'s body starts from besides its staged blocks and scratch buffers, -/
def start (c : Dev nD) : sProp 𝕄 := iprop(recs m ∗ semIn c ∗ weights m c)
/-- What the body starts from besides its staged blocks. -/
def Φ₀ (c : Dev nD) : sProp 𝕄 := iprop(start m c ∗ scratchAny c)
/-- and what it ends with. -/
def Φ₁ (c : Dev nD) : sProp 𝕄 := iprop(semOut c ∗ scratchAny c ∗ weights m c)

/-- The region's data: the staged tokens and router columns come in, and the result goes out. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => rstg m c
    | ⟨2, _⟩ => OUT m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The region has one point, -/
abbrev t₀ : Fin cfg0.N := (0 : Fin 1)
/-- and no other. -/
theorem fin_N (t : Fin cfg0.N) : t = t₀ := fin_N0 t

/-- The block staged for the tokens, -/
theorem before_0 (c : Dev nD) (d) : (dats m 0 c).before (0 : Fin 3) t₀ d = xstg m c := by
  unfold Dat.before; rw [if_pos (fetch0_0 t₀)]; rfl
/-- and for the router columns. -/
theorem before_1 (c : Dev nD) (d) : (dats m 0 c).before (1 : Fin 3) t₀ d = rstg m c := by
  unfold Dat.before; rw [if_pos (fetch0_1 t₀)]; rfl

/-- The body's precondition, in words of the kernel, -/
def bodyPre' (c : Dev nD) : sProp 𝕄 :=
  iprop(Φ₀ m c ∗ (dats m 0 c).owesAt () t₀.castSucc
    ∗ (∃ d, full c (Memref.whole cc0_stg0_0) ((dats m 0 c).before (0 : Fin 3) t₀ d))
    ∗ (∃ d, full c (Memref.whole cc0_stg1_0) ((dats m 0 c).before (1 : Fin 3) t₀ d))
    ∗ (∃ d, full c (Memref.whole cc0_stg2_0) ((dats m 0 c).before (2 : Fin 3) t₀ d)))
/-- and its postcondition. -/
def bodyPost (c : Dev nD) : sProp 𝕄 :=
  iprop(Φ₁ m c ∗ (dats m 0 c).owesAt () t₀.succ ∗ full c (Memref.whole cc0_stg0_0) (xstg m c) ∗ full c (Memref.whole cc0_stg1_0) (rstg m c) ∗ full c (Memref.whole cc0_stg2_0) (OUT m c))

set_option maxHeartbeats 1600000 in
/-- The body leaves the result from the staged blocks. -/
theorem sound_body (c : Dev nD) :
    bodyPre' m c ⊢ WP c (cc0_body xM (Memref.isWhole_whole _) rM (Memref.isWhole_whole _) w1A (Memref.isWhole_whole _) w2A (Memref.isWhole_whole _) oM (Memref.isWhole_whole _) xsM (Memref.isWhole_whole _) xrM (Memref.isWhole_whole _) rrM (Memref.isWhole_whole _) wsM (Memref.isWhole_whole _) wrM (Memref.isWhole_whole _) waM (Memref.isWhole_whole _) w1M (Memref.isWhole_whole _) w2M (Memref.isWhole_whole _) psM (Memref.isWhole_whole _) prM (Memref.isWhole_whole _) ssM (Memref.isWhole_whole _) srM (Memref.isWhole_whole _) cc0_scratch12 cc0_scratch13 cc0_scratch14) (fun _ => bodyPost m c) := by
  unfold bodyPre' Φ₀ start Dat.owesAt Pipeline.owesWithin
  rw [show (dats m 0 c).owed t₀.castSucc = O₀ c from rfl]
  iintro ⟨⟨⟨#HR, Hsem, Hw⟩, Hscr⟩, ⟨%W, %hW, HO⟩, ⟨%d0, Hx⟩, ⟨%d1, Hr⟩, ⟨%d2, Ho⟩⟩
  ihave Hx := (Entails.of_eq (congrArg (full c (Memref.whole cc0_stg0_0)) (before_0 m c d0))) $$ Hx
  ihave Hr := (Entails.of_eq (congrArg (full c (Memref.whole cc0_stg1_0)) (before_1 m c d1))) $$ Hr
  iapply (body_run m c (fun _ => bodyPost m c))
  isplitr; · iexact HR
  isplitl [HO]; · unfold Ow; iexists W; iexact HO
  isplitl [Hsem]; · iexact Hsem
  isplitl [Hx]; · iexact Hx
  isplitl [Hr]; · iexact Hr
  isplitl [Hw]; · iexact Hw
  isplitl [Ho]; · iapply (heldAny_of_held (c := (c : Thread nD τ)) (M := oM)) $$ Ho
  isplitl [Hscr]; · iexact Hscr
  unfold Ow
  iintro ⟨⟨%W', HO⟩, Hsem, Hx, Hr, Hw, Ho, Hscr⟩
  unfold bodyPost Φ₁ Dat.owesAt Pipeline.owesWithin
  rw [show (dats m 0 c).owed t₀.succ = owed c 12 from (owed_end c).symm]
  isplitl [Hsem Hscr Hw]
  · isplitl [Hsem]; · iexact Hsem
    isplitl [Hscr]; · iexact Hscr
    iexact Hw
  isplitl [HO]
  · iexists W'
    isplitr; · ipureintro; exact fun _ _ => Or.inl trivial
    iexact HO
  isplitl [Hx]; · iexact Hx
  isplitl [Hr]; · iexact Hr
  iexact Ho

/-- The body at the region's one point. -/
theorem body_obligation (c : Dev nD) : BodyObligation (dats (F := F) m 0 c) (defs₀ (F := F)) 𝒱₀ () Set.univ := fun t => by
  rw [fin_N t]
  rw [bigSep_W0, bigSep_W0]
  simp only [owns_whole_full]
  exact sound_body m c

/-! ## The launch -/

/-- The kernel's own semaphores. -/
def osem (j : Fin 28) : SemLoc sig := .dma (dmaS (3 + j.val))
/-- The kernel's own semaphores are its scratch semaphores. -/
theorem ownSemFacts : Pipeline.OwnSemFacts cfg0.spec osem := by decide

/-- Every window is held whole. -/
theorem share_eq (c : Dev nD) (w : Fin cfg0.W) : (dats m 0 c).share w = fullShare := by unfold Dat.share; split <;> rfl

omit [FloatOps F] in
/-- A device's cells differ from each other, -/
theorem csem_injective : Function.Injective csem := by decide
omit [FloatOps F] in
/-- and so do those of all devices. -/
theorem kcell_injective : Function.Injective (kcell : Dev nD × Fin 29 → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- The cells whose rounds the proof follows. -/
def moeCells : Finset (GSem nD τ sig) := Finset.univ.map ⟨kcell, kcell_injective⟩

/-- The duty tokens: one of every semaphore, and the barrier's second. -/
def tokOf (p : Dev nD × Fin 30) : GSem nD τ sig × ℕ × Bool :=
  if h : p.2.val < 29 then (kcell (p.1, ⟨p.2.val, h⟩), 0, false) else (barCell p.1, 0, true)
omit [FloatOps F] in
/-- The duty tokens differ from each other. -/
theorem tokOf_injective : Function.Injective tokOf := by
  rintro ⟨c, j⟩ ⟨c', j'⟩ h
  unfold tokOf at h
  have hj := j.isLt
  have hj' := j'.isLt
  split at h <;> split at h
  · have h0 := kcell_injective (congrArg Prod.fst h)
    have h1 : c = c' := congrArg Prod.fst h0
    have h2 := congrArg (fun q : Dev nD × Fin 29 => q.2.val) h0
    exact Prod.ext h1 (Fin.ext h2)
  · exact absurd (show false = true from congrArg (fun x : GSem nD τ sig × ℕ × Bool => x.2.2) h) (by decide)
  · exact absurd (show true = false from congrArg (fun x : GSem nD τ sig × ℕ × Bool => x.2.2) h) (by decide)
  · have h1 : c = c' := congrArg (fun x : GSem nD τ sig × ℕ × Bool => x.1.1.1) h
    exact Prod.ext h1 (Fin.ext (by dsimp only at *; omega))
/-- The duty tokens at launch. -/
def moeToks : Finset (GSem nD τ sig × ℕ × Bool) := Finset.univ.map ⟨tokOf, tokOf_injective⟩

/-- The ghost state at launch. -/
def u₀ : UU :=
  (initOf (Pipeline.cells cfgs cellOf_inj) (Pipeline.launchToks cfgs cellOf_inj), initOf moeCells moeToks)

/-- A duty's token, -/
abbrev tok (p : Dev nD × Fin 30) : sProp 𝕄 := dutyTok ER (tokOf p).1 (tokOf p).2.1 (tokOf p).2.2
/-- and a cell's position before its round. -/
abbrev pos (p : Dev nD × Fin 29) : sProp 𝕄 := atPos ER (kcell p) 0 ∅ 0

/-- What the launch element deals device `c`. -/
def G (c : Dev nD) : sProp 𝕄 :=
  iprop((bigSep Finset.univ fun k : Fin 29 => roundState ER (Rd m) (kcell (c, k)) 0)
    ∗ (bigSep Finset.univ fun k : Fin 29 => iprop(pos (c, k) ∗ reached ER (kcell (c, k)) 0))
    ∗ bigSep Finset.univ fun j : Fin 30 => tok (c, j))

/-- The ghost state at launch deals every device its share. -/
theorem fund_moe : BI.own (ER (initOf moeCells moeToks)) ⊢ (|==> bigSep Finset.univ (G m) : sProp 𝕄) := by
  have hX (Φ : GSem nD τ sig → sProp 𝕄) : bigSep moeCells Φ = bigSep Finset.univ fun c : Dev nD => bigSep Finset.univ fun k : Fin 29 => Φ (kcell (c, k)) := by
    unfold moeCells; rw [bigSep_map, bigSep_univ_prod]; rfl
  have hT : bigSep moeToks (fun x => (dutyTok ER x.1 x.2.1 x.2.2 : sProp 𝕄)) = bigSep Finset.univ fun c : Dev nD => bigSep Finset.univ fun j : Fin 30 => tok (c, j) := by
    unfold moeToks; rw [bigSep_map, bigSep_univ_prod]; rfl
  iintro HX
  imod (Rounds.fund ER (Rd m) moeCells moeToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### Lists of a device's semaphores -/

omit [FloatOps F] in
/-- A device's positions, one by one, -/
theorem pos_list (c : Dev nD) : (bigSep Finset.univ fun k : Fin 29 => (pos (c, k) : sProp 𝕄)) = iprop(atPos ER (barCell c) 0 ∅ 0 ∗ atPos ER (sndCell c 0) 0 ∅ 0 ∗ atPos ER (sndCell c 1) 0 ∅ 0 ∗ atPos ER (sndCell c 2) 0 ∅ 0 ∗ atPos ER (sndCell c 3) 0 ∅ 0 ∗ atPos ER (sndCell c 4) 0 ∅ 0 ∗ atPos ER (sndCell c 5) 0 ∅ 0 ∗ atPos ER (sndCell c 6) 0 ∅ 0 ∗ atPos ER (sndCell c 7) 0 ∅ 0 ∗ atPos ER (sndCell c 8) 0 ∅ 0 ∗ atPos ER (sndCell c 9) 0 ∅ 0 ∗ atPos ER (sndCell c 10) 0 ∅ 0 ∗ atPos ER (sndCell c 11) 0 ∅ 0 ∗ atPos ER (rcvCell c 0) 0 ∅ 0 ∗ atPos ER (rcvCell c 1) 0 ∅ 0 ∗ atPos ER (rcvCell c 2) 0 ∅ 0 ∗ atPos ER (rcvCell c 3) 0 ∅ 0 ∗ atPos ER (rcvCell c 4) 0 ∅ 0 ∗ atPos ER (rcvCell c 5) 0 ∅ 0 ∗ atPos ER (rcvCell c 6) 0 ∅ 0 ∗ atPos ER (rcvCell c 7) 0 ∅ 0 ∗ atPos ER (rcvCell c 8) 0 ∅ 0 ∗ atPos ER (rcvCell c 9) 0 ∅ 0 ∗ atPos ER (rcvCell c 10) 0 ∅ 0 ∗ atPos ER (rcvCell c 11) 0 ∅ 0 ∗ atPos ER (cpyCell c 0) 0 ∅ 0 ∗ atPos ER (cpyCell c 1) 0 ∅ 0 ∗ atPos ER (cpyCell c 2) 0 ∅ 0 ∗ atPos ER (cpyCell c 3) 0 ∅ 0) := by
  rw [bigSep_univ_eq_bigSepL [0, 1, 2, 3, 4, 5, 6, 7, 8, 9, 10, 11, 12, 13, 14, 15, 16, 17, 18, 19, 20, 21, 22, 23, 24, 25, 26, 27, 28] (by decide) (by decide)]; rfl
omit [FloatOps F] in
/-- its semaphores' values, -/
theorem val_list (c : Dev nD) : (bigSep Finset.univ fun k : Fin 29 => (semVal (kcell (c, k)) 0 : sProp 𝕄)) = iprop(semVal (barCell c) 0 ∗ semVal (sndCell c 0) 0 ∗ semVal (sndCell c 1) 0 ∗ semVal (sndCell c 2) 0 ∗ semVal (sndCell c 3) 0 ∗ semVal (sndCell c 4) 0 ∗ semVal (sndCell c 5) 0 ∗ semVal (sndCell c 6) 0 ∗ semVal (sndCell c 7) 0 ∗ semVal (sndCell c 8) 0 ∗ semVal (sndCell c 9) 0 ∗ semVal (sndCell c 10) 0 ∗ semVal (sndCell c 11) 0 ∗ semVal (rcvCell c 0) 0 ∗ semVal (rcvCell c 1) 0 ∗ semVal (rcvCell c 2) 0 ∗ semVal (rcvCell c 3) 0 ∗ semVal (rcvCell c 4) 0 ∗ semVal (rcvCell c 5) 0 ∗ semVal (rcvCell c 6) 0 ∗ semVal (rcvCell c 7) 0 ∗ semVal (rcvCell c 8) 0 ∗ semVal (rcvCell c 9) 0 ∗ semVal (rcvCell c 10) 0 ∗ semVal (rcvCell c 11) 0 ∗ semVal (cpyCell c 0) 0 ∗ semVal (cpyCell c 1) 0 ∗ semVal (cpyCell c 2) 0 ∗ semVal (cpyCell c 3) 0) := by
  rw [bigSep_univ_eq_bigSepL [0, 1, 2, 3, 4, 5, 6, 7, 8, 9, 10, 11, 12, 13, 14, 15, 16, 17, 18, 19, 20, 21, 22, 23, 24, 25, 26, 27, 28] (by decide) (by decide)]; rfl
omit [FloatOps F] in
/-- those of the kernel's own semaphores, -/
theorem ownSems0_eq (c : Dev nD) : (Pipeline.ownSems0 (Ix := Unit) (Name := ℕ) (U := UU) (Lvl := ℕ) (Val := Elt F) (τ := τ) osem c : sProp 𝕄)
    = iprop(semVal (sndCell c 0) 0 ∗ semVal (sndCell c 1) 0 ∗ semVal (sndCell c 2) 0 ∗ semVal (sndCell c 3) 0 ∗ semVal (sndCell c 4) 0 ∗ semVal (sndCell c 5) 0 ∗ semVal (sndCell c 6) 0 ∗ semVal (sndCell c 7) 0 ∗ semVal (sndCell c 8) 0 ∗ semVal (sndCell c 9) 0 ∗ semVal (sndCell c 10) 0 ∗ semVal (sndCell c 11) 0 ∗ semVal (rcvCell c 0) 0 ∗ semVal (rcvCell c 1) 0 ∗ semVal (rcvCell c 2) 0 ∗ semVal (rcvCell c 3) 0 ∗ semVal (rcvCell c 4) 0 ∗ semVal (rcvCell c 5) 0 ∗ semVal (rcvCell c 6) 0 ∗ semVal (rcvCell c 7) 0 ∗ semVal (rcvCell c 8) 0 ∗ semVal (rcvCell c 9) 0 ∗ semVal (rcvCell c 10) 0 ∗ semVal (rcvCell c 11) 0 ∗ semVal (cpyCell c 0) 0 ∗ semVal (cpyCell c 1) 0 ∗ semVal (cpyCell c 2) 0 ∗ semVal (cpyCell c 3) 0) := by
  rw [Pipeline.ownSems0_eq_of_list c osem [0, 1, 2, 3, 4, 5, 6, 7, 8, 9, 10, 11, 12, 13, 14, 15, 16, 17, 18, 19, 20, 21, 22, 23, 24, 25, 26, 27] (by decide) (by decide)]; rfl
omit [FloatOps F] in
/-- the barrier's, -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- and all of them. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 29 => semVal (kcell (c, k)) 0 : sProp 𝕄) := by
  rw [ownSems0_eq, unscopedSems0_eq, val_list]
  iintro ⟨HS, HB⟩
  isplitl [HB]; · iexact HB
  iexact HS

/-- Whose token device `c` spends: a neighbour's barrier and receive semaphores, its own others. -/
def peer (j : Fin 30) (c : Dev nD) : Dev nD :=
  if j.val = 0 then ynb c else if j.val = 29 then xnb c else if 13 ≤ j.val ∧ j.val ≤ 24 then dst (j.val - 13) c else c
omit [FloatOps F] in
/-- A token's spender and its device change places. -/
theorem peer_peer (j : Fin 30) (c : Dev nD) : peer j (peer j c) = c := by
  unfold peer
  split
  · exact ynb_ynb c
  · split
    · exact xnb_xnb c
    · split
      · exact dst_dst _ c
      · rfl
/-- The exchange of tokens between the devices. -/
def swap : Dev nD × Fin 30 ≃ Dev nD × Fin 30 where
  toFun p := (peer p.2 p.1, p.2)
  invFun p := (peer p.2 p.1, p.2)
  left_inv p := Prod.ext (peer_peer _ _) rfl
  right_inv p := Prod.ext (peer_peer _ _) rfl

omit [FloatOps F] in
/-- The tokens dealt to the devices that spend them. -/
theorem toks_around : (bigSep Finset.univ fun c : Dev nD => bigSep Finset.univ fun j : Fin 30 => (tok (c, j) : sProp 𝕄))
    ⊢ bigSep Finset.univ fun c : Dev nD => bigSep Finset.univ fun j : Fin 30 => tok (peer j c, j) := by
  rw [← bigSep_univ_prod (fun p : Dev nD × Fin 30 => (tok p : sProp 𝕄)), bigSep_univ_equiv swap (fun p : Dev nD × Fin 30 => (tok p : sProp 𝕄)),
    bigSep_univ_prod]
  exact Entails.of_eq rfl
omit [FloatOps F] in
/-- The tokens that a device spends, one by one. -/
theorem tok_list (c : Dev nD) : (bigSep Finset.univ fun j : Fin 30 => (tok (peer j c, j) : sProp 𝕄)) = iprop(dutyTok ER (barCell (ynb c)) 0 false ∗ dutyTok ER (sndCell c 0) 0 false ∗ dutyTok ER (sndCell c 1) 0 false ∗ dutyTok ER (sndCell c 2) 0 false ∗ dutyTok ER (sndCell c 3) 0 false ∗ dutyTok ER (sndCell c 4) 0 false ∗ dutyTok ER (sndCell c 5) 0 false ∗ dutyTok ER (sndCell c 6) 0 false ∗ dutyTok ER (sndCell c 7) 0 false ∗ dutyTok ER (sndCell c 8) 0 false ∗ dutyTok ER (sndCell c 9) 0 false ∗ dutyTok ER (sndCell c 10) 0 false ∗ dutyTok ER (sndCell c 11) 0 false ∗ dutyTok ER (rcvCell (dst ((0 : Fin 12).val) c) 0) 0 false ∗ dutyTok ER (rcvCell (dst ((1 : Fin 12).val) c) 1) 0 false ∗ dutyTok ER (rcvCell (dst ((2 : Fin 12).val) c) 2) 0 false ∗ dutyTok ER (rcvCell (dst ((3 : Fin 12).val) c) 3) 0 false ∗ dutyTok ER (rcvCell (dst ((4 : Fin 12).val) c) 4) 0 false ∗ dutyTok ER (rcvCell (dst ((5 : Fin 12).val) c) 5) 0 false ∗ dutyTok ER (rcvCell (dst ((6 : Fin 12).val) c) 6) 0 false ∗ dutyTok ER (rcvCell (dst ((7 : Fin 12).val) c) 7) 0 false ∗ dutyTok ER (rcvCell (dst ((8 : Fin 12).val) c) 8) 0 false ∗ dutyTok ER (rcvCell (dst ((9 : Fin 12).val) c) 9) 0 false ∗ dutyTok ER (rcvCell (dst ((10 : Fin 12).val) c) 10) 0 false ∗ dutyTok ER (rcvCell (dst ((11 : Fin 12).val) c) 11) 0 false ∗ dutyTok ER (cpyCell c 0) 0 false ∗ dutyTok ER (cpyCell c 1) 0 false ∗ dutyTok ER (cpyCell c 2) 0 false ∗ dutyTok ER (cpyCell c 3) 0 false ∗ dutyTok ER (barCell (xnb c)) 0 true) := by
  rw [bigSep_univ_eq_bigSepL [0, 1, 2, 3, 4, 5, 6, 7, 8, 9, 10, 11, 12, 13, 14, 15, 16, 17, 18, 19, 20, 21, 22, 23, 24, 25, 26, 27, 28, 29] (by decide) (by decide)]; rfl

/-- A device's semaphores at zero and its share become invariants, positions and tokens. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(pos (c, k) ∗ reached ER (kcell (c, k)) 0)) ∗ bigSep Finset.univ fun j : Fin 30 => tok (c, j)) := by
  unfold G
  iintro ⟨Hos, Hus, Hst, Hat, Htok⟩
  ihave Hv := (sems0_eq (F := F) c) $$ [Hos Hus]
  · isplitl [Hos] <;> iassumption
  imod (show iprop((bigSep Finset.univ fun k : Fin 29 => semVal (kcell (c, k)) 0) ∗ bigSep Finset.univ fun k : Fin 29 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every semaphore's invariant and that its first round is reached. -/
def records : sProp 𝕄 :=
  iprop((∃ K : Dev nD × Fin 29 → ℕ, bigSep Finset.univ fun p : Dev nD × Fin 29 => cellInv ER (Rd m) (K p) (kcell p))
    ∗ (bigSep Finset.univ fun p : Dev nD × Fin 29 => reached ER (kcell p) 0))
/-- The records may be used again and again. -/
instance records_persistent : BI.Persistent (records m) := by unfold records; infer_instance

/-- What stays with device `c`: its positions and the tokens that it spends. -/
def linear (c : Dev nD) : sProp 𝕄 :=
  iprop((bigSep Finset.univ fun k : Fin 29 => pos (c, k)) ∗ bigSep Finset.univ fun j : Fin 30 => tok (peer j c, j))
/-- What a device has after the exchange. -/
def G' (c : Dev nD) : sProp 𝕄 := iprop(records m ∗ linear c)

omit [FloatOps F] in
/-- A fact that may be used again stands beside each of many. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Invariants are shared by all, positions stay, and tokens go to those who spend them. -/
theorem regroup :
    (bigSep Finset.univ fun c : Dev nD => iprop((bigSep Finset.univ fun k => iprop(∃ κ : ℕ, cellInv ER (Rd m) κ (kcell (c, k))))
          ∗ (bigSep Finset.univ fun k => iprop(pos (c, k) ∗ reached ER (kcell (c, k)) 0)) ∗ bigSep Finset.univ fun j : Fin 30 => tok (c, j)) : sProp 𝕄)
      ⊢ bigSep Finset.univ (G' m) := by
  rw [bigSep_sep', bigSep_sep', ← bigSep_univ_prod (fun p : Dev nD × Fin 29 => iprop(∃ κ : ℕ, cellInv ER (Rd m) κ (kcell p))),
    bigSep_congr (s := Finset.univ) (fun (c : Dev nD) _ => bigSep_sep' Finset.univ (fun k : Fin 29 => (pos (c, k) : sProp 𝕄)) (fun k => reached ER (kcell (c, k)) 0)),
    bigSep_sep', ← bigSep_univ_prod (fun p : Dev nD × Fin 29 => (reached ER (kcell p) 0 : sProp 𝕄))]
  iintro ⟨HI, ⟨Hat, #HR⟩, Htok⟩
  ihave HK := (BI.bigSep_exists_pi Finset.univ (fun (p : Dev nD × Fin 29) (κ : ℕ) => (cellInv ER (Rd m) κ (kcell p) : sProp 𝕄))) $$ HI
  icases HK with ⟨%K, #HI⟩
  ihave Htk := (toks_around (F := F)) $$ Htok
  iapply (bigSep_beside (R := records m) (Φ := linear) (Ψ := G' m) fun c _ => show iprop(records m ∗ linear c) ⊢ G' m c from Entails.of_eq rfl)
  isplitr
  · unfold records
    isplitr; · iexists K; iexact HI
    iexact HR
  · unfold linear
    rw [bigSep_sep']
    isplitl [Hat]; · iexact Hat
    iexact Htk

/-- From the semaphores at zero to what each device starts with. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The credit at launch -/

omit [FloatOps F] in
/-- Barriers are equal if their devices are, -/
theorem bar_eq_iff {a b : Dev nD} : Iff (barCell a = barCell b) (a = b) :=
  ⟨fun h => Fin.ext (congrArg (fun g : GSem nD τ sig => g.1.1.val) h), fun h => h ▸ rfl⟩
omit [FloatOps F] in
/-- receive semaphores if device and number are, -/
theorem rcv_eq_iff {a b : Dev nD} {j k : Fin 12} : Iff (rcvCell a j = rcvCell b k) (a = b ∧ j = k) := by
  refine ⟨fun h => ⟨Fin.ext (congrArg (fun g : GSem nD τ sig => g.1.1.val) h), ?_⟩, fun h => by rw [h.1, h.2]⟩
  have h1 : SemLoc.dma (rcvS j) = SemLoc.dma (rcvS k) := congrArg Prod.snd h
  have h2 := congrArg Fin.val (SemLoc.dma.inj h1)
  exact Fin.ext (by simpa using h2)
omit [FloatOps F] in
/-- and no receive semaphore is a barrier. -/
theorem rcv_ne_bar {a b : Dev nD} {k : Fin 12} : rcvCell a k ≠ barCell b := fun h => by
  have h1 : SemLoc.dma (rcvS k) = SemLoc.reg barS := congrArg Prod.snd h
  cases h1
omit [FloatOps F] in
/-- The remote copies credit no barrier, -/
theorem owed0_bar (d c : Dev nD) : owed d 0 (barCell c) () = 0 := by
  unfold owed
  rw [Finset.sum_apply, Finsupp.finset_sum_apply]
  exact Finset.sum_eq_zero fun k _ => by rw [tallyAt_apply]; exact if_neg fun h => rcv_ne_bar h.1.symm
omit [FloatOps F] in
/-- and each receive semaphore from one device only. -/
theorem owed0_rcv (d c : Dev nD) (k : Fin 12) : owed d 0 (rcvCell c k) () = if d = dst k.val c then amt (15 + k.val) else 0 := by
  unfold owed
  rw [Finset.sum_apply, Finsupp.finset_sum_apply, Finset.sum_eq_single k]
  · rw [tallyAt_apply]
    by_cases h : d = dst k.val c
    · subst h; rw [dst_dst, if_pos ⟨rfl, rfl⟩, if_pos rfl]
    · rw [if_neg (fun h' => h (by rw [(rcv_eq_iff.mp h'.1).1, dst_dst])), if_neg h]
  · intro j _ hj
    rw [tallyAt_apply]
    exact if_neg fun h => hj (rcv_eq_iff.mp h.1).2.symm
  · exact fun h => absurd (Finset.mem_filter.mpr ⟨Finset.mem_univ k, Nat.zero_le k.val⟩) h

omit [FloatOps F] in
/-- A barrier is credited by its two neighbours, -/
theorem O₀_bar (d c : Dev nD) : O₀ d (barCell c) () = (if d = xnb c then 1 else 0) + (if d = ynb c then 1 else 0) := by
  unfold O₀ O₁
  rw [Pi.add_apply, Finsupp.add_apply, Pi.add_apply, Finsupp.add_apply, owed0_bar, tallyAt_apply, tallyAt_apply, Nat.zero_add]
  congr 1
  · by_cases h : d = xnb c
    · subst h; rw [xnb_xnb, if_pos ⟨rfl, rfl⟩, if_pos rfl]
    · rw [if_neg (fun h' => h (by rw [bar_eq_iff.mp h'.1, xnb_xnb])), if_neg h]
  · by_cases h : d = ynb c
    · subst h; rw [ynb_ynb, if_pos ⟨rfl, rfl⟩, if_pos rfl]
    · rw [if_neg (fun h' => h (by rw [bar_eq_iff.mp h'.1, ynb_ynb])), if_neg h]
omit [FloatOps F] in
/-- a receive semaphore by its copy's sender. -/
theorem O₀_rcv (d c : Dev nD) (k : Fin 12) : O₀ d (rcvCell c k) () = if d = dst k.val c then amt (15 + k.val) else 0 := by
  unfold O₀ O₁
  rw [Pi.add_apply, Finsupp.add_apply, Pi.add_apply, Finsupp.add_apply, tallyAt_apply, tallyAt_apply, if_neg (fun h => rcv_ne_bar h.1),
    if_neg (fun h => rcv_ne_bar h.1), Nat.add_zero, owed0_rcv]

omit [FloatOps F] in
/-- So the barrier's credit at launch is two, -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => O₀_bar d c, Finset.sum_add_distrib,
    Finset.sum_ite_eq' Finset.univ (xnb c) fun _ => 1, Finset.sum_ite_eq' Finset.univ (ynb c) fun _ => 1, if_pos (Finset.mem_univ _), if_pos (Finset.mem_univ _)]
omit [FloatOps F] in
/-- and a receive semaphore's what its copy moves. -/
theorem launch_rcv (c : Dev nD) (k : Fin 12) :
    tallyOn (rcvCell c k) (launchCredit (Pipeline.owing O₀) 0 (rcvCell c k)) = (tallyAt (rcvCell c k) () (amt (15 + k.val)) : CellTallies nD τ sig Unit) := by
  unfold tallyAt; refine congrArg _ (Finsupp.ext fun u => ?_); cases u
  rw [Pipeline.launchCredit_owing, Finsupp.single_eq_same, Finset.sum_congr rfl fun d _ => O₀_rcv d c k, Finset.sum_ite_eq' Finset.univ (dst k.val c) fun _ => amt (15 + k.val),
    if_pos (Finset.mem_univ _)]

/-- The semaphores that a device's neighbours credit. -/
def inSem (j : Fin 13) : SemLoc sig := if j.val = 0 then .reg barS else .dma (dmaS (14 + j.val))
omit [FloatOps F] in
/-- The semaphores credited by neighbours differ from each other. -/
theorem inSem_injective : Function.Injective inSem := by decide

omit [FloatOps F] in
/-- A device's credits at launch, one by one. -/
theorem creds (c : Dev nD) : (Pipeline.launchCred O₀ c : sProp 𝕄) ⊢ iprop(cred (tallyAt (barCell c) () 2) ∗ cred (tallyAt (rcvCell c 0) () (amt (15 + (0 : Fin 12).val))) ∗ cred (tallyAt (rcvCell c 1) () (amt (15 + (1 : Fin 12).val))) ∗ cred (tallyAt (rcvCell c 2) () (amt (15 + (2 : Fin 12).val))) ∗ cred (tallyAt (rcvCell c 3) () (amt (15 + (3 : Fin 12).val))) ∗ cred (tallyAt (rcvCell c 4) () (amt (15 + (4 : Fin 12).val))) ∗ cred (tallyAt (rcvCell c 5) () (amt (15 + (5 : Fin 12).val))) ∗ cred (tallyAt (rcvCell c 6) () (amt (15 + (6 : Fin 12).val))) ∗ cred (tallyAt (rcvCell c 7) () (amt (15 + (7 : Fin 12).val))) ∗ cred (tallyAt (rcvCell c 8) () (amt (15 + (8 : Fin 12).val))) ∗ cred (tallyAt (rcvCell c 9) () (amt (15 + (9 : Fin 12).val))) ∗ cred (tallyAt (rcvCell c 10) () (amt (15 + (10 : Fin 12).val))) ∗ cred (tallyAt (rcvCell c 11) () (amt (15 + (11 : Fin 12).val)))) := by
  unfold Pipeline.launchCred
  have hc : ∀ k : Fin 12, (cred (tallyAt (rcvCell c k) () (amt (15 + k.val))) : sProp 𝕄)
      = cred (tallyOn (rcvCell c k) (launchCredit (Pipeline.owing O₀) 0 (rcvCell c k))) := fun k => by rw [launch_rcv]
  simp only [hc]
  rw [← launch_bar]
  have e : (bigSep Finset.univ (fun sm : SemLoc sig => cred (tallyOn ((c : Thread nD τ), sm) (launchCredit (Pipeline.owing O₀) 0 ((c : Thread nD τ), sm)))) : sProp 𝕄)
      = iprop((bigSep (Finset.univ.map ⟨inSem, inSem_injective⟩) fun sm : SemLoc sig => cred (tallyOn ((c : Thread nD τ), sm) (launchCredit (Pipeline.owing O₀) 0 ((c : Thread nD τ), sm))))
        ∗ bigSep (Finset.univ \ Finset.univ.map ⟨inSem, inSem_injective⟩) fun sm : SemLoc sig => cred (tallyOn ((c : Thread nD τ), sm) (launchCredit (Pipeline.owing O₀) 0 ((c : Thread nD τ), sm)))) :=
    BI.bigSep_sdiff_split (Finset.subset_univ _)
  have e' : (bigSep (Finset.univ.map ⟨inSem, inSem_injective⟩) (fun sm : SemLoc sig => cred (tallyOn ((c : Thread nD τ), sm) (launchCredit (Pipeline.owing O₀) 0 ((c : Thread nD τ), sm)))) : sProp 𝕄)
      = iprop(cred (tallyOn (barCell c) (launchCredit (Pipeline.owing O₀) 0 (barCell c))) ∗ cred (tallyOn (rcvCell c 0) (launchCredit (Pipeline.owing O₀) 0 (rcvCell c 0))) ∗ cred (tallyOn (rcvCell c 1) (launchCredit (Pipeline.owing O₀) 0 (rcvCell c 1))) ∗ cred (tallyOn (rcvCell c 2) (launchCredit (Pipeline.owing O₀) 0 (rcvCell c 2))) ∗ cred (tallyOn (rcvCell c 3) (launchCredit (Pipeline.owing O₀) 0 (rcvCell c 3))) ∗ cred (tallyOn (rcvCell c 4) (launchCredit (Pipeline.owing O₀) 0 (rcvCell c 4))) ∗ cred (tallyOn (rcvCell c 5) (launchCredit (Pipeline.owing O₀) 0 (rcvCell c 5))) ∗ cred (tallyOn (rcvCell c 6) (launchCredit (Pipeline.owing O₀) 0 (rcvCell c 6))) ∗ cred (tallyOn (rcvCell c 7) (launchCredit (Pipeline.owing O₀) 0 (rcvCell c 7))) ∗ cred (tallyOn (rcvCell c 8) (launchCredit (Pipeline.owing O₀) 0 (rcvCell c 8))) ∗ cred (tallyOn (rcvCell c 9) (launchCredit (Pipeline.owing O₀) 0 (rcvCell c 9))) ∗ cred (tallyOn (rcvCell c 10) (launchCredit (Pipeline.owing O₀) 0 (rcvCell c 10))) ∗ cred (tallyOn (rcvCell c 11) (launchCredit (Pipeline.owing O₀) 0 (rcvCell c 11)))) := by
    rw [bigSep_map, bigSep_univ_eq_bigSepL [0, 1, 2, 3, 4, 5, 6, 7, 8, 9, 10, 11, 12] (by decide) (by decide)]; rfl
  iintro H
  ihave H := (Entails.of_eq e) $$ H
  icases H with ⟨H, -⟩
  ihave H := (Entails.of_eq e') $$ H
  iexact H

/-- Positions, tokens and credits make up what the body starts from. -/
theorem semIn_intro (c : Dev nD) : iprop(linear c ∗ Pipeline.launchCred O₀ c) ⊢ (semIn c : sProp 𝕄) := by
  unfold linear
  rw [pos_list, tok_list]
  iintro ⟨⟨⟨Hpb, Hps0, Hps1, Hps2, Hps3, Hps4, Hps5, Hps6, Hps7, Hps8, Hps9, Hps10, Hps11, Hpr0, Hpr1, Hpr2, Hpr3, Hpr4, Hpr5, Hpr6, Hpr7, Hpr8, Hpr9, Hpr10, Hpr11, Hpc0, Hpc1, Hpc2, Hpc3⟩, Htb, Hts0, Hts1, Hts2, Hts3, Hts4, Hts5, Hts6, Hts7, Hts8, Hts9, Hts10, Hts11, Htr0, Htr1, Htr2, Htr3, Htr4, Htr5, Htr6, Htr7, Htr8, Htr9, Htr10, Htr11, Htc0, Htc1, Htc2, Htc3, Htx⟩, Hcr⟩
  ihave Hcr := (creds (F := F) c) $$ Hcr
  icases Hcr with ⟨Hcb, Hcr0, Hcr1, Hcr2, Hcr3, Hcr4, Hcr5, Hcr6, Hcr7, Hcr8, Hcr9, Hcr10, Hcr11⟩
  unfold semIn
  isplitl [Htb Htx Hcb Hpb]
  · unfold barPre
    isplitl [Htb]; · iexact Htb
    isplitl [Htx]; · iexact Htx
    isplitl [Hcb]; · iexact Hcb
    iexact Hpb
  isplitl [Hts0 Htr0 Hps0 Hts1 Htr1 Hps1 Hts2 Htr2 Hps2 Hts3 Htr3 Hps3 Hts4 Htr4 Hps4 Hts5 Htr5 Hps5 Hts6 Htr6 Hps6 Hts7 Htr7 Hps7 Hts8 Htr8 Hps8 Hts9 Htr9 Hps9 Hts10 Htr10 Hps10 Hts11 Htr11 Hps11]
  · isplitl [Hts0 Htr0 Hps0]
    · unfold sndPre
      isplitl [Hts0]; · iexact Hts0
      isplitl [Htr0]; · iexact Htr0
      iexact Hps0
    isplitl [Hts1 Htr1 Hps1]
    · unfold sndPre
      isplitl [Hts1]; · iexact Hts1
      isplitl [Htr1]; · iexact Htr1
      iexact Hps1
    isplitl [Hts2 Htr2 Hps2]
    · unfold sndPre
      isplitl [Hts2]; · iexact Hts2
      isplitl [Htr2]; · iexact Htr2
      iexact Hps2
    isplitl [Hts3 Htr3 Hps3]
    · unfold sndPre
      isplitl [Hts3]; · iexact Hts3
      isplitl [Htr3]; · iexact Htr3
      iexact Hps3
    isplitl [Hts4 Htr4 Hps4]
    · unfold sndPre
      isplitl [Hts4]; · iexact Hts4
      isplitl [Htr4]; · iexact Htr4
      iexact Hps4
    isplitl [Hts5 Htr5 Hps5]
    · unfold sndPre
      isplitl [Hts5]; · iexact Hts5
      isplitl [Htr5]; · iexact Htr5
      iexact Hps5
    isplitl [Hts6 Htr6 Hps6]
    · unfold sndPre
      isplitl [Hts6]; · iexact Hts6
      isplitl [Htr6]; · iexact Htr6
      iexact Hps6
    isplitl [Hts7 Htr7 Hps7]
    · unfold sndPre
      isplitl [Hts7]; · iexact Hts7
      isplitl [Htr7]; · iexact Htr7
      iexact Hps7
    isplitl [Hts8 Htr8 Hps8]
    · unfold sndPre
      isplitl [Hts8]; · iexact Hts8
      isplitl [Htr8]; · iexact Htr8
      iexact Hps8
    isplitl [Hts9 Htr9 Hps9]
    · unfold sndPre
      isplitl [Hts9]; · iexact Hts9
      isplitl [Htr9]; · iexact Htr9
      iexact Hps9
    isplitl [Hts10 Htr10 Hps10]
    · unfold sndPre
      isplitl [Hts10]; · iexact Hts10
      isplitl [Htr10]; · iexact Htr10
      iexact Hps10
    unfold sndPre
    isplitl [Hts11]; · iexact Hts11
    isplitl [Htr11]; · iexact Htr11
    iexact Hps11
  isplitl [Hcr0 Hpr0 Hcr1 Hpr1 Hcr2 Hpr2 Hcr3 Hpr3 Hcr4 Hpr4 Hcr5 Hpr5 Hcr6 Hpr6 Hcr7 Hpr7 Hcr8 Hpr8 Hcr9 Hpr9 Hcr10 Hpr10 Hcr11 Hpr11]
  · isplitl [Hcr0 Hpr0]
    · unfold waitable
      isplitl [Hcr0]; · iexact Hcr0
      iexact Hpr0
    isplitl [Hcr1 Hpr1]
    · unfold waitable
      isplitl [Hcr1]; · iexact Hcr1
      iexact Hpr1
    isplitl [Hcr2 Hpr2]
    · unfold waitable
      isplitl [Hcr2]; · iexact Hcr2
      iexact Hpr2
    isplitl [Hcr3 Hpr3]
    · unfold waitable
      isplitl [Hcr3]; · iexact Hcr3
      iexact Hpr3
    isplitl [Hcr4 Hpr4]
    · unfold waitable
      isplitl [Hcr4]; · iexact Hcr4
      iexact Hpr4
    isplitl [Hcr5 Hpr5]
    · unfold waitable
      isplitl [Hcr5]; · iexact Hcr5
      iexact Hpr5
    isplitl [Hcr6 Hpr6]
    · unfold waitable
      isplitl [Hcr6]; · iexact Hcr6
      iexact Hpr6
    isplitl [Hcr7 Hpr7]
    · unfold waitable
      isplitl [Hcr7]; · iexact Hcr7
      iexact Hpr7
    isplitl [Hcr8 Hpr8]
    · unfold waitable
      isplitl [Hcr8]; · iexact Hcr8
      iexact Hpr8
    isplitl [Hcr9 Hpr9]
    · unfold waitable
      isplitl [Hcr9]; · iexact Hcr9
      iexact Hpr9
    isplitl [Hcr10 Hpr10]
    · unfold waitable
      isplitl [Hcr10]; · iexact Hcr10
      iexact Hpr10
    unfold waitable
    isplitl [Hcr11]; · iexact Hcr11
    iexact Hpr11
  isplitl [Htc0 Hpc0]
  · unfold cpyPre
    isplitl [Htc0]; · iexact Htc0
    iexact Hpc0
  isplitl [Htc1 Hpc1]
  · unfold cpyPre
    isplitl [Htc1]; · iexact Htc1
    iexact Hpc1
  isplitl [Htc2 Hpc2]
  · unfold cpyPre
    isplitl [Htc2]; · iexact Htc2
    iexact Hpc2
  unfold cpyPre
  isplitl [Htc3]; · iexact Htc3
  iexact Hpc3

/-! ### The theorem's side conditions -/

/-- So does what the launch hands over. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have hU : (Pipeline.unscopedRestP Pipeline.Prefetch.none cfg0.spec c (fun b => m ((c : Thread nD τ).loc b)) : sProp 𝕄)
      ⊢ iprop((((c : Thread nD τ).loc main_arg2) ↦{fullShare} m ((c : Thread nD τ).loc main_arg2)) ∗ (((c : Thread nD τ).loc main_arg3) ↦{fullShare} m ((c : Thread nD τ).loc main_arg3))) := by
    rw [Pipeline.unscopedRestP_none]
    exact Entails.of_eq (unscopedRest0_eq c _)
  unfold G' records
  iintro ⟨HU, Hlev, Hcr, -, ⟨HI, HR⟩, HL⟩
  ihave HU := (hU) $$ HU
  icases HU with ⟨H2, H3⟩
  ihave Hsem := (semIn_intro (F := F) c) $$ [HL Hcr]
  · isplitl [HL]; · iexact HL
    iexact Hcr
  imodintro
  isplitl
  · unfold start recs
    isplitl [HI HR Hlev]
    · isplitl [HI]; · iexact HI
      isplitl [HR]; · iexact HR
      iexact Hlev
    isplitl [Hsem]; · iexact Hsem
    unfold weights
    isplitl [H2]
    · iapply (pts_full c main_arg2 (m ((c : Thread nD τ).loc main_arg2))) $$ H2
    · iapply (pts_full c main_arg3 (m ((c : Thread nD τ).loc main_arg3))) $$ H3
  · iempintro

omit [FloatOps F] in
/-- The buffers of the region's scope are the scratch buffers. -/
theorem scratch_eq (c : Dev nD) : (Pipeline.scopedRest cfg0.spec c : sProp 𝕄) = scratchAny c := by
  rw [show (Pipeline.scopedRest cfg0.spec c : sProp 𝕄) = Pipeline.scopedRest spec0 c from rfl, scopedRest0_eq]
  rw [← any_pts c cc0_scratch0, ← any_pts c cc0_scratch1, ← any_pts c cc0_scratch2, ← any_pts c cc0_scratch3, ← any_pts c cc0_scratch4, ← any_pts c cc0_scratch5, ← any_pts c cc0_scratch6, ← any_pts c cc0_scratch7, ← any_pts c cc0_scratch8, ← any_pts c cc0_scratch9, ← any_pts c cc0_scratch10, ← any_pts c cc0_scratch11]
  rfl
/-- The region's first assertion, -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs]; · iexact Hs
  iexact Hr

/-- What the exit keeps: the barrier at zero, and the weights. -/
def Yp (c : Dev nD) : sProp 𝕄 :=
  iprop(unscopedSems0 c ∗ (((c : Thread nD τ).loc main_arg2) ↦{fullShare} m ((c : Thread nD τ).loc main_arg2)) ∗ (((c : Thread nD τ).loc main_arg3) ↦{fullShare} m ((c : Thread nD τ).loc main_arg3)))

/-- and its last. -/
theorem phi1_exit (c : Dev nD) :
    (dats m 0 c).Φ (Fin.last cfg0.N) ⊢ iprop(Yp m c ∗ Pipeline.ownSems0 osem c ∗ Pipeline.scopedRest cfg0.spec c) := by
  rw [show (dats m 0 c).Φ (Fin.last cfg0.N) = Φ₁ m c from rfl, scratch_eq, ownSems0_eq]
  unfold Φ₁ semOut weights Yp
  rw [unscopedSems0_eq]
  iintro ⟨⟨Hb, ⟨Hs0, Hs1, Hs2, Hs3, Hs4, Hs5, Hs6, Hs7, Hs8, Hs9, Hs10, Hs11⟩, ⟨Hr0, Hr1, Hr2, Hr3, Hr4, Hr5, Hr6, Hr7, Hr8, Hr9, Hr10, Hr11⟩, ⟨Hc0, Hc1, Hc2, Hc3⟩⟩, Hscr, H2, H3⟩
  isplitl [Hb H2 H3]
  · isplitl [Hb]; · iexact Hb
    isplitl [H2]
    · iapply (show (full c w1A (w1V m c) : sProp 𝕄) ⊢ (((c : Thread nD τ).loc main_arg2) ↦{fullShare} m ((c : Thread nD τ).loc main_arg2)) from full_back c main_arg2 (m ((c : Thread nD τ).loc main_arg2))) $$ H2
    · iapply (show (full c w2A (w2V m c) : sProp 𝕄) ⊢ (((c : Thread nD τ).loc main_arg3) ↦{fullShare} m ((c : Thread nD τ).loc main_arg3)) from full_back c main_arg3 (m ((c : Thread nD τ).loc main_arg3))) $$ H3
  isplitr [Hscr]
  · unfold zeroed
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    isplitl [Hr11]; · iexact Hr11
    isplitl [Hc0]; · iexact Hc0
    isplitl [Hc1]; · iexact Hc1
    isplitl [Hc2]; · iexact Hc2
    iexact Hc3
  · iexact Hscr

/-- The staging may be awaited. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

/-- What a window's array holds at the end. -/
def finalA (c : Dev nD) (w : Fin cfg0.W) : Buf (Elt F) ((cfg0.win w).arr.view.loc (c : Thread nD τ)) := (dats m 0 c).arrAt w cfg0.N

/-- What is known of the memory after the run. -/
def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg2) = m ((c : Thread nD τ).loc main_arg2)
    ∧ r.2.mem ((c : Thread nD τ).loc main_arg3) = m ((c : Thread nD τ).loc main_arg3)

set_option maxRecDepth 8000 in
/-- Every fair run of the program on the four devices ends, every window's array then holds its computed contents, the
    weights are unchanged and every semaphore is at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_moe m) $$ HX with HG
      imodintro
      isplitl [HP] <;> iassumption)
    (hglob := glob m)
    (hA := fun _ _ => rfl) (hpf := fun _ k => k.elim0)
    (X := start m) (Y := Yp m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg2) = m ((c : Thread nD τ).loc main_arg2)
      ∧ s.mem ((c : Thread nD τ).loc main_arg3) = m ((c : Thread nD τ).loc main_arg3))
    (hY := fun c s' => by
      unfold Yp
      iintro ⟨⟨Hu, H2, H3⟩, -, HSI⟩
      icombine HSI H2 gives %h2
      icombine HSI H3 gives %h3
      imod (Pipeline.unscopedSems0_read (X := unscopedSems0 c) (c := c) fupd_intro s') $$ [Hu HSI] with ⟨%h1, HSI⟩
      · isplitl [Hu]; · iexact Hu
        iexact HSI
      imodintro
      isplitr
      · ipureintro
        exact ⟨h1, Buf.eq_of_forall_mem_univ h2, Buf.eq_of_forall_mem_univ h3⟩
      · iexact HSI)
    (hQ := fun _ h hs => ⟨fun c => ⟨fun w => (h c).1 w, (h c).2.2.2⟩, sem_eq_zero hs fun c => (h c).2.2.1⟩)

/-- The tokens are unchanged, -/
theorem finalA_0 (c : Dev nD) : finalA m c (0 : Fin 3) = m ((c : Thread nD τ).loc main_arg0) := (dats (F := F) m 0 c).arrAt_in (0 : Fin 3) rfl _
/-- and so are the router columns. -/
theorem finalA_1 (c : Dev nD) : finalA m c (1 : Fin 3) = m ((c : Thread nD τ).loc main_arg1) := (dats (F := F) m 0 c).arrAt_in (1 : Fin 3) rfl _

/-- The frame: every argument is unchanged and every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨((h.1 c).1 (0 : Fin 3)).trans (finalA_0 m c), ((h.1 c).1 (1 : Fin 3)).trans (finalA_1 m c), (h.1 c).2.1, (h.1 c).2.2⟩, h.2⟩) (run_main m ρ)

end Cert.MoeKernelIdeal
-- ==== Proof.Maths.lean ====
/-
The mathematics of the layer over the extended reals, with no program in it.

A token has a row `x` of 1024 numbers and eight gates, one per expert. Its result is the sum over the two experts of
the largest gates of the expert's two-layer network, weighted by the softmax over the two gates. The kernel computes a
weight for every expert (`weight`), zero but for the two.
-/
module

public import Idealize.ShloMosaic.PureOps.Ideal
public import Idealize.ShloMosaic.Lib.IdealHost

@[expose] public section

noncomputable section

namespace Cert.Moe

open Idealize.ShloMosaic
open scoped BigOperators

/-- One number of an expert's two-layer network of a token's row. -/
def ffn (x : Fin 1024 → EReal) (w1 : Fin 1024 → Fin 2048 → EReal) (w2 : Fin 2048 → EReal) : EReal :=
  ∑ f : Fin 2048, max (∑ k : Fin 1024, x k * w1 k f) 0 * w2 f

/-- The gate of one expert. -/
def gate (x : Fin 1024 → EReal) (r : Fin 1024 → EReal) : EReal := ∑ k : Fin 1024, x k * r k

/-- The largest of eight gates, -/
def first (g : Fin 8 → EReal) : EReal := Finset.univ.fold max ⊥ g
/-- the largest of those that differ from it, -/
def second (g : Fin 8 → EReal) : EReal := Finset.univ.fold max ⊥ fun e => if g e = first g then ⊥ else g e
/-- and the weight that the kernel gives to an expert. -/
def weight (g : Fin 8 → EReal) (e : Fin 8) : EReal :=
  Ideal.div (if second g ≤ g e then Ideal.exp (g e - first g) else 0) (1 + Ideal.exp (second g - first g))

/-- `a` has the largest gate, `b` the second largest, and neither is tied. -/
structure Top (g : Fin 8 → EReal) (a b : Fin 8) : Prop where
  ab : g b < g a
  rest : ∀ e, e ≠ a → e ≠ b → g e < g b

/-- The two differ. -/
theorem Top.ne {g : Fin 8 → EReal} {a b : Fin 8} (h : Top g a b) : a ≠ b := fun e => by
  have := h.ab; rw [e] at this; exact lt_irrefl _ this

/-- No gate exceeds the largest. -/
theorem Top.le {g : Fin 8 → EReal} {a b : Fin 8} (h : Top g a b) (e : Fin 8) : g e ≤ g a := by
  by_cases ha : e = a
  · rw [ha]
  by_cases hb : e = b
  · rw [hb]; exact h.ab.le
  · exact ((h.rest e ha hb).trans h.ab).le

/-- A maximum that is attained. -/
theorem fold_max_eq {f : Fin 8 → EReal} {a : Fin 8} (h : ∀ e, f e ≤ f a) : Finset.univ.fold max ⊥ f = f a := by
  refine le_antisymm ((Finset.fold_max_le _).2 ⟨bot_le, fun e _ => h e⟩) ((Finset.le_fold_max _).2 (.inr ⟨a, Finset.mem_univ _, le_rfl⟩))

/-- The kernel's first maximum is the largest gate, -/
theorem Top.first {g : Fin 8 → EReal} {a b : Fin 8} (h : Top g a b) : first g = g a := fold_max_eq h.le

/-- and its second the second largest. -/
theorem Top.second {g : Fin 8 → EReal} {a b : Fin 8} (h : Top g a b) : second g = g b := by
  have hb : (if g b = Moe.first g then (⊥ : EReal) else g b) = g b := by
    rw [h.first, if_neg h.ab.ne]
  unfold Moe.second
  refine (fold_max_eq (a := b) fun e => ?_).trans hb
  rw [hb]
  by_cases ha : e = a
  · rw [ha, h.first, if_pos rfl]; exact bot_le
  · split
    · exact bot_le
    · by_cases he : e = b
      · rw [he]
      · exact (h.rest e ha he).le

/-- An exponential is not negative, -/
theorem exp_nonneg (x : EReal) : 0 ≤ Ideal.exp x := by
  induction x with
  | bot => exact le_rfl
  | top => exact le_top
  | coe r => exact EReal.coe_nonneg.2 (Real.exp_pos r).le

/-- so one more than it is not zero. -/
theorem one_add_exp_ne_zero (x : EReal) : 1 + Ideal.exp x ≠ 0 := by
  have h1 : (1 : EReal) ≤ 1 + Ideal.exp x := le_add_of_nonneg_right (exp_nonneg x)
  exact (lt_of_lt_of_le zero_lt_one h1).ne'

/-- The exponential of zero is one. -/
theorem exp_zero : Ideal.exp 0 = 1 := by
  show ((Real.exp 0 : ℝ) : EReal) = 1
  rw [Real.exp_zero]; rfl

/-- A real number less itself is zero. -/
theorem sub_self_coe (r : ℝ) : (r : EReal) - (r : EReal) = 0 := by rw [← EReal.coe_sub, sub_self]; rfl

/-- The weight of the first expert, -/
theorem Top.weight_first {g : Fin 8 → EReal} {a b : Fin 8} (h : Top g a b) (hf : ∃ r : ℝ, g a = r) :
    weight g a = Ideal.div 1 (1 + Ideal.exp (g b - g a)) := by
  obtain ⟨r, hr⟩ := hf
  unfold weight
  rw [h.first, h.second, if_pos h.ab.le, show g a - g a = 0 from by rw [hr]; exact sub_self_coe r, exp_zero]

/-- of the second, -/
theorem Top.weight_second {g : Fin 8 → EReal} {a b : Fin 8} (h : Top g a b) :
    weight g b = Ideal.div (Ideal.exp (g b - g a)) (1 + Ideal.exp (g b - g a)) := by
  unfold weight
  rw [h.first, h.second, if_pos le_rfl]

/-- and of any other. -/
theorem Top.weight_other {g : Fin 8 → EReal} {a b : Fin 8} (h : Top g a b) {e : Fin 8} (ha : e ≠ a) (hb : e ≠ b) : weight g e = 0 := by
  unfold weight
  rw [h.first, h.second, if_neg (not_le.2 (h.rest e ha hb))]
  exact Ideal.zero_div (one_add_exp_ne_zero _)

/-- The order in which a device holds the experts does not matter to the first maximum, -/
theorem first_comp (g : Fin 8 → EReal) (π : Equiv.Perm (Fin 8)) : first (g ∘ π) = first g := by
  unfold first
  refine le_antisymm ((Finset.fold_max_le _).2 ⟨bot_le, fun e _ => (Finset.le_fold_max _).2 (.inr ⟨π e, Finset.mem_univ _, le_rfl⟩)⟩)
    ((Finset.fold_max_le _).2 ⟨bot_le, fun e _ => (Finset.le_fold_max _).2 (.inr ⟨π.symm e, Finset.mem_univ _, ?_⟩)⟩)
  show g e ≤ g (π (π.symm e)); rw [Equiv.apply_symm_apply]

/-- nor to the second, -/
theorem second_comp (g : Fin 8 → EReal) (π : Equiv.Perm (Fin 8)) : second (g ∘ π) = second g := by
  unfold second
  rw [first_comp]
  exact first_comp (fun e => if g e = first g then ⊥ else g e) π

/-- hence nor to the weights. -/
theorem weight_comp (g : Fin 8 → EReal) (π : Equiv.Perm (Fin 8)) (e : Fin 8) : weight (g ∘ π) e = weight g (π e) := by
  unfold weight; rw [first_comp, second_comp]; rfl

/-- The kernel's sum over all the experts is the two-term sum. -/
theorem Top.sum {g : Fin 8 → EReal} {a b : Fin 8} (h : Top g a b) (y : Fin 8 → EReal) :
    ∑ e, y e * weight g e = y a * weight g a + y b * weight g b := by
  rw [← Finset.sum_pair (f := fun e => y e * weight g e) h.ne]
  refine (Finset.sum_subset (Finset.subset_univ _) fun e _ he => ?_).symm
  rw [Finset.mem_insert, Finset.mem_singleton, not_or] at he
  rw [h.weight_other he.1 he.2, mul_zero]

/-! ## Finite tokens -/

/-- A sum of real numbers is one, -/
theorem sum_coe {n : ℕ} {f : Fin n → EReal} (h : ∀ k, ∃ r : ℝ, f k = r) : ∃ r : ℝ, ∑ k, f k = r := by
  choose r hr using h
  refine ⟨∑ k, r k, ?_⟩
  rw [Finset.sum_congr rfl fun k _ => hr k]
  exact (map_sum (⟨⟨fun x : ℝ => (x : EReal), rfl⟩, EReal.coe_add⟩ : ℝ →+ EReal) r Finset.univ).symm

/-- and so is a gate of finite inputs. -/
theorem gate_coe {x r : Fin 1024 → EReal} (hx : ∀ k, ∃ a : ℝ, x k = a) (hr : ∀ k, ∃ a : ℝ, r k = a) : ∃ a : ℝ, gate x r = a := by
  refine sum_coe fun k => ?_
  obtain ⟨a, ha⟩ := hx k
  obtain ⟨b, hb⟩ := hr k
  exact ⟨a * b, by rw [ha, hb, EReal.coe_mul]⟩

/-- The kernel's three products of high and low parts are the gate: nothing is lost in the casts, so the low parts of
finite numbers are zero. -/
theorem gate_parts {x r : Fin 1024 → EReal} (hx : ∀ k, ∃ a : ℝ, x k = a) (hr : ∀ k, ∃ a : ℝ, r k = a) :
    (∑ k, x k * r k) + (∑ k, (x k - x k) * r k) + (∑ k, x k * (r k - r k)) = gate x r := by
  have h1 : ∑ k, (x k - x k) * r k = 0 := Finset.sum_eq_zero fun k _ => by
    obtain ⟨a, ha⟩ := hx k; rw [ha, sub_self_coe, zero_mul]
  have h2 : ∑ k, x k * (r k - r k) = 0 := Finset.sum_eq_zero fun k _ => by
    obtain ⟨a, ha⟩ := hr k; rw [ha, sub_self_coe, mul_zero]
  rw [h1, h2, add_zero, add_zero]; rfl

/-- A number whose absolute value is below infinity is finite. -/
theorem coe_of_abs_lt {a : EReal} (h : max a (-a) < ⊤) : ∃ r : ℝ, a = r := by
  induction a with
  | bot => exact absurd h (by simp)
  | top => exact absurd h (by simp)
  | coe r => exact ⟨r, rfl⟩

/-- The float word of infinity, -/
theorem ofBits_inf : Ideal.ofBits .f32 0x7F800000#32 = ⊤ := by simp [Ideal.ofBits, Ideal.ieee]
/-- and of minus infinity. -/
theorem ofBits_neg_inf : Ideal.ofBits .f32 0xFF800000#32 = ⊥ := by simp [Ideal.ofBits, Ideal.ieee]

/-- The softmax over the two gates, as the reference takes it, is the weights. -/
theorem Top.softmax_first {g : Fin 8 → EReal} {a b : Fin 8} (h : Top g a b) (hf : ∃ r : ℝ, g a = r) :
    Ideal.div (Ideal.exp (g a - g a)) (Ideal.exp (g a - g a) + Ideal.exp (g b - g a)) = weight g a := by
  rw [h.weight_first hf]
  obtain ⟨r, hr⟩ := hf
  rw [show g a - g a = 0 from by rw [hr]; exact sub_self_coe r, exp_zero]

/-- The same of the second gate. -/
theorem Top.softmax_second {g : Fin 8 → EReal} {a b : Fin 8} (h : Top g a b) (hf : ∃ r : ℝ, g a = r) :
    Ideal.div (Ideal.exp (g b - g a)) (Ideal.exp (g a - g a) + Ideal.exp (g b - g a)) = weight g b := by
  rw [h.weight_second]
  obtain ⟨r, hr⟩ := hf
  rw [show g a - g a = 0 from by rw [hr]; exact sub_self_coe r, exp_zero]

end Cert.Moe

end
-- ==== Proof.KerValue.lean ====
/-
What the kernel's vectors are at an index, over the extended reals.
-/
module

public import proofs.«01_k».proof.Proof.IPart2
public import proofs.«01_k».proof.Proof.Maths
public import Idealize.ShloMosaic.Lib.Pointwise

@[expose] public section

noncomputable section

namespace Cert.Moe

open Idealize.ShloMosaic Cert.KernelIdeal Cert.KernelIdeal.Gen
open scoped BigOperators

/-- A router column, the device's own four first and then its neighbour's. -/
def col (r r' : FVec Ideal ⟨2, ![1024, 4]⟩ .f32) (e : Fin 8) (k : Fin 1024) : EReal :=
  if h : e.val < 4 then r (ix2 k ⟨e.val, h⟩) else r' (ix2 k ⟨e.val - 4, by omega⟩)

/-- The gates: the three products of high and low parts. -/
theorem pay3_at (x : FVec Ideal ⟨2, ![512, 1024]⟩ .f32) (r r' : FVec Ideal ⟨2, ![1024, 4]⟩ .f32) (i : Fin 512) (e : Fin 8)
    (hx : ∀ k, ∃ a : ℝ, x (ix2 i k) = (a : EReal)) (hr : ∀ k, ∃ a : ℝ, col r r' e k = (a : EReal)) :
    k0_pay3 (F := Ideal) r r' (k0_pay2 (F := Ideal) x) x (ix2 i e) = gate (fun k => x (ix2 i k)) (col r r' e) := by
  refine Eq.trans ?_ (gate_parts hx hr)
  pointwise [k0_pay3, k0_pay2]
  rfl

/-- The first maximum of a token's gates, -/
theorem pay4_at (r r' : FVec Ideal ⟨2, ![1024, 4]⟩ .f32) (xs : FVec Ideal ⟨2, ![512, 1024]⟩ .bf16) (x : FVec Ideal ⟨2, ![512, 1024]⟩ .f32) (i : Fin 512) (g : Fin 8 → EReal)
    (hg : ∀ e, k0_pay3 (F := Ideal) r r' xs x (ix2 i e) = g e) :
    k0_pay4 (F := Ideal) r r' xs x (ix2 i 0) = first g := by
  pointwise [k0_pay4]
  rw [ofBits_neg_inf]
  exact congrArg (fun f => Finset.univ.fold max ⊥ f) (funext hg)

/-- the second, -/
theorem pay5_at (r r' : FVec Ideal ⟨2, ![1024, 4]⟩ .f32) (xs : FVec Ideal ⟨2, ![512, 1024]⟩ .bf16) (x : FVec Ideal ⟨2, ![512, 1024]⟩ .f32) (i : Fin 512) (g : Fin 8 → EReal)
    (hg : ∀ e, k0_pay3 (F := Ideal) r r' xs x (ix2 i e) = g e) :
    k0_pay5 (F := Ideal) r r' xs x (ix2 i 0) = second g := by
  pointwise [k0_pay5]
  rw [ofBits_neg_inf, pay4_at r r' xs x i g hg]
  exact congrArg (fun f => Finset.univ.fold max ⊥ f) (funext fun e => by rw [hg])

/-- and the weights of its experts. -/
theorem pay9_at (r r' : FVec Ideal ⟨2, ![1024, 4]⟩ .f32) (xs : FVec Ideal ⟨2, ![512, 1024]⟩ .bf16) (x : FVec Ideal ⟨2, ![512, 1024]⟩ .f32) (i : Fin 512) (g : Fin 8 → EReal)
    (hg : ∀ e, k0_pay3 (F := Ideal) r r' xs x (ix2 i e) = g e) (e : Fin 8) :
    k0_pay9 (F := Ideal) (k0_pay4 (F := Ideal) r r' xs x) (k0_pay5 (F := Ideal) r r' xs x) (k0_pay6 (F := Ideal) r r' xs x) (k0_pay7 (F := Ideal) r r' xs x) k0_pay8 (ix2 i e) = weight g e := by
  pointwise [k0_pay9, k0_pay6, k0_pay7, k0_pay8]
  rw [pay4_at r r' xs x i g hg, pay5_at r r' xs x i g hg, hg]
  rfl

section
variable (a a' : FVec Ideal ⟨2, ![1024, 2048]⟩ .bf16) (b b' : FVec Ideal ⟨2, ![2048, 1024]⟩ .bf16)
  (x : FVec Ideal ⟨2, ![128, 1024]⟩ .bf16) (i : Fin 128) (d : Fin 1024)

/-- What two experts give of a tile of the device's own tokens, -/
theorem pay18_at (w : FVec Ideal ⟨2, ![128, 2]⟩ .f32) :
    k0_pay18 (F := Ideal) a b a' b' x w (ix2 i d)
      = ffn (fun k => x (ix2 i k)) (fun k f => a (ix2 k f)) (fun f => b (ix2 f d)) * w (ix2 i 0)
        + ffn (fun k => x (ix2 i k)) (fun k f => a' (ix2 k f)) (fun f => b' (ix2 f d)) * w (ix2 i 1) := by
  pointwise [k0_pay18]
  rfl

/-- and of a tile of its neighbour's. -/
theorem pay16_at (c : Dev nD) (w : FVec Ideal ⟨2, ![128, 4]⟩ .f32) :
    k0_pay16 (F := Ideal) (MoeKernelIdeal.v2 c) a b a' b' x w (ix2 i d)
      = ffn (fun k => x (ix2 i k)) (fun k f => a (ix2 k f)) (fun f => b (ix2 f d)) * w (ix2 i ⟨2 * px c, by have := px_le c; omega⟩)
        + ffn (fun k => x (ix2 i k)) (fun k f => a' (ix2 k f)) (fun f => b' (ix2 f d)) * w (ix2 i ⟨2 * px c + 1, by have := px_le c; omega⟩) := by
  rcases px_cases c with h | h
  · rw [MoeKernelIdeal.v2_eq0 c h]
    simp only [h]
    pointwise [k0_pay16]
    rfl
  · rw [MoeKernelIdeal.v2_eq1 c h]
    simp only [h]
    pointwise [k0_pay16]
    rfl

end

section
variable (u v : FVec Ideal ⟨2, ![512, 1]⟩ .f32) (s : IVec ⟨2, ![512, 8]⟩ 1) (p q : FVec Ideal ⟨2, ![512, 8]⟩ .f32) (i : Fin 512)

/-- The weights of the neighbour's four experts, -/
theorem pay10_at (j : Fin 4) :
    k0_pay10 (F := Ideal) u v s p q (ix2 i j) = k0_pay9 (F := Ideal) u v s p q (ix2 i ⟨4 + j.val, by omega⟩) := by
  pointwise [k0_pay10]

/-- and of the device's own two that it uses. -/
theorem pay11_at (c : Dev nD) (j : Fin 2) :
    k0_pay11 (F := Ideal) (MoeKernelIdeal.v2 c) u v s p q (ix2 i j)
      = k0_pay9 (F := Ideal) u v s p q (ix2 i ⟨2 * px c + j.val, by have := px_le c; omega⟩) := by
  rcases px_cases c with h | h
  · rw [MoeKernelIdeal.v2_eq0 c h]
    simp only [h]
    pointwise [k0_pay11]
  · rw [MoeKernelIdeal.v2_eq1 c h]
    simp only [h]
    pointwise [k0_pay11]
    rfl
end

/-- Casts of a first matrix, -/
theorem pay12_at (w : FVec Ideal ⟨3, ![1, 1024, 2048]⟩ .f32) (k : Fin 1024) (f : Fin 2048) : k0_pay12 (F := Ideal) w (ix2 k f) = w (ix3 0 k f) := by
  pointwise [k0_pay12]
/-- of a second one, -/
theorem pay13_at (w : FVec Ideal ⟨3, ![1, 2048, 1024]⟩ .f32) (k : Fin 2048) (f : Fin 1024) : k0_pay13 (F := Ideal) w (ix2 k f) = w (ix3 0 k f) := by
  pointwise [k0_pay13]
/-- and the sums of a part with one received: the one that is kept, -/
theorem pay21_at (u : FVec Ideal ⟨2, ![128, 1024]⟩ .f32) (v : FVec Ideal ⟨2, ![128, 1024]⟩ .bf16) (i : Fin 128) (d : Fin 1024) :
    k0_pay21 (F := Ideal) u v (ix2 i d) = (u (ix2 i d) + v (ix2 i d) : EReal) := by
  pointwise [k0_pay21]
/-- the one that is sent, -/
theorem pay22_at (u : FVec Ideal ⟨2, ![128, 1024]⟩ .f32) (v : FVec Ideal ⟨2, ![128, 1024]⟩ .bf16) (i : Fin 128) (d : Fin 1024) :
    k0_pay22 (F := Ideal) u v (ix2 i d) = (u (ix2 i d) + v (ix2 i d) : EReal) := by
  pointwise [k0_pay22, k0_pay21]
/-- and that of the two exchanged sums. -/
theorem pay31_at (u : FVec Ideal ⟨2, ![128, 1024]⟩ .f32) (v : FVec Ideal ⟨2, ![128, 1024]⟩ .bf16) (i : Fin 128) (d : Fin 1024) :
    k0_pay31 (F := Ideal) u v (ix2 i d) = (u (ix2 i d) + v (ix2 i d) : EReal) := by
  pointwise [k0_pay31]

/-! ## Tiles and stacks -/

/-- A tile at an index, -/
theorem tile_at {w : ℕ} {α : Type} (k : ℕ) (g : (⟨2, ![512, w]⟩ : Shape).Idx → α) (i : Fin 128) (l : Fin w) :
    tile k g (ix2 i l) = g (ix2 ⟨(128 * k + i.val) % 512, Nat.mod_lt _ (by decide)⟩ l) := by
  rw [ix2_eq_valueIdx, ix2_eq_valueIdx]; rfl
/-- tiles pasted, at an index, -/
theorem paste_at {w : ℕ} {α : Type} (W : ℕ → (⟨2, ![128, w]⟩ : Shape).Idx → α) (t : Fin 512) (l : Fin w) :
    paste W (ix2 t l) = W (t.val / 128) (ix2 ⟨t.val % 128, Nat.mod_lt _ (by decide)⟩ l) := by
  rw [ix2_eq_valueIdx, ix2_eq_valueIdx]; rfl
/-- and one matrix of a stack. -/
theorem slab_at {n a b : ℕ} [NeZero n] {α : Type} (k : ℕ) (g : (⟨3, ![n, a, b]⟩ : Shape).Idx → α) (i : Fin a) (l : Fin b) :
    slab k g (ix3 0 i l) = g (ix3 ⟨k % n, Nat.mod_lt _ (Nat.pos_of_neZero n)⟩ i l) := by
  rw [ix3_eq_valueIdx, ix3_eq_valueIdx]; rfl

/-! ## A device's contents -/

section
open MoeKernelIdeal
variable (m : (ℓ : Loc nD τ sig) → Buf (Elt Ideal) ℓ) (c : Dev nD)

/-- A device's own tokens; -/
def lx (t : Fin 512) (k : Fin 1024) : EReal := xstg m c (ix2 t k)
/-- the eight columns of the router, -/
def lr (e : Fin 8) (k : Fin 1024) : EReal := col (rstg m c) (rstg m (ynb c)) e k
/-- and the eight experts' matrices: the device's own four first and then its neighbour's. -/
def lw1 (e : Fin 8) (k : Fin 1024) (f : Fin 2048) : EReal :=
  if h : e.val < 4 then w1V m c (ix3 ⟨e.val, h⟩ k f) else w1V m (ynb c) (ix3 ⟨e.val - 4, by omega⟩ k f)
/-- The experts' second matrices, in the same order. -/
def lw2 (e : Fin 8) (f : Fin 2048) (d : Fin 1024) : EReal :=
  if h : e.val < 4 then w2V m c (ix3 ⟨e.val, h⟩ f d) else w2V m (ynb c) (ix3 ⟨e.val - 4, by omega⟩ f d)
/-- The gates of a device's token. -/
def lgates (t : Fin 512) (e : Fin 8) : EReal := gate (lx m c t) (lr m c e)
/-- One expert's part of the result. -/
def part (t : Fin 512) (d : Fin 1024) (e : Fin 8) : EReal :=
  ffn (lx m c t) (lw1 m c e) (fun f => lw2 m c e f d) * weight (lgates m c t) e

/-- The token and the router are finite. -/
def Finite (t : Fin 512) : Prop := (∀ k, ∃ a : ℝ, lx m c t k = a) ∧ ∀ e k, ∃ a : ℝ, lr m c e k = a

/-- The matrices of the two experts that a device uses, -/
theorem E1_own (j : ℕ) (hj : j < 2) (k : Fin 1024) (f : Fin 2048) :
    E1 m c j (ix2 k f) = lw1 m c ⟨2 * px c + j, by have := px_le c; omega⟩ k f := by
  have hp := px_le c
  unfold E1 W1P lw1
  rw [pay12_at, slab_pair _ hj, slab_at, dif_pos (show 2 * px c + j < 4 by omega)]
  exact congrArg (fun e => w1V m c (ix3 e k f)) (Fin.ext (Nat.mod_eq_of_lt (by omega)))
/-- the second ones, -/
theorem E2_own (j : ℕ) (hj : j < 2) (f : Fin 2048) (d : Fin 1024) :
    E2 m c j (ix2 f d) = lw2 m c ⟨2 * px c + j, by have := px_le c; omega⟩ f d := by
  have hp := px_le c
  unfold E2 W2P lw2
  rw [pay13_at, slab_pair _ hj, slab_at, dif_pos (show 2 * px c + j < 4 by omega)]
  exact congrArg (fun e => w2V m c (ix3 e f d)) (Fin.ext (Nat.mod_eq_of_lt (by omega)))
/-- and those of the two that its neighbour uses, -/
theorem E1_other (j : ℕ) (hj : j < 2) (k : Fin 1024) (f : Fin 2048) :
    E1 m (ynb c) j (ix2 k f) = lw1 m c ⟨4 + (2 * px c + j), by have := px_le c; omega⟩ k f := by
  have hp := px_le c
  unfold E1 W1P lw1
  rw [pay12_at, slab_pair _ hj, slab_at, dif_neg (show ¬ 4 + (2 * px c + j) < 4 by omega)]
  exact congrArg (fun e => w1V m (ynb c) (ix3 e k f)) (Fin.ext (by
    show (2 * px (ynb c) + j) % 4 = 4 + (2 * px c + j) - 4
    rw [px_ynb, Nat.add_sub_cancel_left, Nat.mod_eq_of_lt (by omega)]))
/-- the second ones. -/
theorem E2_other (j : ℕ) (hj : j < 2) (f : Fin 2048) (d : Fin 1024) :
    E2 m (ynb c) j (ix2 f d) = lw2 m c ⟨4 + (2 * px c + j), by have := px_le c; omega⟩ f d := by
  have hp := px_le c
  unfold E2 W2P lw2
  rw [pay13_at, slab_pair _ hj, slab_at, dif_neg (show ¬ 4 + (2 * px c + j) < 4 by omega)]
  exact congrArg (fun e => w2V m (ynb c) (ix3 e f d)) (Fin.ext (by
    show (2 * px (ynb c) + j) % 4 = 4 + (2 * px c + j) - 4
    rw [px_ynb, Nat.add_sub_cancel_left, Nat.mod_eq_of_lt (by omega)]))

/-- Rounding does nothing over the extended reals. -/
theorem XS_at (t : Fin 512) (k : Fin 1024) : XS m c (ix2 t k) = lx m c t k := by
  unfold XS lx; pointwise [k0_pay2]

/-- The device's weights, -/
theorem WA_at (t : Fin 512) (hf : Finite m c t) (j : Fin 2) :
    WA m c (ix2 t j) = weight (lgates m c t) ⟨2 * px c + j.val, by have := px_le c; omega⟩ := by
  unfold WA
  rw [pay11_at]
  exact pay9_at _ _ _ _ t _ (fun e => pay3_at _ _ _ t e hf.1 (hf.2 e)) _
/-- and those that it sends. -/
theorem WS_at (t : Fin 512) (hf : Finite m c t) (j : Fin 4) :
    WS m c (ix2 t j) = weight (lgates m c t) ⟨4 + j.val, by omega⟩ := by
  unfold WS
  rw [pay10_at]
  exact pay9_at _ _ _ _ t _ (fun e => pay3_at _ _ _ t e hf.1 (hf.2 e)) _

/-- The row of a tile. -/
abbrev row (k : ℕ) (i : Fin 128) : Fin 512 := ⟨(128 * k + i.val) % 512, Nat.mod_lt _ (by decide)⟩

/-- What a device computes of its own tokens: two experts' parts. -/
theorem OWN_at (k : ℕ) (i : Fin 128) (d : Fin 1024) (hf : Finite m c (row k i)) :
    OWN m c k (ix2 i d) = part m c (row k i) d ⟨2 * px c + 0, by have := px_le c; omega⟩
      + part m c (row k i) d ⟨2 * px c + 1, by have := px_le c; omega⟩ := by
  unfold OWN
  rw [pay18_at]
  simp only [tile_at, XS_at, WA_at m c _ hf, E1_own m c 0 (by decide), E1_own m c 1 (by decide), E2_own m c 0 (by decide), E2_own m c 1 (by decide)]
  rfl

/-- What a device's neighbour computes of the device's tokens: two experts' parts. -/
theorem PS_at (hX : ∀ c t k, lx m (xnb c) t k = lx m c t k) (t : Fin 512) (d : Fin 1024) (hf : Finite m c t) :
    PS m (ynb c) (ix2 t d) = part m c t d ⟨4 + (2 * px c + 0), by have := px_le c; omega⟩
      + part m c t d ⟨4 + (2 * px c + 1), by have := px_le c; omega⟩ := by
  have hXR : ∀ t k, XR m (ynb c) (ix2 t k) = lx m c t k := by
    intro t k
    show (if _ then XS m (ynb (ynb c)) (ix2 t k) else XS m (ynb (xnb (ynb c))) (ix2 t k)) = _
    rw [ynb_ynb, xnb_ynb, ynb_ynb, XS_at, XS_at, hX]
    exact ite_self _
  have ht : row (t.val / 128) ⟨t.val % 128, Nat.mod_lt _ (by decide)⟩ = t :=
    Fin.ext (by show (128 * (t.val / 128) + t.val % 128) % 512 = t.val; omega)
  unfold PS
  rw [paste_at, pay16_at, ynb_ynb]
  simp only [tile_at, hXR, ht, WS_at m c _ hf, E1_other m c 0 (by decide), E1_other m c 1 (by decide), E2_other m c 0 (by decide), E2_other m c 1 (by decide), px_ynb]
  rfl

/-- The two sums of four experts. -/
theorem SUM_at (hX : ∀ c t k, lx m (xnb c) t k = lx m c t k) (k : ℕ) (i : Fin 128) (d : Fin 1024) (hf : Finite m c (row k i)) :
    SUM m c k (ix2 i d) = (part m c (row k i) d ⟨2 * px c + 0, by have := px_le c; omega⟩
      + part m c (row k i) d ⟨2 * px c + 1, by have := px_le c; omega⟩)
      + (part m c (row k i) d ⟨4 + (2 * px c + 0), by have := px_le c; omega⟩
      + part m c (row k i) d ⟨4 + (2 * px c + 1), by have := px_le c; omega⟩) := by
  unfold SUM
  rw [pay21_at, tile_at, OWN_at m c k i d hf, PS_at m c hX _ d hf]

/-- The result is the sum over all eight experts of their parts. -/
theorem OUT_at (hX : ∀ c t k, lx m (xnb c) t k = lx m c t k) (hP : ∀ t d e, part m (xnb c) t d e = part m c t d e)
    (t : Fin 512) (d : Fin 1024) (hf : Finite m c t) (hf' : Finite m (xnb c) t) :
    OUT m c (ix2 t d) = ∑ e : Fin 8, part m c t d e := by
  have ht : row (t.val / 128) ⟨t.val % 128, Nat.mod_lt _ (by decide)⟩ = t :=
    Fin.ext (by show (128 * (t.val / 128) + t.val % 128) % 512 = t.val; omega)
  have hS : SS m (xnb c) (ix2 t d) = SUM m (xnb c) (t.val / 128) (ix2 ⟨t.val % 128, Nat.mod_lt _ (by decide)⟩ d) := by
    unfold SS SUM
    rw [paste_at, pay22_at, pay21_at]
  unfold OUT
  rw [paste_at, pay31_at, tile_at]
  simp only [ht]
  rw [hS, SUM_at m c hX _ _ d (by rw [ht]; exact hf), SUM_at m (xnb c) hX _ _ d (by rw [ht]; exact hf')]
  simp only [ht, hP]
  rw [Fin.sum_univ_eight]
  rcases px_cases c with h | h
  · simp only [px_xnb, h]
    show ((part m c t d 0 + part m c t d 1) + (part m c t d 4 + part m c t d 5)) + ((part m c t d 2 + part m c t d 3) + (part m c t d 6 + part m c t d 7)) = _
    abel
  · simp only [px_xnb, h]
    show ((part m c t d 2 + part m c t d 3) + (part m c t d 6 + part m c t d 7)) + ((part m c t d 0 + part m c t d 1) + (part m c t d 4 + part m c t d 5)) = _
    abel
end

end Cert.Moe

end
-- ==== Proof.Ranks.lean ====
/-
The host's top-k of a token's eight gates, read off: a reordering of the experts by decreasing gate, of which the first
`n` are taken. Where the first three gates are strictly decreasing, the first two experts are the `Top` of the gates.
-/
module

public import proofs.«01_k».proof.Proof.Maths
public import Idealize.ShloMosaic.Lib.Pointwise
public import Idealize.ShloMosaic.Lib.SortFacts

@[expose] public section

noncomputable section

namespace Cert.Moe

open Idealize.ShloMosaic
open scoped BigOperators

/-- The experts by decreasing gate. -/
def ranked (g : Fin 8 → EReal) : Fin 8 → Fin 8 :=
  sortedFrom fun k k' => FloatOps.cmpfTotal (F := Ideal) (φ := .f32) .gt (g k) (g k') == 1#1

/-- The comparison of the sort, over the extended reals. -/
theorem before_iff (a b : EReal) : (FloatOps.cmpfTotal (F := Ideal) (φ := .f32) .gt a b == 1#1) = decide (b < a) := by
  show (BitVec.ofBool (decide (b < a)) == 1#1) = decide (b < a)
  cases decide (b < a) <;> rfl

/-- The ranking goes down. -/
theorem ranked_le (g : Fin 8 → EReal) {i j : Fin 8} (hij : i < j) : g (ranked g j) ≤ g (ranked g i) := by
  have hR : (fun k k' => FloatOps.cmpfTotal (F := Ideal) (φ := .f32) .gt (g k) (g k') == 1#1) = fun k k' => decide (g k' < g k) :=
    funext fun k => funext fun k' => before_iff _ _
  have h := sortedFrom_noInversion (fun k k' => decide (g k' < g k)) (fun k k' => decide (g k' < g k))
    (fun a b hab => decide_eq_false (not_lt.2 (of_decide_eq_true hab).le)) (fun _ _ h => h)
    (fun a b c hab hbc => decide_eq_false (not_lt.2 ((not_lt.1 (of_decide_eq_false hab)).trans (not_lt.1 (of_decide_eq_false hbc))))) i j hij
  unfold ranked
  rw [hR]
  exact not_lt.1 (of_decide_eq_false h)

/-- Every expert has a rank. -/
theorem ranked_surjective (g : Fin 8 → EReal) : Function.Surjective (ranked g) := sortedFrom_surjective _

/-- Strictly decreasing at the head: the first two are the top. -/
theorem top_of_ranked {g : Fin 8 → EReal} (h1 : g (ranked g 1) < g (ranked g 0)) (h2 : g (ranked g 2) < g (ranked g 1)) :
    Top g (ranked g 0) (ranked g 1) := by
  refine ⟨h1, fun e ha hb => ?_⟩
  obtain ⟨j, rfl⟩ := ranked_surjective g e
  have hj : 2 ≤ j := by
    clear h1 h2
    have h0 : j ≠ 0 := fun e => ha (by rw [e])
    have h1 : j ≠ 1 := fun e => hb (by rw [e])
    clear ha hb
    revert h0 h1; revert j; decide
  rcases hj.lt_or_eq with h | h
  · exact (ranked_le g h).trans_lt h2
  · rw [← h]; exact h2

section
variable {n : ℕ} (x : FVec Ideal ⟨2, ![1024, 8]⟩ .f32) (h : (⟨2, ![1024, 8]⟩ : Shape).Slices (fun _ => 0) ⟨2, ![1024, n]⟩)
  (t : Fin 1024) (j : Fin n) (hj : j.val < 8)

/-- An index moved along the experts. -/
theorem along_eq (k : Fin 8) (l : Fin 8) : Shape.Idx.along (s := ⟨2, ![1024, 8]⟩) (ix2 t l) (1 : Fin 2) k = ix2 t k := by
  funext a
  match a with
  | ⟨0, _⟩ => rfl
  | ⟨1, _⟩ => rfl

/-- The sort of the gates with their numbers, at an index. -/
theorem sort2_at {β : Type} (idx : (⟨2, ![1024, 8]⟩ : Shape).Idx → β) (l : Fin 8) :
    (Host.sort2 ⟨2, ![1024, 8]⟩ 1 (fun l r => FloatOps.cmpfTotal (F := Ideal) (φ := .f32) .gt l.1 r.1) x idx).1 (ix2 t l)
        = x (ix2 t (ranked (fun e => x (ix2 t e)) l))
      ∧ (Host.sort2 ⟨2, ![1024, 8]⟩ 1 (fun l r => FloatOps.cmpfTotal (F := Ideal) (φ := .f32) .gt l.1 r.1) x idx).2 (ix2 t l)
        = idx (ix2 t (ranked (fun e => x (ix2 t e)) l)) := by
  have e : sortedFrom (fun k k' : Fin 8 => FloatOps.cmpfTotal (F := Ideal) (φ := .f32) .gt
      (x (Shape.Idx.along (s := ⟨2, ![1024, 8]⟩) (ix2 t l) (1 : Fin 2) k)) (x (Shape.Idx.along (s := ⟨2, ![1024, 8]⟩) (ix2 t l) (1 : Fin 2) k')) == 1#1) l
      = ranked (fun e => x (ix2 t e)) l := by
    unfold ranked; simp only [along_eq]
  constructor
  · show x (Shape.Idx.along (s := ⟨2, ![1024, 8]⟩) (ix2 t l) (1 : Fin 2) (sortedFrom _ l)) = _
    exact (congrArg x (along_eq t _ l)).trans (congrArg (fun k => x (ix2 t k)) e)
  · show idx (Shape.Idx.along (s := ⟨2, ![1024, 8]⟩) (ix2 t l) (1 : Fin 2) (sortedFrom _ l)) = _
    exact (congrArg idx (along_eq t _ l)).trans (congrArg (fun k => idx (ix2 t k)) e)

/-- The first columns of a sorted array. -/
theorem slice_at {β : Type} (v : (⟨2, ![1024, 8]⟩ : Shape).Idx → β) :
    extractStridedSlice (s := ⟨2, ![1024, 8]⟩) ⟨2, ![1024, n]⟩ (fun _ => 0) v h (ix2 t j) = v (ix2 t ⟨j.val, hj⟩) := by
  unfold extractStridedSlice
  refine congrArg v (funext fun a => ?_)
  match a with
  | ⟨0, _⟩ => exact Fin.ext (Nat.zero_add _)
  | ⟨1, _⟩ => exact Fin.ext (Nat.zero_add _)

/-- The `j`-th value of the top-k is the gate of the `j`-th expert, -/
theorem topK_val : (Host.topK ⟨2, ![1024, n]⟩ 1 (FloatOps.cmpfTotal (F := Ideal) (φ := .f32) .gt) x h).1 (ix2 t j)
    = x (ix2 t (ranked (fun e => x (ix2 t e)) ⟨j.val, hj⟩)) :=
  (slice_at h t j hj _).trans (sort2_at x t (fun i => iotaInDim ⟨2, ![1024, 8]⟩ 32 1 i) _).1
/-- and the `j`-th index the expert. -/
theorem topK_idx : (Host.topK ⟨2, ![1024, n]⟩ 1 (FloatOps.cmpfTotal (F := Ideal) (φ := .f32) .gt) x h).2 (ix2 t j)
    = BitVec.ofNat 32 (ranked (fun e => x (ix2 t e)) ⟨j.val, hj⟩).val :=
  (slice_at h t j hj _).trans ((sort2_at x t (fun i => iotaInDim ⟨2, ![1024, 8]⟩ 32 1 i) _).2.trans rfl)
end

end Cert.Moe

end
-- ==== Proof.Mask.lean ====
/-
What it says of a token that the claim speaks of its row.
-/
module

public import proofs.«01_k».proof.On_separated
public import proofs.«01_k».proof.Proof.Ranks
public import Idealize.ShloMosaic.Lib.ReduceAll

@[expose] public section

noncomputable section

namespace Cert.Moe

open Idealize.ShloMosaic
open scoped BigOperators

variable [On_separated.Facts] (x : FVec Ideal ⟨2, ![1024, 1024]⟩ .f32) (r : FVec Ideal ⟨2, ![1024, 8]⟩ .f32)
  (w1 : FVec Ideal ⟨3, ![8, 1024, 2048]⟩ .f32) (w2 : FVec Ideal ⟨3, ![8, 2048, 1024]⟩ .f32)

/-- A conjunction of bits is set only if every bit is, -/
theorem of_fold_andi {ι : Type} [Fintype ι] {f : ι → BitVec 1} (h : Finset.univ.fold IntOp.andi (1#1) f = 1#1) (i : ι) : f i = 1#1 :=
  ((Finset.fold_op_rel_iff_and (op := IntOp.andi) (r := fun _ y : BitVec 1 => y = 1#1) (c := 1#1) IntOp.andi_eq_one).1 h).2 i (Finset.mem_univ i)

/-- and a comparison's bit only if it holds. -/
theorem of_ofBool {p : Prop} [Decidable p] (h : BitVec.ofBool (decide p) = 1#1) : p := by
  by_cases hp : p
  · exact hp
  · rw [decide_eq_false hp] at h; exact absurd h (by decide)

/-- The eight gates of a token. -/
def gates (x : FVec Ideal ⟨2, ![1024, 1024]⟩ .f32) (r : FVec Ideal ⟨2, ![1024, 8]⟩ .f32) (t : Fin 1024) (e : Fin 8) : EReal :=
  gate (fun k => x (ix2 t k)) (fun k => r (ix2 k e))

/-- Where the mask is set, the two largest gates are untied, and the token and the router finite. -/
theorem mask_parts (t d : Fin 1024) (h : On_separated.fn (F := Ideal) x r w1 w2 (ix2 t d) = 1#1) :
    Top (gates x r t) (ranked (gates x r t) 0) (ranked (gates x r t) 1)
      ∧ (∀ k, ∃ a : ℝ, x (ix2 t k) = (a : EReal)) ∧ ∀ k e, ∃ a : ℝ, r (ix2 k e) = (a : EReal) := by
  unfold On_separated.fn On_separated.fn_part1 at h
  pointwise at h
  have hg : (fun e => (Ideal.matmul On_separated.dot_S1024x1024_S1024x8_S1024x8_1_0_0_1_n_n x r fun _ => 0) (ix2 t e)) = gates x r t := by
    funext e; unfold gates gate; pointwise
  obtain ⟨h1, h2⟩ := IntOp.andi_eq_one.1 h
  obtain ⟨ha, hb⟩ := IntOp.andi_eq_one.1 h1
  obtain ⟨hx, hr⟩ := IntOp.andi_eq_one.1 h2
  have ha := of_ofBool ha
  have hb := of_ofBool hb
  have hx := fun k => of_ofBool (of_fold_andi hx k)
  have hr := fun k e => of_ofBool (of_fold_andi hr (k, e))
  rw [topK_val _ _ t 0 (by decide), topK_val _ _ t 1 (by decide), hg] at ha
  rw [topK_val _ _ t 1 (by decide), topK_val _ _ t 2 (by decide), hg] at hb
  have e := fun k => congrFun hg k
  rw [e, e] at ha hb
  simp only [ofBits_inf] at hx hr
  exact ⟨top_of_ranked ha hb, fun k => coe_of_abs_lt (hx k), fun k e => coe_of_abs_lt (hr k e)⟩

end Cert.Moe

end
-- ==== Proof.RefValue.lean ====
/-
The reference's result at an index.
-/
module

public import proofs.«01_k».proof.Proof.Gen.ReferenceIdeal.Run
public import proofs.«01_k».proof.Proof.Mask

@[expose] public section

noncomputable section

namespace Cert.Moe

open Idealize.ShloMosaic
open scoped BigOperators

variable [ReferenceIdeal.Facts]
open ReferenceIdeal ReferenceIdeal.Value

/-- The sum over the experts of what is chosen by comparing with one expert is that expert's. -/
theorem sum_pick (a : Fin 8) (f : Fin 8 → EReal) :
    ∑ e : Fin 8, Scalar.select (IntOp.cmpi .eq (BitVec.ofNat 32 a.val) (BitVec.ofNat 32 e.val)) (f e) (0 : EReal) = f a := by
  have h : ∀ e : Fin 8, Scalar.select (IntOp.cmpi .eq (BitVec.ofNat 32 a.val) (BitVec.ofNat 32 e.val)) (f e) (0 : EReal) = if e = a then f e else 0 := by
    intro e
    have : IntOp.cmpi .eq (BitVec.ofNat 32 a.val) (BitVec.ofNat 32 e.val) = if e = a then 1#1 else 0#1 := by
      revert a e; decide
    rw [this]; split <;> rfl
  rw [Finset.sum_congr rfl fun e _ => h e, Finset.sum_ite_eq' Finset.univ a f, if_pos (Finset.mem_univ a)]

/-- The maximum of two numbers in order is the first. -/
theorem fold_two (f : Fin 2 → EReal) (h : f 1 ≤ f 0) : Finset.univ.fold max ⊥ f = f 0 :=
  le_antisymm ((Finset.fold_max_le _).2 ⟨bot_le, fun e _ => by match e with | 0 => exact le_rfl | 1 => exact h⟩)
    ((Finset.le_fold_max _).2 (.inr ⟨0, Finset.mem_univ _, le_rfl⟩))

/-- The layer's result: the sum over all the experts of the expert's network of the token, weighted. -/
def layer (x : FVec Ideal ⟨2, ![1024, 1024]⟩ .f32) (r : FVec Ideal ⟨2, ![1024, 8]⟩ .f32)
    (w1 : FVec Ideal ⟨3, ![8, 1024, 2048]⟩ .f32) (w2 : FVec Ideal ⟨3, ![8, 2048, 1024]⟩ .f32) (t d : Fin 1024) : EReal :=
  ∑ e : Fin 8, ffn (fun k => x (ix2 t k)) (fun k f => w1 (ix3 e k f)) (fun f => w2 (ix3 e f d)) * weight (gates x r t) e

/-- The reference's result at an index, where its token's two largest gates are untied and finite. -/
theorem ref_value (m : (ℓ : Loc nD τ sig) → Buf (Elt Ideal) ℓ) (c : Dev nD)
    (x : FVec Ideal ⟨2, ![1024, 1024]⟩ .f32) (r : FVec Ideal ⟨2, ![1024, 8]⟩ .f32)
    (w1 : FVec Ideal ⟨3, ![8, 1024, 2048]⟩ .f32) (w2 : FVec Ideal ⟨3, ![8, 2048, 1024]⟩ .f32)
    (hx : m ((c.tc : Thread nD τ).loc main_arg0) = x) (hr : m ((c.tc : Thread nD τ).loc main_arg1) = r)
    (hw1 : m ((c.tc : Thread nD τ).loc main_arg2) = w1) (hw2 : m ((c.tc : Thread nD τ).loc main_arg3) = w2)
    (t d : Fin 1024) (hT : Top (gates x r t) (ranked (gates x r t) 0) (ranked (gates x r t) 1))
    (hf : ∃ a : ℝ, gates x r t (ranked (gates x r t) 0) = a) : (res_out0 m c : FVec Ideal ⟨2, ![1024, 1024]⟩ .f32) (ix2 t d) = layer x r w1 w2 t d := by
  unfold res_out0 res_main_v49
  rw [hx, hr, hw1, hw2]
  pointwise
  have hg : (fun e => (Ideal.matmul dot_S1024x1024_S1024x8_S1024x8_1_0_0_1_n_n x r fun _ => 0) (ix2 t e)) = gates x r t := by
    funext e; unfold gates gate; pointwise
  have hv : ∀ j : Fin 2, (Host.topK (α := Ideal .f32) (s := S1024x8) S1024x2 1 (FloatOps.cmpfTotal CmpDirection.gt)
      (Ideal.matmul dot_S1024x1024_S1024x8_S1024x8_1_0_0_1_n_n x r fun _ => 0) Gen.sliceFits_S1024x8_S1024x2).1 (ix2 t j)
        = gates x r t (ranked (gates x r t) ⟨j.val, j.isLt.trans (by decide)⟩) := by
    intro j
    rw [topK_val _ _ t j (j.isLt.trans (by decide)), hg]
    exact congrFun hg _
  have hi : ∀ j : Fin 2, (Host.topK (α := Ideal .f32) (s := S1024x8) S1024x2 1 (FloatOps.cmpfTotal CmpDirection.gt)
      (Ideal.matmul dot_S1024x1024_S1024x8_S1024x8_1_0_0_1_n_n x r fun _ => 0) Gen.sliceFits_S1024x8_S1024x2).2 (ix2 t j)
        = BitVec.ofNat 32 (ranked (gates x r t) ⟨j.val, j.isLt.trans (by decide)⟩).val := by
    intro j
    rw [topK_idx _ _ t j (j.isLt.trans (by decide)), hg]
  have hz : (id (constant (F := Ideal) S_ FTy.f32 0#32) ix0 : EReal) = 0 := Ideal.ofBits_zero_f32
  simp only [hv, hi, hz, ofBits_neg_inf, sum_pick, Fin.sum_univ_two]
  rw [fold_two _ hT.ab.le]
  have hy : ∀ e : Fin 8, (∑ f : Fin 2048, max (∑ k : Fin 1024, w1 (ix3 e k f) * x (ix2 t k)) 0 * w2 (ix3 e f d) : EReal)
      = ffn (fun k => x (ix2 t k)) (fun k f => w1 (ix3 e k f)) (fun f => w2 (ix3 e f d)) := fun e =>
    Finset.sum_congr rfl fun f _ => congrArg (fun s => max s 0 * w2 (ix3 e f d)) (Finset.sum_congr rfl fun k _ => mul_comm _ _)
  refine Eq.trans ?_ (hT.sum fun e => ffn (fun k => x (ix2 t k)) (fun k f => w1 (ix3 e k f)) (fun f => w2 (ix3 e f d))).symm
  exact congrArg₂ (· + ·) (congrArg₂ (· * ·) (hy _) (hT.softmax_first hf)) (congrArg₂ (· * ·) (hy _) (hT.softmax_second hf))

end Cert.Moe

end
-- ==== Proof.Blocks.lean ====
/-
The kernel's result on a device is a block of the layer's result: the arguments that the devices hold, read back as
blocks of the whole arrays.
-/
module

public import proofs.«01_k».proof.Proof.KerValue
public import proofs.«01_k».proof.Proof.RefValue
public import proofs.«01_k».proof.Proof.ILaunch
public import Idealize.ShloMosaic.Lib.Pipeline.ValueKit

@[expose] public section

noncomputable section

namespace Cert.Moe

open Idealize.ShloMosaic Cert.KernelIdeal Cert.KernelIdeal.Gen Cert.MoeKernelIdeal
open scoped BigOperators

/-! ## Staged blocks are whole arrays -/

/-- An offset of no blocks. -/
theorem zero_block (n k : ℕ) : 0 * n + k = k := by omega

section
variable (m : (ℓ : Loc nD τ sig) → Buf (Elt Ideal) ℓ) (c : Dev nD)

/-- The block of the tokens that is staged is the whole argument, -/
theorem xstg_whole : xstg m c = (m ((c.tc : Thread nD τ).loc main_arg0) : Vec Ideal S512x1024 .f32) := by
  funext i
  unfold xstg
  blk_simp
  refine congrArg (m _) (funext fun b => Fin.ext ?_)
  match b with
  | ⟨0, _⟩ => blk_simp; exact zero_block _ _
  | ⟨1, _⟩ => blk_simp; exact zero_block _ _

/-- and so is that of the router columns. -/
theorem rstg_whole : rstg m c = (m ((c.tc : Thread nD τ).loc main_arg1) : Vec Ideal S1024x4 .f32) := by
  funext i
  unfold rstg
  blk_simp
  refine congrArg (m _) (funext fun b => Fin.ext ?_)
  match b with
  | ⟨0, _⟩ => blk_simp; exact zero_block _ _
  | ⟨1, _⟩ => blk_simp; exact zero_block _ _

/-- The result's array holds `OUT` at the end. -/
theorem finalA_2 : finalA m c (2 : Fin 3) = OUT m c := by
  unfold finalA
  refine (dats m 0 c).arrAt_eq_of_after_last (2 : Fin 3) t₀ (by decide +kernel) (OUT m c) fun j => ?_
  blk_simp
  rfl
end

/-! ## Blocks of the whole arrays -/

/-- A device's place along y, -/
theorem meshLin_y (c : Dev nD) : Layout.meshLin [2, 2] c.val [1] = c.val % 2 := by revert c; decide
/-- and along no axis. -/
theorem meshLin_none (c : Dev nD) : Layout.meshLin [2, 2] c.val [] = 0 := by revert c; decide

/-- A device's block of the tokens or of the result, at an index, -/
theorem rows_at {α : Type} (c : Dev nD) (v : (⟨2, ![1024, 1024]⟩ : Shape).Idx → α) (t : Fin 512) (k : Fin 1024) :
    (Layout.blockN ⟨2, ![512, 1024]⟩ ⟨2, ![1024, 1024]⟩ (Layout.meshBlock [2, 2] ![[1], []] c) v : (⟨2, ![512, 1024]⟩ : Shape).Idx → α) (ix2 t k)
      = v (ix2 ⟨c.val % 2 * 512 + t.val, by omega⟩ k) := by
  refine congrArg v (funext fun b => Fin.ext ?_)
  match b with
  | ⟨0, _⟩ => exact congrArg (fun n => n * 512 + t.val) (meshLin_y c)
  | ⟨1, _⟩ => exact (congrArg (fun n => n * 1024 + k.val) (meshLin_none c)).trans (zero_block 1024 k.val)

/-- of the router, -/
theorem cols_at {α : Type} (c : Dev nD) (v : (⟨2, ![1024, 8]⟩ : Shape).Idx → α) (k : Fin 1024) (j : Fin 4) :
    (Layout.blockN ⟨2, ![1024, 4]⟩ ⟨2, ![1024, 8]⟩ (Layout.meshBlock [2, 2] ![[], [1]] c) v : (⟨2, ![1024, 4]⟩ : Shape).Idx → α) (ix2 k j)
      = v (ix2 k ⟨c.val % 2 * 4 + j.val, by omega⟩) := by
  refine congrArg v (funext fun b => Fin.ext ?_)
  match b with
  | ⟨0, _⟩ => exact (congrArg (fun n => n * 1024 + k.val) (meshLin_none c)).trans (zero_block 1024 k.val)
  | ⟨1, _⟩ => exact congrArg (fun n => n * 4 + j.val) (meshLin_y c)

/-- of the first matrices, -/
theorem stack1_at {α : Type} (c : Dev nD) (v : (⟨3, ![8, 1024, 2048]⟩ : Shape).Idx → α) (e : Fin 4) (k : Fin 1024) (f : Fin 2048) :
    (Layout.blockN ⟨3, ![4, 1024, 2048]⟩ ⟨3, ![8, 1024, 2048]⟩ (Layout.meshBlock [2, 2] ![[1], [], []] c) v : (⟨3, ![4, 1024, 2048]⟩ : Shape).Idx → α) (ix3 e k f)
      = v (ix3 ⟨c.val % 2 * 4 + e.val, by omega⟩ k f) := by
  refine congrArg v (funext fun b => Fin.ext ?_)
  match b with
  | ⟨0, _⟩ => exact congrArg (fun n => n * 4 + e.val) (meshLin_y c)
  | ⟨1, _⟩ => exact (congrArg (fun n => n * 1024 + k.val) (meshLin_none c)).trans (zero_block 1024 k.val)
  | ⟨2, _⟩ => exact (congrArg (fun n => n * 2048 + f.val) (meshLin_none c)).trans (zero_block 2048 f.val)

/-- and of the second. -/
theorem stack2_at {α : Type} (c : Dev nD) (v : (⟨3, ![8, 2048, 1024]⟩ : Shape).Idx → α) (e : Fin 4) (f : Fin 2048) (d : Fin 1024) :
    (Layout.blockN ⟨3, ![4, 2048, 1024]⟩ ⟨3, ![8, 2048, 1024]⟩ (Layout.meshBlock [2, 2] ![[1], [], []] c) v : (⟨3, ![4, 2048, 1024]⟩ : Shape).Idx → α) (ix3 e f d)
      = v (ix3 ⟨c.val % 2 * 4 + e.val, by omega⟩ f d) := by
  refine congrArg v (funext fun b => Fin.ext ?_)
  match b with
  | ⟨0, _⟩ => exact congrArg (fun n => n * 4 + e.val) (meshLin_y c)
  | ⟨1, _⟩ => exact (congrArg (fun n => n * 2048 + f.val) (meshLin_none c)).trans (zero_block 2048 f.val)
  | ⟨2, _⟩ => exact (congrArg (fun n => n * 1024 + d.val) (meshLin_none c)).trans (zero_block 1024 d.val)

/-- The expert that device `c` holds or hears of as its `e`-th: its own four first, then its neighbour's. -/
def label (c : Dev nD) : Equiv.Perm (Fin 8) := Equiv.addRight ⟨c.val % 2 * 4, by omega⟩

/-- The label as a number: -/
theorem label_val (c : Dev nD) (e : Fin 8) : (label c e).val = (e.val + c.val % 2 * 4) % 8 := rfl
/-- of a device's own experts, -/
theorem label_own (c : Dev nD) (e : Fin 8) (h : e.val < 4) : (⟨c.val % 2 * 4 + e.val, by omega⟩ : Fin 8) = label c e :=
  Fin.ext (by rw [label_val]; show c.val % 2 * 4 + e.val = _; omega)
/-- (the y neighbour has the other place along y, -/
theorem ynb_mod (c : Dev nD) : (ynb c).val % 2 = 1 - c.val % 2 := by revert c; decide
/-- the x neighbour the same) -/
theorem xnb_mod (c : Dev nD) : (xnb c).val % 2 = c.val % 2 := by revert c; decide
/-- and of its neighbour's. -/
theorem label_other (c : Dev nD) (e : Fin 8) (h : ¬ e.val < 4) : (⟨(ynb c).val % 2 * 4 + (e.val - 4), by omega⟩ : Fin 8) = label c e :=
  Fin.ext (by rw [label_val]; show (ynb c).val % 2 * 4 + (e.val - 4) = _; rw [ynb_mod]; omega)
/-- The x neighbour labels the experts alike. -/
theorem label_xnb (c : Dev nD) : label (xnb c) = label c := by unfold label; simp only [xnb_mod]

section
variable (m : (ℓ : Loc nD τ sig) → Buf (Elt Ideal) ℓ)
  (x : FVec Ideal ⟨2, ![1024, 1024]⟩ .f32) (r : FVec Ideal ⟨2, ![1024, 8]⟩ .f32)
  (w1 : FVec Ideal ⟨3, ![8, 1024, 2048]⟩ .f32) (w2 : FVec Ideal ⟨3, ![8, 2048, 1024]⟩ .f32)

/-- The devices hold the blocks of the four arrays. -/
def Holds : Prop := ∀ c : Dev nD,
  m ((c.tc : Thread nD τ).loc main_arg0) = Layout.blockN ⟨2, ![512, 1024]⟩ ⟨2, ![1024, 1024]⟩ (Layout.meshBlock [2, 2] ![[1], []] c) x
  ∧ m ((c.tc : Thread nD τ).loc main_arg1) = Layout.blockN ⟨2, ![1024, 4]⟩ ⟨2, ![1024, 8]⟩ (Layout.meshBlock [2, 2] ![[], [1]] c) r
  ∧ m ((c.tc : Thread nD τ).loc main_arg2) = Layout.blockN ⟨3, ![4, 1024, 2048]⟩ ⟨3, ![8, 1024, 2048]⟩ (Layout.meshBlock [2, 2] ![[1], [], []] c) w1
  ∧ m ((c.tc : Thread nD τ).loc main_arg3) = Layout.blockN ⟨3, ![4, 2048, 1024]⟩ ⟨3, ![8, 2048, 1024]⟩ (Layout.meshBlock [2, 2] ![[1], [], []] c) w2

variable {m x r w1 w2} (H : Holds m x r w1 w2) (c : Dev nD)
include H

/-- What the devices hold, in terms of the whole arrays: the tokens, -/
theorem lx_at (t : Fin 512) (k : Fin 1024) : lx m c t k = x (ix2 ⟨c.val % 2 * 512 + t.val, by omega⟩ k) := by
  unfold lx; rw [xstg_whole, (H c).1]; exact rows_at c x t k
/-- a device's router columns, -/
theorem rstg_at (k : Fin 1024) (j : Fin 4) : rstg m c (ix2 k j) = r (ix2 k ⟨c.val % 2 * 4 + j.val, by omega⟩) := by
  rw [rstg_whole, (H c).2.1]; exact cols_at c r k j
/-- its first matrices, -/
theorem w1V_at (e : Fin 4) (k : Fin 1024) (f : Fin 2048) : w1V m c (ix3 e k f) = w1 (ix3 ⟨c.val % 2 * 4 + e.val, by omega⟩ k f) := by
  unfold w1V; rw [(H c).2.2.1]; exact stack1_at c w1 e k f
/-- its second; -/
theorem w2V_at (e : Fin 4) (f : Fin 2048) (d : Fin 1024) : w2V m c (ix3 e f d) = w2 (ix3 ⟨c.val % 2 * 4 + e.val, by omega⟩ f d) := by
  unfold w2V; rw [(H c).2.2.2]; exact stack2_at c w2 e f d

/-- the router column of the `e`-th expert in the device's order, -/
theorem lr_at (e : Fin 8) (k : Fin 1024) : lr m c e k = r (ix2 k (label c e)) := by
  unfold lr col
  split
  · next h => rw [rstg_at H]; exact congrArg (fun e => r (ix2 k e)) (label_own c e h)
  · next h => rw [rstg_at H]; exact congrArg (fun e => r (ix2 k e)) (label_other c e h)
/-- its first matrix -/
theorem lw1_at (e : Fin 8) (k : Fin 1024) (f : Fin 2048) : lw1 m c e k f = w1 (ix3 (label c e) k f) := by
  unfold lw1
  split
  · next h => rw [w1V_at H]; exact congrArg (fun e => w1 (ix3 e k f)) (label_own c e h)
  · next h => rw [w1V_at H]; exact congrArg (fun e => w1 (ix3 e k f)) (label_other c e h)
/-- and its second. -/
theorem lw2_at (e : Fin 8) (f : Fin 2048) (d : Fin 1024) : lw2 m c e f d = w2 (ix3 (label c e) f d) := by
  unfold lw2
  split
  · next h => rw [w2V_at H]; exact congrArg (fun e => w2 (ix3 e f d)) (label_own c e h)
  · next h => rw [w2V_at H]; exact congrArg (fun e => w2 (ix3 e f d)) (label_other c e h)

/-- One expert's part is that of the expert in the layer's sum. -/
theorem part_at (t : Fin 512) (d : Fin 1024) (e : Fin 8) :
    part m c t d e = ffn (fun k => x (ix2 ⟨c.val % 2 * 512 + t.val, by omega⟩ k)) (fun k f => w1 (ix3 (label c e) k f)) (fun f => w2 (ix3 (label c e) f d))
      * weight (gates x r ⟨c.val % 2 * 512 + t.val, by omega⟩) (label c e) := by
  have hg : lgates m c t = gates x r ⟨c.val % 2 * 512 + t.val, by omega⟩ ∘ label c := by
    funext e
    rw [Function.comp_apply]; unfold lgates gates
    rw [show lx m c t = _ from funext (lx_at H c t), show lr m c e = _ from funext (lr_at H c e)]
  unfold part
  rw [hg, weight_comp, show lx m c t = _ from funext (lx_at H c t), show lw1 m c e = _ from funext fun k => funext (lw1_at H c e k),
    show (fun f => lw2 m c e f d) = _ from funext fun f => lw2_at H c e f d]

/-- The kernel's result on a device, where the token and the router are finite, is the layer's. -/
theorem OUT_layer (t : Fin 512) (d : Fin 1024) (hx : ∀ k, ∃ a : ℝ, x (ix2 ⟨c.val % 2 * 512 + t.val, by omega⟩ k) = (a : EReal))
    (hr : ∀ k e, ∃ a : ℝ, r (ix2 k e) = (a : EReal)) :
    OUT m c (ix2 t d) = layer x r w1 w2 ⟨c.val % 2 * 512 + t.val, by omega⟩ d := by
  have hf : Finite m c t := ⟨fun k => by rw [lx_at H]; exact hx k, fun e k => by rw [lr_at H]; exact hr k _⟩
  have hX : ∀ c t k, lx m (xnb c) t k = lx m c t k := fun c t k => by rw [lx_at H, lx_at H]; simp only [xnb_mod]
  have hf' : Finite m (xnb c) t := ⟨fun k => by rw [hX]; exact hf.1 k, fun e k => by rw [lr_at H]; exact hr k _⟩
  have hP : ∀ t d e, part m (xnb c) t d e = part m c t d e := fun t d e => by rw [part_at H, part_at H, label_xnb]; simp only [xnb_mod]
  rw [OUT_at m c hX hP t d hf hf', Finset.sum_congr rfl fun e _ => part_at H c t d e]
  exact Equiv.sum_comp (label c) fun e => ffn (fun k => x (ix2 ⟨c.val % 2 * 512 + t.val, by omega⟩ k)) (fun k f => w1 (ix3 e k f)) (fun f => w2 (ix3 e f d))
      * weight (gates x r ⟨c.val % 2 * 512 + t.val, by omega⟩) e
end

end Cert.Moe

end
-- ==== Proof.Algebraic.lean ====
/-
The algebraic claim: wherever the mask is set the kernel over the extended reals and the reference leave the same value, the
layer's.
-/
module

public import proofs.«01_k».proof.Defs
public import proofs.«01_k».proof.Proof.Blocks
public import proofs.«01_k».proof.Proof.Mask
public import proofs.«01_k».proof.Proof.Gen.On_separated
public import proofs.«01_k».proof.Proof.Gen.ReferenceIdeal.Run

@[expose] public section

noncomputable section

namespace Cert.Moe

open Idealize.ShloMosaic Cert.MoeKernelIdeal

/-- Where the mask is set, what the kernel leaves on a device is the block of what the reference leaves. -/
theorem out_eq_ref (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c' : Dev Cert.ReferenceIdeal.nD)
    (x : FVec Ideal ⟨2, ![1024, 1024]⟩ .f32) (r : FVec Ideal ⟨2, ![1024, 8]⟩ .f32)
    (w1 : FVec Ideal ⟨3, ![8, 1024, 2048]⟩ .f32) (w2 : FVec Ideal ⟨3, ![8, 2048, 1024]⟩ .f32)
    (H : Holds m x r w1 w2)
    (hx : m' (c'.tc.loc Cert.ReferenceIdeal.main_arg0) = x) (hr : m' (c'.tc.loc Cert.ReferenceIdeal.main_arg1) = r)
    (hw1 : m' (c'.tc.loc Cert.ReferenceIdeal.main_arg2) = w1) (hw2 : m' (c'.tc.loc Cert.ReferenceIdeal.main_arg3) = w2)
    (c : Dev Cert.KernelIdeal.nD) (t : Fin 512) (d : Fin 1024)
    (hm : Cert.On_separated.fn (F := Ideal) x r w1 w2 (ix2 (⟨c.val % 2 * 512 + t.val, by omega⟩ : Fin 1024) d) = 1#1) :
    OUT m c (ix2 t d) = (Cert.ReferenceIdeal.Value.res_out0 m' c' : FVec Ideal ⟨2, ![1024, 1024]⟩ .f32) (ix2 (⟨c.val % 2 * 512 + t.val, by omega⟩ : Fin 1024) d) := by
  obtain ⟨hT, hfx, hfr⟩ := mask_parts x r w1 w2 _ d hm
  rw [OUT_layer H c t d hfx hfr]
  exact (ref_value m' c' x r w1 w2 hx hr hw1 hw2 _ d hT (gate_coe hfx fun k => hfr k _)).symm

/-- The algebraic claim: at every element where the mask is set, the kernel over the extended reals leaves on each device the block of
the value that the reference leaves; both keep their arguments. -/
theorem algebraic : Cert.algebraic_KernelIdeal_ReferenceIdeal_on_separated := by
  intro m g m' g' _ hb
  refine ⟨Cert.ReferenceIdeal.Value.res_out0 m' 0, ?_, ?_⟩
  · refine (θ_run Cert.KernelIdeal.defs _ _).mono (fun s h c => ⟨fun i hi => ?_, ?_⟩) (run_main (F := Ideal) m g)
    · have h2 : s.2.mem (c.tc.loc Cert.KernelIdeal.main_v1) = OUT m c := ((h.1 c).1 (2 : Fin 3)).trans (finalA_2 m c)
      rw [h2]
      obtain ⟨t, d, rfl⟩ : ∃ (t : Fin 512) (d : Fin 1024), i = ix2 t d := ⟨i 0, i 1, by funext b; match b with | ⟨0, _⟩ => rfl | ⟨1, _⟩ => rfl⟩
      rw [rows_at] at hi ⊢
      exact out_eq_ref m m' 0 _ _ _ _ hb rfl rfl rfl rfl c t d hi
    · exact ⟨((h.1 c).1 (0 : Fin 3)).trans (finalA_0 m c), ((h.1 c).1 (1 : Fin 3)).trans (finalA_1 m c), (h.1 c).2.1, (h.1 c).2.2⟩
  · exact (θ_run Cert.ReferenceIdeal.defs _ _).mono (fun s h => ⟨fun i _ => congrFun (h 0).1 i, (h 0).2⟩) (Cert.ReferenceIdeal.Value.run (F := Ideal) m' g')

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.On_separated
public import proofs.«01_k».proof.Proof.Gen.ReferenceIdeal.Run
public import proofs.«01_k».proof.Proof.RefRun
public import proofs.«01_k».proof.Proof.KLaunch
public import proofs.«01_k».proof.Proof.ILaunch
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.On_separated.Gen.facts,
    fun m g _ => Cert.MoeKernel.frame_main (F := Bits) m g,
    fun m g _ => Cert.MoeKernelIdeal.frame_main (F := Ideal) m g,
    fun m g _ => Cert.MoeReference.frame_main m g, trivial, Cert.Moe.algebraic⟩

end Cert.Proof

end
